-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v43)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v43) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)) →
    ∃ (v0 : (c : Dev Cert.MixIdeal.nD) → Buf (Elt Ideal) ((c.tc : Thread Cert.MixIdeal.nD Cert.MixIdeal.τ).loc Cert.MixIdeal.main_v22)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v114) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v12_0)) (v1 : (c : Dev Cert.InprojIdeal.nD) → Buf (Elt Ideal) ((c.tc : Thread Cert.InprojIdeal.nD Cert.InprojIdeal.τ).loc Cert.InprojIdeal.main_v12_1)) (v2 : (c : Dev Cert.InprojIdeal.nD) → Buf (Elt Ideal) ((c.tc : Thread Cert.InprojIdeal.nD Cert.InprojIdeal.τ).loc Cert.InprojIdeal.main_v12_2)) (v3 : (c : Dev Cert.InprojIdeal.nD) → Buf (Elt Ideal) ((c.tc : Thread Cert.InprojIdeal.nD Cert.InprojIdeal.τ).loc Cert.InprojIdeal.main_v12_3)) (v4 : (c : Dev Cert.InprojIdeal.nD) → Buf (Elt Ideal) ((c.tc : Thread Cert.InprojIdeal.nD Cert.InprojIdeal.τ).loc Cert.InprojIdeal.main_v12_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12_0) = v0 c
          ∧ r.2.mem ((c.tc : Thread Cert.InprojIdeal.nD Cert.InprojIdeal.τ).loc Cert.InprojIdeal.main_v12_1) = v1 c
          ∧ r.2.mem ((c.tc : Thread Cert.InprojIdeal.nD Cert.InprojIdeal.τ).loc Cert.InprojIdeal.main_v12_2) = v2 c
          ∧ r.2.mem ((c.tc : Thread Cert.InprojIdeal.nD Cert.InprojIdeal.τ).loc Cert.InprojIdeal.main_v12_3) = v3 c
          ∧ r.2.mem ((c.tc : Thread Cert.InprojIdeal.nD Cert.InprojIdeal.τ).loc Cert.InprojIdeal.main_v12_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v54) = v0 c
          ∧ r.2.mem ((c.tc : Thread Cert.InprojRefIdeal.nD Cert.InprojRefIdeal.τ).loc Cert.InprojRefIdeal.main_v55) = v1 c
          ∧ r.2.mem ((c.tc : Thread Cert.InprojRefIdeal.nD Cert.InprojRefIdeal.τ).loc Cert.InprojRefIdeal.main_v59) = v2 c
          ∧ r.2.mem ((c.tc : Thread Cert.InprojRefIdeal.nD Cert.InprojRefIdeal.τ).loc Cert.InprojRefIdeal.main_v61) = v3 c
          ∧ r.2.mem ((c.tc : Thread Cert.InprojRefIdeal.nD Cert.InprojRefIdeal.τ).loc Cert.InprojRefIdeal.main_v63) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hInproj : Cert.Inproj.Facts) (hInprojIdeal : Cert.InprojIdeal.Facts) (hInprojRefIdeal : Cert.InprojRefIdeal.Facts) (hPre_finite : Cert.Pre_finite.Facts) (hPre_finite_mix : Cert.Pre_finite_mix.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Inproj (hInproj := hInproj)
    ∧ quiescent_InprojIdeal (hInprojIdeal := hInprojIdeal)
    ∧ quiescent_InprojRefIdeal (hInprojRefIdeal := hInprojRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Inproj_InprojIdeal
    ∧ algebraic_InprojIdeal_InprojRefIdeal (hInprojIdeal := hInprojIdeal) (hInprojRefIdeal := hInprojRefIdeal)
-- ==== Pre_finite.lean ====
abbrev S2x16384x512 : Shape := ⟨3, ![2, 16384, 512]⟩
abbrev S4x64 : Shape := ⟨2, ![4, 64]⟩
abbrev S128 : Shape := ⟨1, ![128]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S2x16384x512 .f32) (main_arg1 : FVec F S2x16384x512 .f32) (main_arg2 : FVec F S2x16384x512 .f32) (main_arg3 : FVec F S4x64 .f32) (main_arg4 : FVec F S128 .f32) : IVec S_ 1 :=
  let main_v0 : FVec F S2x16384x512 .f32 := Host.absf main_arg2
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_finite_mix.lean ====
abbrev S2x16384x1024 : Shape := ⟨3, ![2, 16384, 1024]⟩
abbrev S2x16384x256 : Shape := ⟨3, ![2, 16384, 256]⟩
abbrev S2x16384x1280 : Shape := ⟨3, ![2, 16384, 1280]⟩
abbrev S256 : Shape := ⟨1, ![256]⟩
abbrev S2x16384x512 : Shape := ⟨3, ![2, 16384, 512]⟩
abbrev S1024x1024 : Shape := ⟨2, ![1024, 1024]⟩
abbrev S1024 : Shape := ⟨1, ![1024]⟩
abbrev S2x256x1024 : Shape := ⟨3, ![2, 256, 1024]⟩
abbrev S_ : Shape := ⟨0, ![]⟩

class Facts : Prop where
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn_part1 {F : FTy → Type} [FloatOps F] (main_arg12 : FVec F S1024x1024 .f32) (main_arg13 : FVec F S2x256x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg12
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S2x256x1024 .f32 := Host.absf main_arg13
  let main_cst_8 : FVec F S_ .f32 := constant S_ .f32 0x7F800000#32
  let main_v25 : FVec F S2x256x1024 .f32 := broadcastInDim S2x256x1024 ![] bcast_S_S2x256x1024 main_cst_8
  let main_v26 : IVec S2x256x1024 1 := cmpf .olt main_v24 main_v25
  let main_c_9 : IVec S_ 1 := constantI S_ 1 1#1
  let main_v27 : IVec S_ 1 := (fun x v => Host.reduce IntOp.andi x v reducesTo_S2x256x1024_S_d0_1_2 h_S_) main_v26 main_c_9
  let main_v28 : IVec S_ 1 := andi main_v23 main_v27
  main_v28

def fn {F : FTy → Type} [FloatOps F] (main_arg0 : FVec F S2x16384x1024 .f32) (main_arg1 : FVec F S2x16384x256 .f32) (main_arg2 : FVec F S2x16384x256 .f32) (main_arg3 : FVec F S2x16384x1280 .f32) (main_arg4 : FVec F S256 .f32) (main_arg5 : FVec F S2x16384x256 .f32) (main_arg6 : FVec F S2x16384x256 .f32) (main_arg7 : FVec F S2x16384x512 .f32) (main_arg8 : FVec F S2x16384x512 .f32) (main_arg9 : FVec F S1024x1024 .f32) (main_arg10 : FVec F S1024 .f32) (main_arg11 : FVec F S1024 .f32) (main_arg12 : FVec F S1024x1024 .f32) (main_arg13 : FVec F S2x256x1024 .f32) (main_arg14 : FVec F S2x256x1024 .f32) (main_arg15 : FVec F S1024x1024 .f32) (main_arg16 : FVec F S1024 .f32) (main_arg17 : FVec F S1024 .f32) : IVec S_ 1 :=
  let main_v0 : FVec F S2x16384x256 .f32 := Host.absf main_arg1
  let main_cst : FVec F S_ .f32 := constant S_ .f32 0x7F800000#32
  let main_v1 : FVec F S2x16384x256 .f32 := broadcastInDim S2x16384x256 ![] bcast_S_S2x16384x256 main_cst
  let main_v2 : IVec S2x16384x256 1 := cmpf .olt main_v0 main_v1
  let main_c : IVec S_ 1 := constantI S_ 1 1#1
  let main_v3 : IVec S_ 1 := (fun x v => Host.reduce IntOp.andi x v reducesTo_S2x16384x256_S_d0_1_2 h_S_) main_v2 main_c
  let main_v4 : FVec F S2x16384x256 .f32 := Host.absf main_arg2
  let main_cst_0 : FVec F S_ .f32 := constant S_ .f32 0x7F800000#32
  let main_v5 : FVec F S2x16384x256 .f32 := broadcastInDim S2x16384x256 ![] bcast_S_S2x16384x256 main_cst_0
  let main_v6 : IVec S2x16384x256 1 := cmpf .olt main_v4 main_v5
  let main_c_1 : IVec S_ 1 := constantI S_ 1 1#1
  let main_v7 : IVec S_ 1 := (fun x v => Host.reduce IntOp.andi x v reducesTo_S2x16384x256_S_d0_1_2 h_S_) main_v6 main_c_1
  let main_v8 : IVec S_ 1 := andi main_v3 main_v7
  let main_v9 : FVec F S1024 .f32 := Host.absf main_arg10
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg11
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg12 main_arg13 main_v13 main_v16
-- ==== Attn.lean ====
abbrev S2x16384x512 : Shape := ⟨3, ![2, 16384, 512]⟩
abbrev S4x64 : Shape := ⟨2, ![4, 64]⟩
abbrev S128 : Shape := ⟨1, ![128]⟩
abbrev S_ : Shape := ⟨0, ![]⟩
abbrev S32768x512 : Shape := ⟨2, ![32768, 512]⟩
abbrev S512x32768 : Shape := ⟨2, ![512, 32768]⟩
abbrev S1x512x32768 : Shape := ⟨3, ![1, 512, 32768]⟩
abbrev S2x512x32768 : Shape := ⟨3, ![2, 512, 32768]⟩
abbrev S64x512x4x128 : Shape := ⟨4, ![64, 512, 4, 128]⟩
abbrev S64x4x128x512 : Shape := ⟨4, ![64, 4, 128, 512]⟩
abbrev S64x4x16x512 : Shape := ⟨4, ![64, 4, 16, 512]⟩
abbrev S64x4x144x512 : Shape := ⟨4, ![64, 4, 144, 512]⟩
abbrev S64x576x512 : Shape := ⟨3, ![64, 576, 512]⟩
abbrev S1x64 : Shape := ⟨2, ![1, 64]⟩
abbrev S64 : Shape := ⟨1, ![64]⟩
abbrev S128x1 : Shape := ⟨2, ![128, 1]⟩
abbrev S128x128 : Shape := ⟨2, ![128, 128]⟩
abbrev S1x128 : Shape := ⟨2, ![1, 128]⟩
abbrev S2x128x256 : Shape := ⟨3, ![2, 128, 256]⟩
abbrev S16384x128 : Shape := ⟨2, ![16384, 128]⟩
abbrev S32x144x512 : Shape := ⟨3, ![32, 144, 512]⟩
abbrev S128x256 : Shape := ⟨2, ![128, 256]⟩
abbrev S2x128x512 : Shape := ⟨3, ![2, 128, 512]⟩
abbrev S2x512x512 : Shape := ⟨3, ![2, 512, 512]⟩
abbrev S144x512 : Shape := ⟨2, ![144, 512]⟩
abbrev S1x128x256 : Shape := ⟨3, ![1, 128, 256]⟩
abbrev S128x512 : Shape := ⟨2, ![128, 512]⟩
abbrev S1x128x512 : Shape := ⟨3, ![1, 128, 512]⟩
abbrev S512x128 : Shape := ⟨2, ![512, 128]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S1x144x512 : Shape := ⟨3, ![1, 144, 512]⟩
abbrev S1x1 : Shape := ⟨2, ![1, 1]⟩
abbrev S256 : Shape := ⟨1, ![256]⟩
abbrev S1x256 : Shape := ⟨2, ![1, 256]⟩

abbrev nBuf : Space → Nat
  | .hbm => 83
  | .vmem => 15
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S512x32768, .f32⟩
  | .hbm, ⟨13, _⟩ => ⟨S512x32768, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S512x32768, .i32⟩
  | .hbm, ⟨21, _⟩ => ⟨S512x32768, .i32⟩
  | .hbm, ⟨22, _⟩ => ⟨S_, .i32⟩
  | .hbm, ⟨23, _⟩ => ⟨S512x32768, .i32⟩
  | .hbm, ⟨24, _⟩ => ⟨S512x32768, .i1⟩
  | .hbm, ⟨25, _⟩ => ⟨S_, .i32⟩
  | .hbm, ⟨26, _⟩ => ⟨S512x32768, .i32⟩
  | .hbm, ⟨27, _⟩ => ⟨S512x32768, .i1⟩
  | .hbm, ⟨28, _⟩ => ⟨S_, .i32⟩
  | .hbm, ⟨29, _⟩ => ⟨S_, .i1⟩
  | .hbm, ⟨30, _⟩ => ⟨S512x32768, .i1⟩
  | .hbm, ⟨31, _⟩ => ⟨S512x32768, .i1⟩
  | .hbm, ⟨32, _⟩ => ⟨S512x32768, .i1⟩
  | .hbm, ⟨33, _⟩ => ⟨S512x32768, .i32⟩
  | .hbm, ⟨34, _⟩ => ⟨S512x32768, .i32⟩
  | .hbm, ⟨35, _⟩ => ⟨S512x32768, .i32⟩
  | .hbm, ⟨36, _⟩ => ⟨S_, .i32⟩
  | .hbm, ⟨37, _⟩ => ⟨S512x32768, .i32⟩
  | .hbm, ⟨38, _⟩ => ⟨S512x32768, .i1⟩
  | .hbm, ⟨39, _⟩ => ⟨S_, .f32⟩
  | .hbm, ⟨40, _⟩ => ⟨S_, .f32⟩
  | .hbm, ⟨41, _⟩ => ⟨S512x32768, .f32⟩
  | .hbm, ⟨42, _⟩ => ⟨S512x32768, .f32⟩
  | .hbm, ⟨43, _⟩ => ⟨S_, .f32⟩
  | .hbm, ⟨44, _⟩ => ⟨S_, .f32⟩
  | .hbm, ⟨45, _⟩ => ⟨S512x32768, .f32⟩
  | .hbm, ⟨46, _⟩ => ⟨S512x32768, .f32⟩
  | .hbm, ⟨47, _⟩ => ⟨S1x512x32768, .f32⟩
  | .hbm, ⟨48, _⟩ => ⟨S1x512x32768, .f32⟩
  | .hbm, ⟨49, _⟩ => ⟨S2x512x32768, .f32⟩
  | .hbm, ⟨50, _⟩ => ⟨S2x512x32768, .bf16⟩
  | .hbm, ⟨51, _⟩ => ⟨S32768x512, .f32⟩
  | .hbm, ⟨52, _⟩ => ⟨S32768x512, .bf16⟩
  | .hbm, ⟨53, _⟩ => ⟨S64x512x4x128, .f32⟩
  | .hbm, ⟨54, _⟩ => ⟨S64x4x128x512, .f32⟩
  | .hbm, ⟨55, _⟩ => ⟨S_, .f32⟩
  | .hbm, ⟨56, _⟩ => ⟨S64x4x16x512, .f32⟩
  | .hbm, ⟨57, _⟩ => ⟨S64x4x144x512, .f32⟩
  | .hbm, ⟨58, _⟩ => ⟨S64x576x512, .f32⟩
  | .hbm, ⟨59, _⟩ => ⟨S64x576x512, .bf16⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S128x1, .f32⟩
  | .hbm, ⟨80, _⟩ => ⟨S128x128, .f32⟩
  | .hbm, ⟨81, _⟩ => ⟨S1x128, .f32⟩
  | .hbm, ⟨82, _⟩ => ⟨S512x32768, .bf16⟩
  | .local _ .vmem, ⟨0, _⟩ => ⟨S1x128, .f32⟩
  | .local _ .vmem, ⟨1, _⟩ => ⟨S2x128x256, .bf16⟩
  | .local _ .vmem, ⟨2, _⟩ => ⟨S2x128x256, .bf16⟩
  | .local _ .vmem, ⟨3, _⟩ => ⟨S2x128x256, .bf16⟩
  | .local _ .vmem, ⟨4, _⟩ => ⟨S2x128x256, .bf16⟩
  | .local _ .vmem, ⟨5, _⟩ => ⟨S16384x128, .bf16⟩
  | .local _ .vmem, ⟨6, _⟩ => ⟨S16384x128, .bf16⟩
  | .local _ .vmem, ⟨7, _⟩ => ⟨S32x144x512, .bf16⟩
  | .local _ .vmem, ⟨8, _⟩ => ⟨S32x144x512, .bf16⟩
  | .local _ .vmem, ⟨9, _⟩ => ⟨S128x128, .f32⟩
  | .local _ .vmem, ⟨10, _⟩ => ⟨S128x256, .bf16⟩
  | .local _ .vmem, ⟨11, _⟩ => ⟨S128x256, .bf16⟩
  | .local _ .vmem, ⟨12, _⟩ => ⟨S2x128x512, .bf16⟩
  | .local _ .vmem, ⟨13, _⟩ => ⟨S2x512x512, .f32⟩
  | .local _ .vmem, ⟨14, _⟩ => ⟨S144x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v7 : Ref sig .tc := ⟨.hbm, 35, rfl⟩
abbrev main_c_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v10 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 4, 64], ![false, false, false]⟩

def k0_cond1 (i : grid0.Coords) : BitVec 1 :=
  let arg2 : BitVec 32 := BitVec.ofNat 32 (i 2).val
  let c0_i32 : BitVec 32 := 0#32
  let v20 : BitVec 1 := Scalar.cmpi .eq arg2 c0_i32
  let v21 : BitVec 32 := Scalar.extui v20
  let c0_i32_18 : BitVec 32 := 0#32
  let v22 : BitVec 1 := Scalar.cmpi .ne v21 c0_i32_18
  v22

def k0_mult1 : BitVec 32 :=
  let c0_i32_35 : BitVec 32 := 0#32
  c0_i32_35
@[reducible] def k0_t1_loop : Scf.Loop 32 :=
  let c0_i32_20 : BitVec 32 := 0#32
  let c2_i32 : BitVec 32 := 2#32
  let v24 : BitVec 32 := Scalar.addi c0_i32_20 c2_i32
  let c1_i32 : BitVec 32 := 1#32
  ⟨c0_i32_20, v24, c1_i32⟩
def k0_mult2 (k0_t1 : Fin k0_t1_loop.trips) : BitVec 32 :=
  let c16_i32 : BitVec 32 := 16#32
  let c0_i32_20 : BitVec 32 := 0#32
  let c1_i32 : BitVec 32 := 1#32
  let arg13 : BitVec 32 := Scf.iv c0_i32_20 c1_i32 k0_t1
  let v56 : BitVec 32 := Scalar.muli c16_i32 arg13
  let c0_i32_35 : BitVec 32 := 0#32
  let v57 : BitVec 32 := Scalar.addi v56 c0_i32_35
  let c1_i32_37 : BitVec 32 := 1#32
  let v61 : BitVec 32 := Scalar.addi v57 c1_i32_37
  let c1_i32_38 : BitVec 32 := 1#32
  let c1_i32_36 : BitVec 32 := 1#32
  let v58 : BitVec 32 := Scalar.addi v57 c1_i32_36
  let c32_i32 : BitVec 32 := 32#32
  let v59 : BitVec 1 := Scalar.cmpi .eq v58 c32_i32
  let v60 : BitVec 32 := Scalar.extui v59
  let v62 : BitVec 32 := Scalar.subi c1_i32_38 v60
  let v63 : BitVec 32 := Scalar.muli v61 v62
  let c512_i32 : BitVec 32 := 512#32
  let v64 : BitVec 32 := Scalar.muli v63 c512_i32
  v64
def k0_off1 (k0_t1 : Fin k0_t1_loop.trips) (c0_i32_35 : BitVec 32) : Fin 2 → Nat :=
  let c16_i32 : BitVec 32 := 16#32
  let c0_i32_20 : BitVec 32 := 0#32
  let c1_i32 : BitVec 32 := 1#32
  let arg13 : BitVec 32 := Scf.iv c0_i32_20 c1_i32 k0_t1
  let v56 : BitVec 32 := Scalar.muli c16_i32 arg13
  let v57 : BitVec 32 := Scalar.addi v56 c0_i32_35
  let c1_i32_37 : BitVec 32 := 1#32
  let v61 : BitVec 32 := Scalar.addi v57 c1_i32_37
  let c1_i32_38 : BitVec 32 := 1#32
  let c1_i32_36 : BitVec 32 := 1#32
  let v58 : BitVec 32 := Scalar.addi v57 c1_i32_36
  let c32_i32 : BitVec 32 := 32#32
  let v59 : BitVec 1 := Scalar.cmpi .eq v58 c32_i32
  let v60 : BitVec 32 := Scalar.extui v59
  let v62 : BitVec 32 := Scalar.subi c1_i32_38 v60
  let v63 : BitVec 32 := Scalar.muli v61 v62
  let c512_i32 : BitVec 32 := 512#32
  let v64 : BitVec 32 := Scalar.muli v63 c512_i32
  let v65 : BitVec 32 := v64
  let v66 : Index := Scalar.indexCast v65
  let c0_39 : Index := 0#32
  ![v66.toNat, 0]
def k0_off2 (k0_t1 : Fin k0_t1_loop.trips) (c0_i32_35 : BitVec 32) : Fin 3 → Nat :=
  let c16_i32 : BitVec 32 := 16#32
  let c0_i32_20 : BitVec 32 := 0#32
  let c1_i32 : BitVec 32 := 1#32
  let arg13 : BitVec 32 := Scf.iv c0_i32_20 c1_i32 k0_t1
  let v56 : BitVec 32 := Scalar.muli c16_i32 arg13
  let v57 : BitVec 32 := Scalar.addi v56 c0_i32_35
  let c1_i32_36 : BitVec 32 := 1#32
  let v58 : BitVec 32 := Scalar.addi v57 c1_i32_36
  let c32_i32 : BitVec 32 := 32#32
  let v59 : BitVec 1 := Scalar.cmpi .eq v58 c32_i32
  let v60 : BitVec 32 := Scalar.extui v59
  let v69 : Index := Scalar.indexCast v60
  let c0_40 : Index := 0#32
  let c0_41 : Index := 0#32
  ![v69.toNat, 0, 0]
def k0_off3 (k0_t1 : Fin k0_t1_loop.trips) (c0_i32_35 : BitVec 32) : Fin 3 → Nat :=
  let c16_i32 : BitVec 32 := 16#32
  let c0_i32_20 : BitVec 32 := 0#32
  let c1_i32 : BitVec 32 := 1#32
  let arg13 : BitVec 32 := Scf.iv c0_i32_20 c1_i32 k0_t1
  let v56 : BitVec 32 := Scalar.muli c16_i32 arg13
  let v57 : BitVec 32 := Scalar.addi v56 c0_i32_35
  let v85 : Index := Scalar.indexCast v57
  let c0_50 : Index := 0#32
  let c0_51 : Index := 0#32
  ![v85.toNat, 0, 0]
def k0_mult3 (k0_t1 : Fin k0_t1_loop.trips) : BitVec 32 :=
  let c16_i32_57 : BitVec 32 := 16#32
  let c0_i32_20 : BitVec 32 := 0#32
  let c1_i32 : BitVec 32 := 1#32
  let arg13 : BitVec 32 := Scf.iv c0_i32_20 c1_i32 k0_t1
  let v98 : BitVec 32 := Scalar.muli c16_i32_57 arg13
  let c1_i32_58 : BitVec 32 := 1#32
  let v99 : BitVec 32 := Scalar.addi v98 c1_i32_58
  let c1_i32_61 : BitVec 32 := 1#32
  let v103 : BitVec 32 := Scalar.addi v99 c1_i32_61
  let c1_i32_62 : BitVec 32 := 1#32
  let c1_i32_59 : BitVec 32 := 1#32
  let v100 : BitVec 32 := Scalar.addi v99 c1_i32_59
  let c32_i32_60 : BitVec 32 := 32#32
  let v101 : BitVec 1 := Scalar.cmpi .eq v100 c32_i32_60
  let v102 : BitVec 32 := Scalar.extui v101
  let v104 : BitVec 32 := Scalar.subi c1_i32_62 v102
  let v105 : BitVec 32 := Scalar.muli v103 v104
  let c512_i32_63 : BitVec 32 := 512#32
  let v106 : BitVec 32 := Scalar.muli v105 c512_i32_63
  v106
def k0_mult4 (k0_t1 : Fin k0_t1_loop.trips) : BitVec 32 :=
  let c16_i32_82 : BitVec 32 := 16#32
  let c0_i32_20 : BitVec 32 := 0#32
  let c1_i32 : BitVec 32 := 1#32
  let arg13 : BitVec 32 := Scf.iv c0_i32_20 c1_i32 k0_t1
  let v140 : BitVec 32 := Scalar.muli c16_i32_82 arg13
  let c2_i32_83 : BitVec 32 := 2#32
  let v141 : BitVec 32 := Scalar.addi v140 c2_i32_83
  let c1_i32_86 : BitVec 32 := 1#32
  let v145 : BitVec 32 := Scalar.addi v141 c1_i32_86
  let c1_i32_87 : BitVec 32 := 1#32
  let c1_i32_84 : BitVec 32 := 1#32
  let v142 : BitVec 32 := Scalar.addi v141 c1_i32_84
  let c32_i32_85 : BitVec 32 := 32#32
  let v143 : BitVec 1 := Scalar.cmpi .eq v142 c32_i32_85
  let v144 : BitVec 32 := Scalar.extui v143
  let v146 : BitVec 32 := Scalar.subi c1_i32_87 v144
  let v147 : BitVec 32 := Scalar.muli v145 v146
  let c512_i32_88 : BitVec 32 := 512#32
  let v148 : BitVec 32 := Scalar.muli v147 c512_i32_88
  v148
def k0_mult5 (k0_t1 : Fin k0_t1_loop.trips) : BitVec 32 :=
  let c16_i32_107 : BitVec 32 := 16#32
  let c0_i32_20 : BitVec 32 := 0#32
  let c1_i32 : BitVec 32 := 1#32
  let arg13 : BitVec 32 := Scf.iv c0_i32_20 c1_i32 k0_t1
  let v182 : BitVec 32 := Scalar.muli c16_i32_107 arg13
  let c3_i32 : BitVec 32 := 3#32
  let v183 : BitVec 32 := Scalar.addi v182 c3_i32
  let c1_i32_110 : BitVec 32 := 1#32
  let v187 : BitVec 32 := Scalar.addi v183 c1_i32_110
  let c1_i32_111 : BitVec 32 := 1#32
  let c1_i32_108 : BitVec 32 := 1#32
  let v184 : BitVec 32 := Scalar.addi v183 c1_i32_108
  let c32_i32_109 : BitVec 32 := 32#32
  let v185 : BitVec 1 := Scalar.cmpi .eq v184 c32_i32_109
  let v186 : BitVec 32 := Scalar.extui v185
  let v188 : BitVec 32 := Scalar.subi c1_i32_111 v186
  let v189 : BitVec 32 := Scalar.muli v187 v188
  let c512_i32_112 : BitVec 32 := 512#32
  let v190 : BitVec 32 := Scalar.muli v189 c512_i32_112
  v190
def k0_mult6 (k0_t1 : Fin k0_t1_loop.trips) : BitVec 32 :=
  let c16_i32_131 : BitVec 32 := 16#32
  let c0_i32_20 : BitVec 32 := 0#32
  let c1_i32 : BitVec 32 := 1#32
  let arg13 : BitVec 32 := Scf.iv c0_i32_20 c1_i32 k0_t1
  let v224 : BitVec 32 := Scalar.muli c16_i32_131 arg13
  let c4_i32 : BitVec 32 := 4#32
  let v225 : BitVec 32 := Scalar.addi v224 c4_i32
  let c1_i32_134 : BitVec 32 := 1#32
  let v229 : BitVec 32 := Scalar.addi v225 c1_i32_134
  let c1_i32_135 : BitVec 32 := 1#32
  let c1_i32_132 : BitVec 32 := 1#32
  let v226 : BitVec 32 := Scalar.addi v225 c1_i32_132
  let c32_i32_133 : BitVec 32 := 32#32
  let v227 : BitVec 1 := Scalar.cmpi .eq v226 c32_i32_133
  let v228 : BitVec 32 := Scalar.extui v227
  let v230 : BitVec 32 := Scalar.subi c1_i32_135 v228
  let v231 : BitVec 32 := Scalar.muli v229 v230
  let c512_i32_136 : BitVec 32 := 512#32
  let v232 : BitVec 32 := Scalar.muli v231 c512_i32_136
  v232
def k0_mult7 (k0_t1 : Fin k0_t1_loop.trips) : BitVec 32 :=
  let c16_i32_155 : BitVec 32 := 16#32
  let c0_i32_20 : BitVec 32 := 0#32
  let c1_i32 : BitVec 32 := 1#32
  let arg13 : BitVec 32 := Scf.iv c0_i32_20 c1_i32 k0_t1
  let v266 : BitVec 32 := Scalar.muli c16_i32_155 arg13
  let c5_i32 : BitVec 32 := 5#32
  let v267 : BitVec 32 := Scalar.addi v266 c5_i32
  let c1_i32_158 : BitVec 32 := 1#32
  let v271 : BitVec 32 := Scalar.addi v267 c1_i32_158
  let c1_i32_159 : BitVec 32 := 1#32
  let c1_i32_156 : BitVec 32 := 1#32
  let v268 : BitVec 32 := Scalar.addi v267 c1_i32_156
  let c32_i32_157 : BitVec 32 := 32#32
  let v269 : BitVec 1 := Scalar.cmpi .eq v268 c32_i32_157
  let v270 : BitVec 32 := Scalar.extui v269
  let v272 : BitVec 32 := Scalar.subi c1_i32_159 v270
  let v273 : BitVec 32 := Scalar.muli v271 v272
  let c512_i32_160 : BitVec 32 := 512#32
  let v274 : BitVec 32 := Scalar.muli v273 c512_i32_160
  v274
def k0_mult8 (k0_t1 : Fin k0_t1_loop.trips) : BitVec 32 :=
  let c16_i32_179 : BitVec 32 := 16#32
  let c0_i32_20 : BitVec 32 := 0#32
  let c1_i32 : BitVec 32 := 1#32
  let arg13 : BitVec 32 := Scf.iv c0_i32_20 c1_i32 k0_t1
  let v308 : BitVec 32 := Scalar.muli c16_i32_179 arg13
  let c6_i32 : BitVec 32 := 6#32
  let v309 : BitVec 32 := Scalar.addi v308 c6_i32
  let c1_i32_182 : BitVec 32 := 1#32
  let v313 : BitVec 32 := Scalar.addi v309 c1_i32_182
  let c1_i32_183 : BitVec 32 := 1#32
  let c1_i32_180 : BitVec 32 := 1#32
  let v310 : BitVec 32 := Scalar.addi v309 c1_i32_180
  let c32_i32_181 : BitVec 32 := 32#32
  let v311 : BitVec 1 := Scalar.cmpi .eq v310 c32_i32_181
  let v312 : BitVec 32 := Scalar.extui v311
  let v314 : BitVec 32 := Scalar.subi c1_i32_183 v312
  let v315 : BitVec 32 := Scalar.muli v313 v314
  let c512_i32_184 : BitVec 32 := 512#32
  let v316 : BitVec 32 := Scalar.muli v315 c512_i32_184
  v316
def k0_mult9 (k0_t1 : Fin k0_t1_loop.trips) : BitVec 32 :=
  let c16_i32_203 : BitVec 32 := 16#32
  let c0_i32_20 : BitVec 32 := 0#32
  let c1_i32 : BitVec 32 := 1#32
  let arg13 : BitVec 32 := Scf.iv c0_i32_20 c1_i32 k0_t1
  let v350 : BitVec 32 := Scalar.muli c16_i32_203 arg13
  let c7_i32 : BitVec 32 := 7#32
  let v351 : BitVec 32 := Scalar.addi v350 c7_i32
  let c1_i32_206 : BitVec 32 := 1#32
  let v355 : BitVec 32 := Scalar.addi v351 c1_i32_206
  let c1_i32_207 : BitVec 32 := 1#32
  let c1_i32_204 : BitVec 32 := 1#32
  let v352 : BitVec 32 := Scalar.addi v351 c1_i32_204
  let c32_i32_205 : BitVec 32 := 32#32
  let v353 : BitVec 1 := Scalar.cmpi .eq v352 c32_i32_205
  let v354 : BitVec 32 := Scalar.extui v353
  let v356 : BitVec 32 := Scalar.subi c1_i32_207 v354
  let v357 : BitVec 32 := Scalar.muli v355 v356
  let c512_i32_208 : BitVec 32 := 512#32
  let v358 : BitVec 32 := Scalar.muli v357 c512_i32_208
  v358
def k0_mult10 (k0_t1 : Fin k0_t1_loop.trips) : BitVec 32 :=
  let c16_i32_227 : BitVec 32 := 16#32
  let c0_i32_20 : BitVec 32 := 0#32
  let c1_i32 : BitVec 32 := 1#32
  let arg13 : BitVec 32 := Scf.iv c0_i32_20 c1_i32 k0_t1
  let v392 : BitVec 32 := Scalar.muli c16_i32_227 arg13
  let c8_i32 : BitVec 32 := 8#32
  let v393 : BitVec 32 := Scalar.addi v392 c8_i32
  let c1_i32_230 : BitVec 32 := 1#32
  let v397 : BitVec 32 := Scalar.addi v393 c1_i32_230
  let c1_i32_231 : BitVec 32 := 1#32
  let c1_i32_228 : BitVec 32 := 1#32
  let v394 : BitVec 32 := Scalar.addi v393 c1_i32_228
  let c32_i32_229 : BitVec 32 := 32#32
  let v395 : BitVec 1 := Scalar.cmpi .eq v394 c32_i32_229
  let v396 : BitVec 32 := Scalar.extui v395
  let v398 : BitVec 32 := Scalar.subi c1_i32_231 v396
  let v399 : BitVec 32 := Scalar.muli v397 v398
  let c512_i32_232 : BitVec 32 := 512#32
  let v400 : BitVec 32 := Scalar.muli v399 c512_i32_232
  v400
def k0_mult11 (k0_t1 : Fin k0_t1_loop.trips) : BitVec 32 :=
  let c16_i32_251 : BitVec 32 := 16#32
  let c0_i32_20 : BitVec 32 := 0#32
  let c1_i32 : BitVec 32 := 1#32
  let arg13 : BitVec 32 := Scf.iv c0_i32_20 c1_i32 k0_t1
  let v434 : BitVec 32 := Scalar.muli c16_i32_251 arg13
  let c9_i32 : BitVec 32 := 9#32
  let v435 : BitVec 32 := Scalar.addi v434 c9_i32
  let c1_i32_254 : BitVec 32 := 1#32
  let v439 : BitVec 32 := Scalar.addi v435 c1_i32_254
  let c1_i32_255 : BitVec 32 := 1#32
  let c1_i32_252 : BitVec 32 := 1#32
  let v436 : BitVec 32 := Scalar.addi v435 c1_i32_252
  let c32_i32_253 : BitVec 32 := 32#32
  let v437 : BitVec 1 := Scalar.cmpi .eq v436 c32_i32_253
  let v438 : BitVec 32 := Scalar.extui v437
  let v440 : BitVec 32 := Scalar.subi c1_i32_255 v438
  let v441 : BitVec 32 := Scalar.muli v439 v440
  let c512_i32_256 : BitVec 32 := 512#32
  let v442 : BitVec 32 := Scalar.muli v441 c512_i32_256
  v442
def k0_mult12 (k0_t1 : Fin k0_t1_loop.trips) : BitVec 32 :=
  let c16_i32_275 : BitVec 32 := 16#32
  let c0_i32_20 : BitVec 32 := 0#32
  let c1_i32 : BitVec 32 := 1#32
  let arg13 : BitVec 32 := Scf.iv c0_i32_20 c1_i32 k0_t1
  let v476 : BitVec 32 := Scalar.muli c16_i32_275 arg13
  let c10_i32 : BitVec 32 := 10#32
  let v477 : BitVec 32 := Scalar.addi v476 c10_i32
  let c1_i32_278 : BitVec 32 := 1#32
  let v481 : BitVec 32 := Scalar.addi v477 c1_i32_278
  let c1_i32_279 : BitVec 32 := 1#32
  let c1_i32_276 : BitVec 32 := 1#32
  let v478 : BitVec 32 := Scalar.addi v477 c1_i32_276
  let c32_i32_277 : BitVec 32 := 32#32
  let v479 : BitVec 1 := Scalar.cmpi .eq v478 c32_i32_277
  let v480 : BitVec 32 := Scalar.extui v479
  let v482 : BitVec 32 := Scalar.subi c1_i32_279 v480
  let v483 : BitVec 32 := Scalar.muli v481 v482
  let c512_i32_280 : BitVec 32 := 512#32
  let v484 : BitVec 32 := Scalar.muli v483 c512_i32_280
  v484
def k0_mult13 (k0_t1 : Fin k0_t1_loop.trips) : BitVec 32 :=
  let c16_i32_299 : BitVec 32 := 16#32
  let c0_i32_20 : BitVec 32 := 0#32
  let c1_i32 : BitVec 32 := 1#32
  let arg13 : BitVec 32 := Scf.iv c0_i32_20 c1_i32 k0_t1
  let v518 : BitVec 32 := Scalar.muli c16_i32_299 arg13
  let c11_i32 : BitVec 32 := 11#32
  let v519 : BitVec 32 := Scalar.addi v518 c11_i32
  let c1_i32_302 : BitVec 32 := 1#32
  let v523 : BitVec 32 := Scalar.addi v519 c1_i32_302
  let c1_i32_303 : BitVec 32 := 1#32
  let c1_i32_300 : BitVec 32 := 1#32
  let v520 : BitVec 32 := Scalar.addi v519 c1_i32_300
  let c32_i32_301 : BitVec 32 := 32#32
  let v521 : BitVec 1 := Scalar.cmpi .eq v520 c32_i32_301
  let v522 : BitVec 32 := Scalar.extui v521
  let v524 : BitVec 32 := Scalar.subi c1_i32_303 v522
  let v525 : BitVec 32 := Scalar.muli v523 v524
  let c512_i32_304 : BitVec 32 := 512#32
  let v526 : BitVec 32 := Scalar.muli v525 c512_i32_304
  v526
def k0_mult14 (k0_t1 : Fin k0_t1_loop.trips) : BitVec 32 :=
  let c16_i32_323 : BitVec 32 := 16#32
  let c0_i32_20 : BitVec 32 := 0#32
  let c1_i32 : BitVec 32 := 1#32
  let arg13 : BitVec 32 := Scf.iv c0_i32_20 c1_i32 k0_t1
  let v560 : BitVec 32 := Scalar.muli c16_i32_323 arg13
  let c12_i32 : BitVec 32 := 12#32
  let v561 : BitVec 32 := Scalar.addi v560 c12_i32
  let c1_i32_326 : BitVec 32 := 1#32
  let v565 : BitVec 32 := Scalar.addi v561 c1_i32_326
  let c1_i32_327 : BitVec 32 := 1#32
  let c1_i32_324 : BitVec 32 := 1#32
  let v562 : BitVec 32 := Scalar.addi v561 c1_i32_324
  let c32_i32_325 : BitVec 32 := 32#32
  let v563 : BitVec 1 := Scalar.cmpi .eq v562 c32_i32_325
  let v564 : BitVec 32 := Scalar.extui v563
  let v566 : BitVec 32 := Scalar.subi c1_i32_327 v564
  let v567 : BitVec 32 := Scalar.muli v565 v566
  let c512_i32_328 : BitVec 32 := 512#32
  let v568 : BitVec 32 := Scalar.muli v567 c512_i32_328
  v568
def k0_mult15 (k0_t1 : Fin k0_t1_loop.trips) : BitVec 32 :=
  let c16_i32_347 : BitVec 32 := 16#32
  let c0_i32_20 : BitVec 32 := 0#32
  let c1_i32 : BitVec 32 := 1#32
  let arg13 : BitVec 32 := Scf.iv c0_i32_20 c1_i32 k0_t1
  let v602 : BitVec 32 := Scalar.muli c16_i32_347 arg13
  let c13_i32 : BitVec 32 := 13#32
  let v603 : BitVec 32 := Scalar.addi v602 c13_i32
  let c1_i32_350 : BitVec 32 := 1#32
  let v607 : BitVec 32 := Scalar.addi v603 c1_i32_350
  let c1_i32_351 : BitVec 32 := 1#32
  let c1_i32_348 : BitVec 32 := 1#32
  let v604 : BitVec 32 := Scalar.addi v603 c1_i32_348
  let c32_i32_349 : BitVec 32 := 32#32
  let v605 : BitVec 1 := Scalar.cmpi .eq v604 c32_i32_349
  let v606 : BitVec 32 := Scalar.extui v605
  let v608 : BitVec 32 := Scalar.subi c1_i32_351 v606
  let v609 : BitVec 32 := Scalar.muli v607 v608
  let c512_i32_352 : BitVec 32 := 512#32
  let v610 : BitVec 32 := Scalar.muli v609 c512_i32_352
  v610
def k0_mult16 (k0_t1 : Fin k0_t1_loop.trips) : BitVec 32 :=
  let c16_i32_371 : BitVec 32 := 16#32
  let c0_i32_20 : BitVec 32 := 0#32
  let c1_i32 : BitVec 32 := 1#32
  let arg13 : BitVec 32 := Scf.iv c0_i32_20 c1_i32 k0_t1
  let v644 : BitVec 32 := Scalar.muli c16_i32_371 arg13
  let c14_i32 : BitVec 32 := 14#32
  let v645 : BitVec 32 := Scalar.addi v644 c14_i32
  let c1_i32_374 : BitVec 32 := 1#32
  let v649 : BitVec 32 := Scalar.addi v645 c1_i32_374
  let c1_i32_375 : BitVec 32 := 1#32
  let c1_i32_372 : BitVec 32 := 1#32
  let v646 : BitVec 32 := Scalar.addi v645 c1_i32_372
  let c32_i32_373 : BitVec 32 := 32#32
  let v647 : BitVec 1 := Scalar.cmpi .eq v646 c32_i32_373
  let v648 : BitVec 32 := Scalar.extui v647
  let v650 : BitVec 32 := Scalar.subi c1_i32_375 v648
  let v651 : BitVec 32 := Scalar.muli v649 v650
  let c512_i32_376 : BitVec 32 := 512#32
  let v652 : BitVec 32 := Scalar.muli v651 c512_i32_376
  v652
def k0_mult17 (k0_t1 : Fin k0_t1_loop.trips) : BitVec 32 :=
  let c16_i32_395 : BitVec 32 := 16#32
  let c0_i32_20 : BitVec 32 := 0#32
  let c1_i32 : BitVec 32 := 1#32
  let arg13 : BitVec 32 := Scf.iv c0_i32_20 c1_i32 k0_t1
  let v686 : BitVec 32 := Scalar.muli c16_i32_395 arg13
  let c15_i32 : BitVec 32 := 15#32
  let v687 : BitVec 32 := Scalar.addi v686 c15_i32
  let c1_i32_398 : BitVec 32 := 1#32
  let v691 : BitVec 32 := Scalar.addi v687 c1_i32_398
  let c1_i32_399 : BitVec 32 := 1#32
  let c1_i32_396 : BitVec 32 := 1#32
  let v688 : BitVec 32 := Scalar.addi v687 c1_i32_396
  let c32_i32_397 : BitVec 32 := 32#32
  let v689 : BitVec 1 := Scalar.cmpi .eq v688 c32_i32_397
  let v690 : BitVec 32 := Scalar.extui v689
  let v692 : BitVec 32 := Scalar.subi c1_i32_399 v690
  let v693 : BitVec 32 := Scalar.muli v691 v692
  let c512_i32_400 : BitVec 32 := 512#32
  let v694 : BitVec 32 := Scalar.muli v693 c512_i32_400
  v694
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![c0_i32.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c63_i32 : BitVec 32 := 63#32
  let v2 : BitVec 32 := Scalar.minsi v1 c63_i32
  let v3 : BitVec 32 := Scalar.addi v0 v2
  let c0_i32 : BitVec 32 := 0#32
  let c0_i32_0 : BitVec 32 := 0#32
  ![c0_i32.toNat, arg1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![arg1.toNat, v1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnRefIdeal.lean ====
abbrev S2x16384x512 : Shape := ⟨3, ![2, 16384, 512]⟩
abbrev S4x64 : Shape := ⟨2, ![4, 64]⟩
abbrev S128 : Shape := ⟨1, ![128]⟩
abbrev S2x16384x4x2x64 : Shape := ⟨5, ![2, 16384, 4, 2, 64]⟩
abbrev S2x16384x4x128 : Shape := ⟨4, ![2, 16384, 4, 128]⟩
abbrev S1x64 : Shape := ⟨2, ![1, 64]⟩
abbrev S64 : Shape := ⟨1, ![64]⟩
abbrev S_ : Shape := ⟨0, ![]⟩
abbrev S2x4x2x16384x16384 : Shape := ⟨5, ![2, 4, 2, 16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S32768x512 : Shape := ⟨2, ![32768, 512]⟩
abbrev S512x32768 : Shape := ⟨2, ![512, 32768]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S4x64, .f32⟩
  | .hbm, ⟨4, _⟩ => ⟨S128, .f32⟩
  | .hbm, ⟨5, _⟩ => ⟨S2x16384x4x2x64, .f32⟩
  | .hbm, ⟨6, _⟩ => ⟨S2x16384x4x2x64, .f32⟩
  | .hbm, ⟨7, _⟩ => ⟨S2x16384x4x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x4x2x16384x16384, .f32⟩
  | .hbm, ⟨28, _⟩ => ⟨S_, .f32⟩
  | .hbm, ⟨29, _⟩ => ⟨S2x4x2x16384x16384, .f32⟩
  | .hbm, ⟨30, _⟩ => ⟨S2x4x2x16384x16384, .f32⟩
  | .hbm, ⟨31, _⟩ => ⟨S_, .f32⟩
  | .hbm, ⟨32, _⟩ => ⟨S2x4x2x16384, .f32⟩
  | .hbm, ⟨33, _⟩ => ⟨S_, .f32⟩
  | .hbm, ⟨34, _⟩ => ⟨S2x4x2x16384, .f32⟩
  | .hbm, ⟨35, _⟩ => ⟨S2x4x2x16384, .f32⟩
  | .hbm, ⟨36, _⟩ => ⟨S2x4x2x16384x1, .f32⟩
  | .hbm, ⟨37, _⟩ => ⟨S2x4x2x16384x16384, .f32⟩
  | .hbm, ⟨38, _⟩ => ⟨S2x4x2x16384x16384, .f32⟩
  | .hbm, ⟨39, _⟩ => ⟨S2x4x2x16384x16384, .f32⟩
  | .hbm, ⟨40, _⟩ => ⟨S_, .f32⟩
  | .hbm, ⟨41, _⟩ => ⟨S2x4x2x16384, .f32⟩
  | .hbm, ⟨42, _⟩ => ⟨S2x4x2x16384x1, .f32⟩
  | .hbm, ⟨43, _⟩ => ⟨S2x4x2x16384x16384, .f32⟩
  | .hbm, ⟨44, _⟩ => ⟨S2x4x2x16384x16384, .f32⟩
  | .hbm, ⟨45, _⟩ => ⟨S2x4x1x16384x16384, .f32⟩
  | .hbm, ⟨46, _⟩ => ⟨S2x4x16384x16384, .f32⟩
  | .hbm, ⟨47, _⟩ => ⟨S2x4x1x16384x16384, .f32⟩
  | .hbm, ⟨48, _⟩ => ⟨S2x4x16384x16384, .f32⟩
  | .hbm, ⟨49, _⟩ => ⟨S2x4x16384x16384, .f32⟩
  | .hbm, ⟨50, _⟩ => ⟨S2x4x16384x16384, .f32⟩
  | .hbm, ⟨51, _⟩ => ⟨S2x4x16384x16384, .f32⟩
  | .hbm, ⟨52, _⟩ => ⟨S2x4x128x16384, .f32⟩
  | .hbm, ⟨53, _⟩ => ⟨S2x16384x4x128, .f32⟩
  | .hbm, ⟨54, _⟩ => ⟨S2x16384x4x128, .f32⟩
  | .hbm, ⟨55, _⟩ => ⟨S_, .f32⟩
  | .hbm, ⟨56, _⟩ => ⟨S2x16384x4, .f32⟩
  | .hbm, ⟨57, _⟩ => ⟨S2x16384x4x1, .f32⟩
  | .hbm, ⟨58, _⟩ => ⟨S_, .f32⟩
  | .hbm, ⟨59, _⟩ => ⟨S2x16384x4x1, .f32⟩
  | .hbm, ⟨60, _⟩ => ⟨S2x16384x4x1, .f32⟩
  | .hbm, ⟨61, _⟩ => ⟨S_, .f32⟩
  | .hbm, ⟨62, _⟩ => ⟨S2x16384x4x1, .f32⟩
  | .hbm, ⟨63, _⟩ => ⟨S2x16384x4x1, .f32⟩
  | .hbm, ⟨64, _⟩ => ⟨S2x16384x4x1, .f32⟩
  | .hbm, ⟨65, _⟩ => ⟨S2x16384x4x128, .f32⟩
  | .hbm, ⟨66, _⟩ => ⟨S2x16384x4x128, .f32⟩
  | .hbm, ⟨67, _⟩ => ⟨S1x1x1x128, .f32⟩
  | .hbm, ⟨68, _⟩ => ⟨S2x16384x4x128, .f32⟩
  | .hbm, ⟨69, _⟩ => ⟨S2x16384x4x128, .f32⟩
  | .hbm, ⟨70, _⟩ => ⟨S_, .f32⟩
  | .hbm, ⟨71, _⟩ => ⟨S2x16384x4x128, .f32⟩
  | .hbm, ⟨72, _⟩ => ⟨S2x16384x4x128, .f32⟩
  | .hbm, ⟨73, _⟩ => ⟨S32768x512, .f32⟩
  | .hbm, ⟨74, _⟩ => ⟨S512x32768, .f32⟩
  | .hbm, ⟨75, _⟩ => ⟨S512x32768, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Ffn.lean ====
abbrev S2x16384x1024 : Shape := ⟨3, ![2, 16384, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S32768x1024 : Shape := ⟨2, ![32768, 1024]⟩
abbrev S1x2816 : Shape := ⟨2, ![1, 2816]⟩
abbrev S1x1024 : Shape := ⟨2, ![1, 1024]⟩
abbrev S8x1024 : Shape := ⟨2, ![8, 1024]⟩
abbrev S256x1024 : Shape := ⟨2, ![256, 1024]⟩
abbrev S272x1024 : Shape := ⟨2, ![272, 1024]⟩
abbrev S1024x2816 : Shape := ⟨2, ![1024, 2816]⟩
abbrev S272x2816 : Shape := ⟨2, ![272, 2816]⟩
abbrev S256x2816 : Shape := ⟨2, ![256, 2816]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c4095_i32 : BitVec 32 := 4095#32
  let v4 : BitVec 32 := Scalar.minsi v3 c4095_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S2x16384x1024 : Shape := ⟨3, ![2, 16384, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S2x16384x5632 : Shape := ⟨3, ![2, 16384, 5632]⟩
abbrev S2x16384x2816 : Shape := ⟨3, ![2, 16384, 2816]⟩
abbrev S_ : Shape := ⟨0, ![]⟩
abbrev S2x1x2816 : Shape := ⟨3, ![2, 1, 2816]⟩
abbrev S2x16383x2816 : Shape := ⟨3, ![2, 16383, 2816]⟩
abbrev S1x2816 : Shape := ⟨2, ![1, 2816]⟩
abbrev S1x1x2816 : Shape := ⟨3, ![1, 1, 2816]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2x16384x5632, .f32⟩
  | .hbm, ⟨8, _⟩ => ⟨S2x16384x2816, .f32⟩
  | .hbm, ⟨9, _⟩ => ⟨S2x16384x2816, .f32⟩
  | .hbm, ⟨10, _⟩ => ⟨S_, .f32⟩
  | .hbm, ⟨11, _⟩ => ⟨S2x1x2816, .f32⟩
  | .hbm, ⟨12, _⟩ => ⟨S2x16383x2816, .f32⟩
  | .hbm, ⟨13, _⟩ => ⟨S2x16384x2816, .f32⟩
  | .hbm, ⟨14, _⟩ => ⟨S2x16383x2816, .f32⟩
  | .hbm, ⟨15, _⟩ => ⟨S2x16384x2816, .f32⟩
  | .hbm, ⟨16, _⟩ => ⟨S1x2816, .f32⟩
  | .hbm, ⟨17, _⟩ => ⟨S2816, .f32⟩
  | .hbm, ⟨18, _⟩ => ⟨S1x1x2816, .f32⟩
  | .hbm, ⟨19, _⟩ => ⟨S2x16384x2816, .f32⟩
  | .hbm, ⟨20, _⟩ => ⟨S2x16384x2816, .f32⟩
  | .hbm, ⟨21, _⟩ => ⟨S1x2816, .f32⟩
  | .hbm, ⟨22, _⟩ => ⟨S2816, .f32⟩
  | .hbm, ⟨23, _⟩ => ⟨S1x1x2816, .f32⟩
  | .hbm, ⟨24, _⟩ => ⟨S2x16384x2816, .f32⟩
  | .hbm, ⟨25, _⟩ => ⟨S2x16384x2816, .f32⟩
  | .hbm, ⟨26, _⟩ => ⟨S2x16384x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S1x1x2816, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x2816, .f32⟩
  | .hbm, ⟨38, _⟩ => ⟨S_, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S_, .f32⟩
  | .hbm, ⟨43, _⟩ => ⟨S2x16384x2816, .f32⟩
  | .hbm, ⟨44, _⟩ => ⟨S2x16384x2816, .f32⟩
  | .hbm, ⟨45, _⟩ => ⟨S2x16384x2816, .f32⟩
  | .hbm, ⟨46, _⟩ => ⟨S_, .f32⟩
  | .hbm, ⟨47, _⟩ => ⟨S2x16384x2816, .f32⟩
  | .hbm, ⟨48, _⟩ => ⟨S2x16384x2816, .f32⟩
  | .hbm, ⟨49, _⟩ => ⟨S_, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S2x16384x1024, .f32⟩
  | .hbm, ⟨55, _⟩ => ⟨S_, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384, .f32⟩
  | .hbm, ⟨61, _⟩ => ⟨S2x16384x1, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S_, .f32⟩
  | .hbm, ⟨69, _⟩ => ⟨S2x16384, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S2x16384x1024, .f32⟩
  | .hbm, ⟨75, _⟩ => ⟨S2x16384x1024, .f32⟩
  | .hbm, ⟨76, _⟩ => ⟨S_, .f32⟩
  | .hbm, ⟨77, _⟩ => ⟨S2x16384x1, .f32⟩
  | .hbm, ⟨78, _⟩ => ⟨S2x16384x1, .f32⟩
  | .hbm, ⟨79, _⟩ => ⟨S2x16384x1, .f32⟩
  | .hbm, ⟨80, _⟩ => ⟨S2x16384x1024, .f32⟩
  | .hbm, ⟨81, _⟩ => ⟨S2x16384x1024, .f32⟩
  | .hbm, ⟨82, _⟩ => ⟨S1x1x1024, .f32⟩
  | .hbm, ⟨83, _⟩ => ⟨S2x16384x1024, .f32⟩
  | .hbm, ⟨84, _⟩ => ⟨S2x16384x1024, .f32⟩
  | .hbm, ⟨85, _⟩ => ⟨S1x1x1024, .f32⟩
  | .hbm, ⟨86, _⟩ => ⟨S2x16384x1024, .f32⟩
  | .hbm, ⟨87, _⟩ => ⟨S2x16384x1024, .f32⟩
  | .hbm, ⟨88, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Mix.lean ====
abbrev S2x16384x1024 : Shape := ⟨3, ![2, 16384, 1024]⟩
abbrev S2x16384x256 : Shape := ⟨3, ![2, 16384, 256]⟩
abbrev S2x16384x1280 : Shape := ⟨3, ![2, 16384, 1280]⟩
abbrev S256 : Shape := ⟨1, ![256]⟩
abbrev S2x16384x512 : Shape := ⟨3, ![2, 16384, 512]⟩
abbrev S1024x1024 : Shape := ⟨2, ![1024, 1024]⟩
abbrev S1024 : Shape := ⟨1, ![1024]⟩
abbrev S2x256x1024 : Shape := ⟨3, ![2, 256, 1024]⟩
abbrev S32768x1024 : Shape := ⟨2, ![32768, 1024]⟩
abbrev S32768x256 : Shape := ⟨2, ![32768, 256]⟩
abbrev S32768x1280 : Shape := ⟨2, ![32768, 1280]⟩
abbrev S1x256 : Shape := ⟨2, ![1, 256]⟩
abbrev S32768x512 : Shape := ⟨2, ![32768, 512]⟩
abbrev S512x32768 : Shape := ⟨2, ![512, 32768]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S256x256 : Shape := ⟨2, ![256, 256]⟩
abbrev S512 : Shape := ⟨1, ![512]⟩
abbrev S512x1 : Shape := ⟨2, ![512, 1]⟩

abbrev nBuf : Space → Nat
  | .hbm => 41
  | .vmem => 30
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x1280, .f32⟩
  | .hbm, ⟨4, _⟩ => ⟨S256, .f32⟩
  | .hbm, ⟨5, _⟩ => ⟨S2x16384x256, .f32⟩
  | .hbm, ⟨6, _⟩ => ⟨S2x16384x256, .f32⟩
  | .hbm, ⟨7, _⟩ => ⟨S2x16384x512, .f32⟩
  | .hbm, ⟨8, _⟩ => ⟨S2x16384x512, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S2x256x1024, .f32⟩
  | .hbm, ⟨14, _⟩ => ⟨S2x256x1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S32768x1024, .f32⟩
  | .hbm, ⟨19, _⟩ => ⟨S32768x256, .f32⟩
  | .hbm, ⟨20, _⟩ => ⟨S32768x256, .f32⟩
  | .hbm, ⟨21, _⟩ => ⟨S32768x1280, .f32⟩
  | .hbm, ⟨22, _⟩ => ⟨S1x256, .f32⟩
  | .hbm, ⟨23, _⟩ => ⟨S32768x256, .f32⟩
  | .hbm, ⟨24, _⟩ => ⟨S32768x256, .f32⟩
  | .hbm, ⟨25, _⟩ => ⟨S32768x512, .f32⟩
  | .hbm, ⟨26, _⟩ => ⟨S32768x512, .f32⟩
  | .hbm, ⟨27, _⟩ => ⟨S512x32768, .f32⟩
  | .hbm, ⟨28, _⟩ => ⟨S512x32768, .bf16⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S1024x1024, .bf16⟩
  | .hbm, ⟨33, _⟩ => ⟨S512x1024, .f32⟩
  | .hbm, ⟨34, _⟩ => ⟨S512x1024, .bf16⟩
  | .hbm, ⟨35, _⟩ => ⟨S512x1024, .f32⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x512, .bf16⟩
  | .local _ .vmem, ⟨16, _⟩ => ⟨S512x512, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1024x1024, .bf16⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MixRefIdeal.lean ====
abbrev S2x16384x1024 : Shape := ⟨3, ![2, 16384, 1024]⟩
abbrev S2x16384x256 : Shape := ⟨3, ![2, 16384, 256]⟩
abbrev S2x16384x1280 : Shape := ⟨3, ![2, 16384, 1280]⟩
abbrev S256 : Shape := ⟨1, ![256]⟩
abbrev S2x16384x512 : Shape := ⟨3, ![2, 16384, 512]⟩
abbrev S1024x1024 : Shape := ⟨2, ![1024, 1024]⟩
abbrev S1024 : Shape := ⟨1, ![1024]⟩
abbrev S2x256x1024 : Shape := ⟨3, ![2, 256, 1024]⟩
abbrev S2x16384x4x64 : Shape := ⟨4, ![2, 16384, 4, 64]⟩
abbrev S_ : Shape := ⟨0, ![]⟩
abbrev S2x16384x4 : Shape := ⟨3, ![2, 16384, 4]⟩
abbrev S2x16384x4x1 : Shape := ⟨4, ![2, 16384, 4, 1]⟩
abbrev S4x64 : Shape := ⟨2, ![4, 64]⟩
abbrev S1x1x4x64 : Shape := ⟨4, ![1, 1, 4, 64]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4x256 : Shape := ⟨4, ![2, 16384, 4, 256]⟩
abbrev S2x256x4x256 : Shape := ⟨4, ![2, 256, 4, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S32768x1024 : Shape := ⟨2, ![32768, 1024]⟩

abbrev nBuf : Space → Nat
  | .hbm => 164
  | .vmem => 0
  | .smem => 0
  | _ => 0

abbrev hbmTy0_0 (i : Nat) : BufTy := match i % 128 with
  | 0 => ⟨S2x16384x1024, .f32⟩
  | 1 => ⟨S2x16384x256, .f32⟩
  | 2 => ⟨S2x16384x256, .f32⟩
  | 3 => ⟨S2x16384x1280, .f32⟩
  | 4 => ⟨S256, .f32⟩
  | 5 => ⟨S2x16384x256, .f32⟩
  | 6 => ⟨S2x16384x256, .f32⟩
  | 7 => ⟨S2x16384x512, .f32⟩
  | 8 => ⟨S2x16384x512, .f32⟩
  | 9 => ⟨S1024x1024, .f32⟩
  | 10 => ⟨S1024, .f32⟩
  | 11 => ⟨S1024, .f32⟩
  | 12 => ⟨S1024x1024, .f32⟩
  | 13 => ⟨S2x256x1024, .f32⟩
  | 14 => ⟨S2x256x1024, .f32⟩
  | 15 => ⟨S1024x1024, .f32⟩
  | 16 => ⟨S1024, .f32⟩
  | 17 => ⟨S1024, .f32⟩
  | 18 => ⟨S2x16384x256, .f32⟩
  | 19 => ⟨S2x16384x4x64, .f32⟩
  | 20 => ⟨S2x16384x4x64, .f32⟩
  | 21 => ⟨S_, .f32⟩
  | 22 => ⟨S2x16384x4, .f32⟩
  | 23 => ⟨S2x16384x4x1, .f32⟩
  | 24 => ⟨S_, .f32⟩
  | 25 => ⟨S2x16384x4x1, .f32⟩
  | 26 => ⟨S2x16384x4x1, .f32⟩
  | 27 => ⟨S_, .f32⟩
  | 28 => ⟨S2x16384x4x1, .f32⟩
  | 29 => ⟨S2x16384x4x1, .f32⟩
  | 30 => ⟨S2x16384x4x1, .f32⟩
  | 31 => ⟨S2x16384x4x64, .f32⟩
  | 32 => ⟨S2x16384x4x64, .f32⟩
  | 33 => ⟨S4x64, .f32⟩
  | 34 => ⟨S1x1x4x64, .f32⟩
  | 35 => ⟨S2x16384x4x64, .f32⟩
  | 36 => ⟨S2x16384x4x64, .f32⟩
  | 37 => ⟨S2x16384x256, .f32⟩
  | 38 => ⟨S2x16384x256, .f32⟩
  | 39 => ⟨S2x16384x256, .f32⟩
  | 40 => ⟨S2x16384x256, .f32⟩
  | 41 => ⟨S_, .f32⟩
  | 42 => ⟨S2x16384x256, .f32⟩
  | 43 => ⟨S2x16384x256, .f32⟩
  | 44 => ⟨S_, .f32⟩
  | 45 => ⟨S2x16384x256, .f32⟩
  | 46 => ⟨S2x16384x256, .f32⟩
  | 47 => ⟨S2x16384x256, .f32⟩
  | 48 => ⟨S2x16384x256, .f32⟩
  | 49 => ⟨S2x16384x256, .f32⟩
  | 50 => ⟨S2x16384x256, .f32⟩
  | 51 => ⟨S2x16384x256, .f32⟩
  | 52 => ⟨S2x16384x256, .f32⟩
  | 53 => ⟨S_, .f32⟩
  | 54 => ⟨S2x16384x256, .f32⟩
  | 55 => ⟨S2x16384x256, .f32⟩
  | 56 => ⟨S2x16384x256, .f32⟩
  | 57 => ⟨S_, .f32⟩
  | 58 => ⟨S2x16384x256, .f32⟩
  | 59 => ⟨S2x16384x256, .f32⟩
  | 60 => ⟨S2x16384x256, .f32⟩
  | 61 => ⟨S_, .f32⟩
  | 62 => ⟨S2x16384x256, .f32⟩
  | 63 => ⟨S2x16384x256, .f32⟩
  | 64 => ⟨S_, .f32⟩
  | 65 => ⟨S2x16384x256, .f32⟩
  | 66 => ⟨S2x16384x256, .f32⟩
  | 67 => ⟨S2x16384x256, .f32⟩
  | 68 => ⟨S2x16384x256, .f32⟩
  | 69 => ⟨S2x16384x1024, .f32⟩
  | 70 => ⟨S2x16384x1024, .f32⟩
  | 71 => ⟨S_, .f32⟩
  | 72 => ⟨S2x16384x1024, .f32⟩
  | 73 => ⟨S2x16384x1024, .f32⟩
  | 74 => ⟨S2x16384x1024, .f32⟩
  | 75 => ⟨S_, .f32⟩
  | 76 => ⟨S2x16384, .f32⟩
  | 77 => ⟨S2x16384x1, .f32⟩
  | 78 => ⟨S_, .f32⟩
  | 79 => ⟨S2x16384x1, .f32⟩
  | 80 => ⟨S2x16384x1, .f32⟩
  | 81 => ⟨S2x16384x1024, .f32⟩
  | 82 => ⟨S2x16384x1024, .f32⟩
  | 83 => ⟨S2x16384x1024, .f32⟩
  | 84 => ⟨S_, .f32⟩
  | 85 => ⟨S2x16384, .f32⟩
  | 86 => ⟨S2x16384x1, .f32⟩
  | 87 => ⟨S_, .f32⟩
  | 88 => ⟨S2x16384x1, .f32⟩
  | 89 => ⟨S2x16384x1, .f32⟩
  | 90 => ⟨S2x16384x1024, .f32⟩
  | 91 => ⟨S2x16384x1024, .f32⟩
  | 92 => ⟨S_, .f32⟩
  | 93 => ⟨S2x16384x1, .f32⟩
  | 94 => ⟨S2x16384x1, .f32⟩
  | 95 => ⟨S2x16384x1, .f32⟩
  | 96 => ⟨S2x16384x1024, .f32⟩
  | 97 => ⟨S2x16384x1024, .f32⟩
  | 98 => ⟨S1x1x1024, .f32⟩
  | 99 => ⟨S2x16384x1024, .f32⟩
  | 100 => ⟨S2x16384x1024, .f32⟩
  | 101 => ⟨S1x1x1024, .f32⟩
  | 102 => ⟨S2x16384x1024, .f32⟩
  | 103 => ⟨S2x16384x1024, .f32⟩
  | 104 => ⟨S2x16384x1024, .f32⟩
  | 105 => ⟨S2x16384x4x256, .f32⟩
  | 106 => ⟨S2x256x4x256, .f32⟩
  | 107 => ⟨S2x256x4x256, .f32⟩
  | 108 => ⟨S2x4x16384x256, .f32⟩
  | 109 => ⟨S_, .f32⟩
  | 110 => ⟨S2x4x16384x256, .f32⟩
  | 111 => ⟨S2x4x16384x256, .f32⟩
  | 112 => ⟨S_, .f32⟩
  | 113 => ⟨S2x4x16384, .f32⟩
  | 114 => ⟨S_, .f32⟩
  | 115 => ⟨S2x4x16384, .f32⟩
  | 116 => ⟨S2x4x16384, .f32⟩
  | 117 => ⟨S2x4x16384x1, .f32⟩
  | 118 => ⟨S2x4x16384x256, .f32⟩
  | 119 => ⟨S2x4x16384x256, .f32⟩
  | 120 => ⟨S2x4x16384x256, .f32⟩
  | 121 => ⟨S_, .f32⟩
  | 122 => ⟨S2x4x16384, .f32⟩
  | 123 => ⟨S2x4x16384x1, .f32⟩
  | 124 => ⟨S2x4x16384x256, .f32⟩
  | 125 => ⟨S2x4x16384x256, .f32⟩
  | 126 => ⟨S2x4x256x16384, .f32⟩
  | 127 => ⟨S2x16384x4x256, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S_, .f32⟩
  | 3 => ⟨S2x16384x1024, .f32⟩
  | 4 => ⟨S2x16384x1024, .f32⟩
  | 5 => ⟨S2x16384x1024, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S2x16384x1024, .f32⟩
  | 13 => ⟨S2x16384x1024, .f32⟩
  | 14 => ⟨S2x16384x1024, .f32⟩
  | 15 => ⟨S_, .f32⟩
  | 16 => ⟨S2x16384, .f32⟩
  | 17 => ⟨S2x16384x1, .f32⟩
  | 18 => ⟨S_, .f32⟩
  | 19 => ⟨S2x16384x1, .f32⟩
  | 20 => ⟨S2x16384x1, .f32⟩
  | 21 => ⟨S2x16384x1024, .f32⟩
  | 22 => ⟨S2x16384x1024, .f32⟩
  | 23 => ⟨S_, .f32⟩
  | 24 => ⟨S2x16384x1, .f32⟩
  | 25 => ⟨S2x16384x1, .f32⟩
  | 26 => ⟨S2x16384x1, .f32⟩
  | 27 => ⟨S2x16384x1024, .f32⟩
  | 28 => ⟨S2x16384x1024, .f32⟩
  | 29 => ⟨S1x1x1024, .f32⟩
  | 30 => ⟨S2x16384x1024, .f32⟩
  | 31 => ⟨S2x16384x1024, .f32⟩
  | 32 => ⟨S1x1x1024, .f32⟩
  | 33 => ⟨S2x16384x1024, .f32⟩
  | 34 => ⟨S2x16384x1024, .f32⟩
  | 35 => ⟨S32768x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_12 : Ref sig .tc := ⟨.hbm, 109, rfl⟩
abbrev main_v70 : Ref sig .tc := ⟨.hbm, 110, rfl⟩
abbrev main_v71 : Ref sig .tc := ⟨.hbm, 111, rfl⟩
abbrev main_cst_13 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_15 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_16 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_v90 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_19 : Ref sig .tc := ⟨.hbm, 143, rfl⟩
abbrev main_v97 : Ref sig .tc := ⟨.hbm, 144, rfl⟩
abbrev main_v98 : Ref sig .tc := ⟨.hbm, 145, rfl⟩
abbrev main_cst_20 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_21 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]
-- ==== Inproj.lean ====
abbrev S2x16384x1024 : Shape := ⟨3, ![2, 16384, 1024]⟩
abbrev S1024x3328 : Shape := ⟨2, ![1024, 3328]⟩
abbrev S2x16384x32 : Shape := ⟨3, ![2, 16384, 32]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x1024 : Shape := ⟨2, ![32768, 1024]⟩
abbrev S32768x1280 : Shape := ⟨2, ![32768, 1280]⟩
abbrev S32768x512 : Shape := ⟨2, ![32768, 512]⟩
abbrev S2x512x32768 : Shape := ⟨3, ![2, 512, 32768]⟩
abbrev S64x576x512 : Shape := ⟨3, ![64, 576, 512]⟩
abbrev S512x1024 : Shape := ⟨2, ![512, 1024]⟩
abbrev S512x128 : Shape := ⟨2, ![512, 128]⟩
abbrev S512x1280 : Shape := ⟨2, ![512, 1280]⟩
abbrev S512x512 : Shape := ⟨2, ![512, 512]⟩
abbrev S2x512x512 : Shape := ⟨3, ![2, 512, 512]⟩
abbrev S1x576x512 : Shape := ⟨3, ![1, 576, 512]⟩
abbrev S1024x1280 : Shape := ⟨2, ![1024, 1280]⟩
abbrev S1024x512 : Shape := ⟨2, ![1024, 512]⟩
abbrev S1x512x512 : Shape := ⟨3, ![1, 512, 512]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩

abbrev nBuf : Space → Nat
  | .hbm => 21
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S1024x3328, .f32⟩
  | .hbm, ⟨2, _⟩ => ⟨S2x16384x32, .f32⟩
  | .hbm, ⟨3, _⟩ => ⟨S2x16384x32, .f32⟩
  | .hbm, ⟨4, _⟩ => ⟨S32768x32, .f32⟩
  | .hbm, ⟨5, _⟩ => ⟨S32768x32, .f32⟩
  | .hbm, ⟨6, _⟩ => ⟨S1x32768x1x32, .f32⟩
  | .hbm, ⟨7, _⟩ => ⟨S1x32768x4x32, .f32⟩
  | .hbm, ⟨8, _⟩ => ⟨S32768x128, .f32⟩
  | .hbm, ⟨9, _⟩ => ⟨S32768x32, .f32⟩
  | .hbm, ⟨10, _⟩ => ⟨S32768x64, .f32⟩
  | .hbm, ⟨11, _⟩ => ⟨S1x32768x1x64, .f32⟩
  | .hbm, ⟨12, _⟩ => ⟨S1x32768x2x64, .f32⟩
  | .hbm, ⟨13, _⟩ => ⟨S32768x128, .f32⟩
  | .hbm, ⟨14, _⟩ => ⟨S32768x1024, .f32⟩
  | .hbm, ⟨15, _⟩ => ⟨S1024x3328, .bf16⟩
  | .hbm, ⟨16, _⟩ => ⟨S32768x1280, .f32⟩
  | .hbm, ⟨17, _⟩ => ⟨S32768x512, .f32⟩
  | .hbm, ⟨18, _⟩ => ⟨S2x512x32768, .bf16⟩
  | .hbm, ⟨19, _⟩ => ⟨S32768x512, .bf16⟩
  | .hbm, ⟨20, _⟩ => ⟨S64x576x512, .bf16⟩
  | .local _ .vmem, ⟨0, _⟩ => ⟨S512x1024, .f32⟩
  | .local _ .vmem, ⟨1, _⟩ => ⟨S512x1024, .f32⟩
  | .local _ .vmem, ⟨2, _⟩ => ⟨S1024x3328, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1280, .f32⟩
  | .local _ .vmem, ⟨8, _⟩ => ⟨S512x1280, .f32⟩
  | .local _ .vmem, ⟨9, _⟩ => ⟨S512x512, .f32⟩
  | .local _ .vmem, ⟨10, _⟩ => ⟨S512x512, .f32⟩
  | .local _ .vmem, ⟨11, _⟩ => ⟨S2x512x512, .bf16⟩
  | .local _ .vmem, ⟨12, _⟩ => ⟨S2x512x512, .bf16⟩
  | .local _ .vmem, ⟨13, _⟩ => ⟨S512x512, .bf16⟩
  | .local _ .vmem, ⟨14, _⟩ => ⟨S512x512, .bf16⟩
  | .local _ .vmem, ⟨15, _⟩ => ⟨S1x576x512, .bf16⟩
  | .local _ .vmem, ⟨16, _⟩ => ⟨S1x576x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x576x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S2x16384x1024 : Shape := ⟨3, ![2, 16384, 1024]⟩
abbrev S1024x3328 : Shape := ⟨2, ![1024, 3328]⟩
abbrev S2x16384x32 : Shape := ⟨3, ![2, 16384, 32]⟩
abbrev S2x16384x3328 : Shape := ⟨3, ![2, 16384, 3328]⟩
abbrev S2x16384x1280 : Shape := ⟨3, ![2, 16384, 1280]⟩
abbrev S2x16384x512 : Shape := ⟨3, ![2, 16384, 512]⟩
abbrev S2x16384x4x2x64 : Shape := ⟨5, ![2, 16384, 4, 2, 64]⟩
abbrev S2x16384x1x1x32 : Shape := ⟨5, ![2, 16384, 1, 1, 32]⟩
abbrev S2x16384x4x2x32 : Shape := ⟨5, ![2, 16384, 4, 2, 32]⟩
abbrev S_ : Shape := ⟨0, ![]⟩
abbrev S32768x4x2x64 : Shape := ⟨4, ![32768, 4, 2, 64]⟩
abbrev S32768x4x1x64 : Shape := ⟨4, ![32768, 4, 1, 64]⟩
abbrev S32768x512 : Shape := ⟨2, ![32768, 512]⟩
abbrev S512x32768 : Shape := ⟨2, ![512, 32768]⟩
abbrev S64x512x4x128 : Shape := ⟨4, ![64, 512, 4, 128]⟩
abbrev S64x4x128x512 : Shape := ⟨4, ![64, 4, 128, 512]⟩
abbrev S64x4x16x512 : Shape := ⟨4, ![64, 4, 16, 512]⟩
abbrev S64x4x144x512 : Shape := ⟨4, ![64, 4, 144, 512]⟩
abbrev S32768x1280 : Shape := ⟨2, ![32768, 1280]⟩
abbrev S1x512x32768 : Shape := ⟨3, ![1, 512, 32768]⟩
abbrev S2x512x32768 : Shape := ⟨3, ![2, 512, 32768]⟩
abbrev S64x576x512 : Shape := ⟨3, ![64, 576, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x3328, .f32⟩
  | .hbm, ⟨2, _⟩ => ⟨S2x16384x32, .f32⟩
  | .hbm, ⟨3, _⟩ => ⟨S2x16384x32, .f32⟩
  | .hbm, ⟨4, _⟩ => ⟨S2x16384x3328, .f32⟩
  | .hbm, ⟨5, _⟩ => ⟨S2x16384x1280, .f32⟩
  | .hbm, ⟨6, _⟩ => ⟨S2x16384x512, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S2x16384x4x2x64, .f32⟩
  | .hbm, ⟨11, _⟩ => ⟨S2x16384x1x1x32, .f32⟩
  | .hbm, ⟨12, _⟩ => ⟨S2x16384x1x1x32, .f32⟩
  | .hbm, ⟨13, _⟩ => ⟨S2x16384x4x2x32, .f32⟩
  | .hbm, ⟨14, _⟩ => ⟨S2x16384x4x2x32, .f32⟩
  | .hbm, ⟨15, _⟩ => ⟨S2x16384x4x2x32, .f32⟩
  | .hbm, ⟨16, _⟩ => ⟨S2x16384x4x2x32, .f32⟩
  | .hbm, ⟨17, _⟩ => ⟨S2x16384x4x2x32, .f32⟩
  | .hbm, ⟨18, _⟩ => ⟨S2x16384x4x2x32, .f32⟩
  | .hbm, ⟨19, _⟩ => ⟨S2x16384x4x2x32, .f32⟩
  | .hbm, ⟨20, _⟩ => ⟨S2x16384x4x2x32, .f32⟩
  | .hbm, ⟨21, _⟩ => ⟨S2x16384x4x2x32, .f32⟩
  | .hbm, ⟨22, _⟩ => ⟨S2x16384x4x2x32, .f32⟩
  | .hbm, ⟨23, _⟩ => ⟨S2x16384x4x2x32, .f32⟩
  | .hbm, ⟨24, _⟩ => ⟨S2x16384x4x2x32, .f32⟩
  | .hbm, ⟨25, _⟩ => ⟨S2x16384x4x2x64, .f32⟩
  | .hbm, ⟨26, _⟩ => ⟨S_, .f32⟩
  | .hbm, ⟨27, _⟩ => ⟨S2x16384x4x2x64, .f32⟩
  | .hbm, ⟨28, _⟩ => ⟨S2x16384x4x2x64, .f32⟩
  | .hbm, ⟨29, _⟩ => ⟨S2x16384x4x2x64, .f32⟩
  | .hbm, ⟨30, _⟩ => ⟨S2x16384x1x1x32, .f32⟩
  | .hbm, ⟨31, _⟩ => ⟨S2x16384x1x1x32, .f32⟩
  | .hbm, ⟨32, _⟩ => ⟨S2x16384x4x2x32, .f32⟩
  | .hbm, ⟨33, _⟩ => ⟨S2x16384x4x2x32, .f32⟩
  | .hbm, ⟨34, _⟩ => ⟨S2x16384x4x2x32, .f32⟩
  | .hbm, ⟨35, _⟩ => ⟨S2x16384x4x2x32, .f32⟩
  | .hbm, ⟨36, _⟩ => ⟨S2x16384x4x2x32, .f32⟩
  | .hbm, ⟨37, _⟩ => ⟨S2x16384x4x2x32, .f32⟩
  | .hbm, ⟨38, _⟩ => ⟨S2x16384x4x2x32, .f32⟩
  | .hbm, ⟨39, _⟩ => ⟨S2x16384x4x2x32, .f32⟩
  | .hbm, ⟨40, _⟩ => ⟨S2x16384x4x2x32, .f32⟩
  | .hbm, ⟨41, _⟩ => ⟨S2x16384x4x2x32, .f32⟩
  | .hbm, ⟨42, _⟩ => ⟨S2x16384x4x2x32, .f32⟩
  | .hbm, ⟨43, _⟩ => ⟨S2x16384x4x2x32, .f32⟩
  | .hbm, ⟨44, _⟩ => ⟨S2x16384x4x2x64, .f32⟩
  | .hbm, ⟨45, _⟩ => ⟨S32768x4x2x64, .f32⟩
  | .hbm, ⟨46, _⟩ => ⟨S_, .f32⟩
  | .hbm, ⟨47, _⟩ => ⟨S32768x4x1x64, .f32⟩
  | .hbm, ⟨48, _⟩ => ⟨S32768x4x1x64, .f32⟩
  | .hbm, ⟨49, _⟩ => ⟨S32768x4x2x64, .f32⟩
  | .hbm, ⟨50, _⟩ => ⟨S32768x512, .f32⟩
  | .hbm, ⟨51, _⟩ => ⟨S512x32768, .f32⟩
  | .hbm, ⟨52, _⟩ => ⟨S32768x4x1x64, .f32⟩
  | .hbm, ⟨53, _⟩ => ⟨S32768x4x2x64, .f32⟩
  | .hbm, ⟨54, _⟩ => ⟨S32768x512, .f32⟩
  | .hbm, ⟨55, _⟩ => ⟨S512x32768, .f32⟩
  | .hbm, ⟨56, _⟩ => ⟨S64x512x4x128, .f32⟩
  | .hbm, ⟨57, _⟩ => ⟨S64x4x128x512, .f32⟩
  | .hbm, ⟨58, _⟩ => ⟨S_, .f32⟩
  | .hbm, ⟨59, _⟩ => ⟨S64x4x16x512, .f32⟩
  | .hbm, ⟨60, _⟩ => ⟨S64x4x144x512, .f32⟩
  | .hbm, ⟨61, _⟩ => ⟨S32768x1280, .f32⟩
  | .hbm, ⟨62, _⟩ => ⟨S32768x512, .f32⟩
  | .hbm, ⟨63, _⟩ => ⟨S1x512x32768, .f32⟩
  | .hbm, ⟨64, _⟩ => ⟨S1x512x32768, .f32⟩
  | .hbm, ⟨65, _⟩ => ⟨S2x512x32768, .f32⟩
  | .hbm, ⟨66, _⟩ => ⟨S2x512x32768, .bf16⟩
  | .hbm, ⟨67, _⟩ => ⟨S32768x512, .f32⟩
  | .hbm, ⟨68, _⟩ => ⟨S32768x512, .bf16⟩
  | .hbm, ⟨69, _⟩ => ⟨S64x576x512, .f32⟩
  | .hbm, ⟨70, _⟩ => ⟨S64x576x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_0 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩

abbrev nD : Nat := 1
abbrev τ : Topo := Topo.v7x

variable {F : FTy → Type} [FloatOps F]
-- ==== Proof.States.lean ====
/-
  The values of the differential attention kernel's loop over key chunks, as plain recursions.

  One call of the kernel body treats 512 query columns (256 queries, each under its two score maps side by side) and goes
  through the 16384 keys in 32 chunks of 512. It carries a running maximum (one number per column) and an accumulator of
  144 rows per column: 128 rows of weighted values, and a row of weights (the value operand's row of ones) at row 128.

    * `kChunk K c`, `vChunk V c` — chunk `c` of the keys and of the transposed values;
    * `curQ Q`, `nextQ Q` — the two query tiles of the query scratch: this grid point's and the next one's;
    * `scoreAt K Q c` — the scores that stand ready when chunk `c` is absorbed; after the last chunk (`c = 32`) they are
      chunk 0's scores of the NEXT tile, computed ahead;
    * `runMax K Q c`, `runAcc K V Q c` — the running maximum and the accumulator after the first `c` chunks;
    * `outTile` — the normalised differential combination that the body stores.
-/
module

public import proofs.«01_k».proof.Proof.Gen.AttnIdeal.Skeleton
public import Idealize.ShloMosaic.Lib.ValueIdxCore

@[expose] public section

noncomputable section

namespace Cert.AttnIdeal.Flash

open Idealize.ShloMosaic Idealize.SL.Sem
open Idealize.ShloMosaic.ValueIdx
open Cert.AttnIdeal Cert.AttnIdeal.Gen

variable {F : FTy → Type} [FloatOps F]

/-- Rows `512 c … 512 c + 511` of the keys. -/
def kChunk (K : Vec F S16384x128 .bf16) (c : ℕ) : Vec F S512x128 .bf16 :=
  fun j => K (ix2 ⟨512 * (c % 32) + (j 0).val, by have h : (j 0).val < 512 := (j 0).isLt; omega⟩ (j 1))

/-- Chunk `c` of the transposed values, its row of ones included. -/
def vChunk (V : Vec F S32x144x512 .bf16) (c : ℕ) : Vec F S1x144x512 .bf16 :=
  fun j => V (ix3 ⟨c % 32, by omega⟩ (j 1) (j 2))

/-- The query tile of this grid point: the first half of the query scratch. -/
def curQ (Q : Vec F S2x128x512 .bf16) : Vec F S1x128x512 .bf16 := fun j => Q (ix3 0 (j 1) (j 2))

/-- The query tile of the next grid point: the second half of the query scratch. -/
def nextQ (Q : Vec F S2x128x512 .bf16) : Vec F S1x128x512 .bf16 := fun j => Q (ix3 1 (j 1) (j 2))

/-- The scores standing ready before chunk `c` is absorbed. -/
def scoreAt (K : Vec F S16384x128 .bf16) (Q : Vec F S2x128x512 .bf16) (c : ℕ) : FVec F S1x512x512 .f32 :=
  k0_pay2 (kChunk K c) (if c = 32 then nextQ Q else curQ Q)

/-- The running maximum after one more chunk, whose scores are `s`. -/
def stepMax (m : FVec F S1x512 .f32) (s : FVec F S1x512x512 .f32) : FVec F S1x512 .f32 := k0_pay4 m s

/-- The accumulator after one more chunk: the old one rescaled to the new maximum, plus the chunk's weighted values. -/
def stepAcc (m : FVec F S1x512 .f32) (s : FVec F S1x512x512 .f32) (v : Vec F S1x144x512 .bf16) (a : FVec F S144x512 .f32) :
    FVec F S144x512 .f32 := k0_pay7 (k0_pay5 m s v) (k0_pay6 m s) a

/-- The running maximum after `c` chunks. -/
def runMax (K : Vec F S16384x128 .bf16) (Q : Vec F S2x128x512 .bf16) : ℕ → FVec F S1x512 .f32
  | 0 => k0_pay83
  | c + 1 => stepMax (runMax K Q c) (scoreAt K Q c)

/-- The accumulator after `c` chunks. -/
def runAcc (K : Vec F S16384x128 .bf16) (V : Vec F S32x144x512 .bf16) (Q : Vec F S2x128x512 .bf16) : ℕ → FVec F S144x512 .f32
  | 0 => k0_pay81
  | c + 1 => stepAcc (runMax K Q c) (scoreAt K Q c) (vChunk V c) (runAcc K V Q c)

/-- One row of a pair of half tiles. -/
def half (r : Fin 2) (T : Vec F S2x128x256 .bf16) : Vec F S1x128x256 .bf16 := fun j => T (ix3 r (j 1) (j 2))

/-- The query tile with its two score maps side by side. -/
def qTile (T : Vec F S2x128x256 .bf16) : Vec F S1x128x512 .bf16 := k0_pay79 (half 0 T) (half 1 T)

/-- The query scratch with this point's tile `T` and the next point's tile `N`. -/
def qPair (T N : Vec F S2x128x256 .bf16) : Vec F S2x128x512 .bf16 :=
  fun j => if (j 0).val = 0 then qTile T (ix3 0 (j 1) (j 2)) else qTile N (ix3 0 (j 1) (j 2))

theorem curQ_qPair (T N : Vec F S2x128x256 .bf16) : curQ (qPair T N) = qTile T := by
  funext j
  refine congrArg (qTile T) (funext fun a => ?_)
  have h0 : (j 0).val < 1 := (j 0).isLt
  match a with
  | ⟨0, _⟩ => exact Fin.ext (show 0 = (j 0).val by omega)
  | ⟨1, _⟩ => rfl
  | ⟨2, _⟩ => rfl

theorem nextQ_qPair (T N : Vec F S2x128x256 .bf16) : nextQ (qPair T N) = qTile N := by
  funext j
  refine congrArg (qTile N) (funext fun a => ?_)
  have h0 : (j 0).val < 1 := (j 0).isLt
  match a with
  | ⟨0, _⟩ => exact Fin.ext (show 0 = (j 0).val by omega)
  | ⟨1, _⟩ => rfl
  | ⟨2, _⟩ => rfl

/-- The scores of the first chunk of keys against the query tile `T`. -/
def firstScores (K : Vec F S16384x128 .bf16) (T : Vec F S2x128x256 .bf16) : FVec F S1x512x512 .f32 := k0_pay2 (kChunk K 0) (qTile T)

/-- The weighted sums: the accumulator's first 128 rows. -/
def accTop (A : Vec F S144x512 .f32) : Vec F S128x512 .f32 :=
  fun j => A (ix2 ⟨(j 0).val, by have h : (j 0).val < 128 := (j 0).isLt; omega⟩ (j 1))

/-- The sums of the weights: the accumulator's row 128. -/
def accRow (A : Vec F S144x512 .f32) : Vec F S1x512 .f32 := fun j => A (ix2 ⟨128, by omega⟩ (j 1))

/-- The tile that one grid point writes. -/
def outTile (L : Vec F S1x128 .f32) (T N : Vec F S2x128x256 .bf16) (K : Vec F S16384x128 .bf16) (V : Vec F S32x144x512 .bf16)
    (G : Vec F S128x128 .f32) : FVec F S128x256 .bf16 :=
  k0_pay1 (accTop (runAcc K V (qPair T N) 32)) (accRow (runAcc K V (qPair T N) 32)) L G

end Cert.AttnIdeal.Flash

end
-- ==== Proof.Trip.lean ====
module

public import proofs.«01_k».proof.Proof.States
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.Tactic.Stretches
public import Idealize.ShloMosaic.Lib.WholeRead
public import Idealize.ShloMosaic.Lib.Writes
public import Idealize.ShloMosaic.Lib.WordCmp

@[expose] public section

set_option maxRecDepth 16384

noncomputable section

namespace Cert.AttnIdeal.Flash

open Cert.AttnIdeal Cert.AttnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop's trips hold. -/
abbrev loopHeld (c : Dev nD)  (arg6 : Memref sig .tc .vmem S16384x128 .bf16) (harg6 : arg6.IsWhole)
    (arg7 : Memref sig .tc .vmem S32x144x512 .bf16) (harg7 : arg7.IsWhole) (arg10 : Memref sig .tc .vmem S2x128x512 .bf16) (harg10 : arg10.IsWhole)
    (arg11 : Memref sig .tc .vmem S2x512x512 .f32) (arg12 : Memref sig .tc .vmem S144x512 .f32)
    (K : Vec F S16384x128 .bf16) (V : Vec F S32x144x512 .bf16) (Q : Vec F S2x128x512 .bf16) (n : ℕ) : sProp 𝕄 :=
  iprop((arg6.view.loc (c : Thread nD τ) ↦[arg6.view.set]{fullShare} harg6.unread K)
    ∗ (arg7.view.loc (c : Thread nD τ) ↦[arg7.view.set]{fullShare} harg7.unread V)
    ∗ (arg10.view.loc (c : Thread nD τ) ↦[arg10.view.set]{fullShare} harg10.unread Q)
    ∗ (∃ f, (arg11.view.loc (c : Thread nD τ) ↦[arg11.view.set]{fullShare} f)
        ∗ ⌜arg11.view.readAt (Elt F) (Rect.unit (s := S2x512x512) ![0, 0, 0] S1x512x512.size inb_S2x512x512_S1x512x512_0_0_0).toLoadRect f = scoreAt K Q n⌝)
    ∗ (∃ f, (arg12.view.loc (c : Thread nD τ) ↦[arg12.view.set]{fullShare} f)
        ∗ ⌜arg12.view.readAt (Elt F) (Rect.unit (s := S144x512) ![0, 0] S144x512.size inb_S144x512_S144x512_0_0).toLoadRect f = runAcc K V Q n⌝))

/-- Where a contiguous load's element `j` lies along axis `a`. -/
theorem unitIdx {s : Shape} (off size : Fin s.rank → ℕ) (inb) (j : (Rect.unit (s := s) off size inb).toLoadRect.shape.Idx) (a : Fin s.rank) :
    ((Rect.unit (s := s) off size inb).toLoadRect.idx j a).val = off a + (j a).val :=
  congrArg (off a + ·) (Nat.one_mul _)

/-- A load of the rectangle last written gives what was written. -/
theorem readAt_head {sig : RefSig} {Val : EltTy → Type} {κ : Kind} {sp : Space} {s : Shape} {e : EltTy} (v : View sig κ sp s e)
    (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load of 512 rows of the keys, at the offset of chunk `c`. -/
theorem readK (arg6 : Memref sig .tc .vmem S16384x128 .bf16) (harg6 : arg6.IsWhole) (K : Vec F S16384x128 .bf16) (c : ℕ)
    (off : Fin 2 → ℕ) (inb) (h : off = ![512 * (c % 32), 0]) :
    View.readAt (Elt F) arg6.view (Rect.unit (s := S16384x128) off S512x128.size inb).toLoadRect (harg6.unread K) = kChunk K c := by
  subst h
  funext j
  rw [harg6.readAt_unread]
  refine congrArg K (funext fun a => ?_)
  match a with
  | ⟨0, _⟩ => exact Fin.ext (unitIdx _ _ inb j 0)
  | ⟨1, _⟩ => exact Fin.ext ((unitIdx _ _ inb j 1).trans (Nat.zero_add _))

/-- A load of one chunk of the transposed values. -/
theorem readV (arg7 : Memref sig .tc .vmem S32x144x512 .bf16) (harg7 : arg7.IsWhole) (V : Vec F S32x144x512 .bf16) (c : ℕ)
    (off : Fin 3 → ℕ) (inb) (h : off = ![c % 32, 0, 0]) :
    View.readAt (Elt F) arg7.view (Rect.unit (s := S32x144x512) off S1x144x512.size inb).toLoadRect (harg7.unread V) = vChunk V c := by
  subst h
  funext j
  rw [harg7.readAt_unread]
  refine congrArg V (funext fun a => ?_)
  have h0 : (j 0).val < 1 := (j 0).isLt
  match a with
  | ⟨0, _⟩ => exact Fin.ext ((unitIdx _ _ inb j 0).trans (show c % 32 + (j 0).val = c % 32 by omega))
  | ⟨1, _⟩ => exact Fin.ext ((unitIdx _ _ inb j 1).trans (Nat.zero_add _))
  | ⟨2, _⟩ => exact Fin.ext ((unitIdx _ _ inb j 2).trans (Nat.zero_add _))

/-- A load of one half of the query scratch. -/
theorem readQ (arg10 : Memref sig .tc .vmem S2x128x512 .bf16) (harg10 : arg10.IsWhole) (Q : Vec F S2x128x512 .bf16) (h2 : Fin 2)
    (off : Fin 3 → ℕ) (inb) (h : off = ![h2.val, 0, 0]) :
    View.readAt (Elt F) arg10.view (Rect.unit (s := S2x128x512) off S1x128x512.size inb).toLoadRect (harg10.unread Q)
      = fun j => Q (ix3 h2 (j 1) (j 2)) := by
  subst h
  funext j
  rw [harg10.readAt_unread]
  have h0 : (j 0).val < 1 := (j 0).isLt
  refine congrArg Q (funext fun a => ?_)
  match a with
  | ⟨0, _⟩ => exact Fin.ext ((unitIdx _ _ inb j 0).trans (show h2.val + (j 0).val = h2.val by omega))
  | ⟨1, _⟩ => exact Fin.ext ((unitIdx _ _ inb j 1).trans (Nat.zero_add _))
  | ⟨2, _⟩ => exact Fin.ext ((unitIdx _ _ inb j 2).trans (Nat.zero_add _))

/-- The row at which the `u`-th chunk of trip `k` loads keys. -/
theorem off1_all : ∀ (k : Fin k0_t1_loop.trips) (u : Fin 16) (a : Fin 2),
    k0_off1 k (BitVec.ofNat 32 u.val) a = (![512 * ((16 * k.val + u.val + 1) % 32), 0] : Fin 2 → ℕ) a := by decide +kernel

/-- The half of the query scratch that it loads. -/
theorem off2_all : ∀ (k : Fin k0_t1_loop.trips) (u : Fin 16) (a : Fin 3),
    k0_off2 k (BitVec.ofNat 32 u.val) a = (![if 16 * k.val + u.val + 1 = 32 then 1 else 0, 0, 0] : Fin 3 → ℕ) a := by decide +kernel

/-- The chunk of values that it loads. -/
theorem off3_all : ∀ (k : Fin k0_t1_loop.trips) (u : Fin 16) (a : Fin 3),
    k0_off3 k (BitVec.ofNat 32 u.val) a = (![(16 * k.val + u.val) % 32, 0, 0] : Fin 3 → ℕ) a := by decide +kernel

/-- In trip `k`, the `u`-th of its sixteen chunks loads the keys of the chunk after it. -/
theorem tripK (arg6 : Memref sig .tc .vmem S16384x128 .bf16) (harg6 : arg6.IsWhole) (K : Vec F S16384x128 .bf16)
    (k : Fin k0_t1_loop.trips) (u : ℕ) (inb) (hu : u < 16) :
    View.readAt (Elt F) arg6.view (Rect.unit (s := S16384x128) (k0_off1 k (BitVec.ofNat 32 u)) S512x128.size inb).toLoadRect (harg6.unread K)
      = kChunk K (16 * k.val + u + 1) :=
  readK arg6 harg6 K _ _ inb (funext (off1_all k ⟨u, hu⟩))

/-- … its query tile … -/
theorem tripQ (arg10 : Memref sig .tc .vmem S2x128x512 .bf16) (harg10 : arg10.IsWhole) (Q : Vec F S2x128x512 .bf16)
    (k : Fin k0_t1_loop.trips) (u : ℕ) (inb) (hu : u < 16) :
    View.readAt (Elt F) arg10.view (Rect.unit (s := S2x128x512) (k0_off2 k (BitVec.ofNat 32 u)) S1x128x512.size inb).toLoadRect (harg10.unread Q)
      = if 16 * k.val + u + 1 = 32 then nextQ Q else curQ Q := by
  have h := funext (off2_all k ⟨u, hu⟩)
  by_cases hc : 16 * k.val + u + 1 = 32
  · rw [if_pos hc] at h ⊢
    exact readQ arg10 harg10 Q 1 _ inb h
  · rw [if_neg hc] at h ⊢
    exact readQ arg10 harg10 Q 0 _ inb h

/-- … and its own values. -/
theorem tripV (arg7 : Memref sig .tc .vmem S32x144x512 .bf16) (harg7 : arg7.IsWhole) (V : Vec F S32x144x512 .bf16)
    (k : Fin k0_t1_loop.trips) (u : ℕ) (inb) (hu : u < 16) :
    View.readAt (Elt F) arg7.view (Rect.unit (s := S32x144x512) (k0_off3 k (BitVec.ofNat 32 u)) S1x144x512.size inb).toLoadRect (harg7.unread V)
      = vChunk V (16 * k.val + u) :=
  readV arg7 harg7 V _ _ inb (funext (off3_all k ⟨u, hu⟩))

theorem trip (𝒱 : Variants) (c : Dev nD) (bd : Option 𝒱.V) (E : Set ℕ) (i : grid0.Coords)
    (arg3 : Memref sig .tc .vmem S1x128 .f32) (harg3 : arg3.IsWhole) (arg4 : Memref sig .tc .vmem S2x128x256 .bf16) (harg4 : arg4.IsWhole)
    (arg5 : Memref sig .tc .vmem S2x128x256 .bf16) (harg5 : arg5.IsWhole) (arg6 : Memref sig .tc .vmem S16384x128 .bf16) (harg6 : arg6.IsWhole)
    (arg7 : Memref sig .tc .vmem S32x144x512 .bf16) (harg7 : arg7.IsWhole) (arg8 : Memref sig .tc .vmem S128x128 .f32) (harg8 : arg8.IsWhole)
    (arg9 : Memref sig .tc .vmem S128x256 .bf16) (harg9 : arg9.IsWhole) (arg10 : Memref sig .tc .vmem S2x128x512 .bf16) (harg10 : arg10.IsWhole)
    (arg11 : Memref sig .tc .vmem S2x512x512 .f32) (harg11 : arg11.IsWhole) (arg12 : Memref sig .tc .vmem S144x512 .f32) (harg12 : arg12.IsWhole)
    (K : Vec F S16384x128 .bf16) (V : Vec F S32x144x512 .bf16) (Q : Vec F S2x128x512 .bf16) (k : Fin k0_t1_loop.trips) :
    loopHeld c arg6 harg6 arg7 harg7 arg10 harg10 arg11 arg12 K V Q (16 * k.val)
    ⊢ wp frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg12 harg12 k (runMax K Q (16 * k.val)))
        (fun yld => iprop(loopHeld c arg6 harg6 arg7 harg7 arg10 harg10 arg11 arg12 K V Q (16 * (k.val + 1)) ∗ ⌜yld = runMax K Q (16 * (k.val + 1))⌝)) := by
  unfold k0_t1_body
  iintro ⟨HR_arg6, HR_arg7, HR_arg10, ⟨%f11, HW_arg11, %h11⟩, ⟨%f12, HW_arg12, %h12⟩⟩
  sl_exec
  sl_step
  have e1 : trip.sl.r_32 arg6 harg6 arg10 harg10 arg11 K Q k = runMax K Q (16 * k.val + 15 + 1) := by
    sl_open_run
    simp (disch := decide) only [↓ View.readCov_skip, ↓ View.readCov_cons_toLoadRect, ↓ tripK, ↓ tripQ, ↓ tripV]
    simp only [runMax, stepMax, scoreAt]
    sl_open_pay
    rfl
  have e2 : k0_pay84 (trip.sl.r_28 arg6 harg6 arg10 harg10 arg11 K Q k) (trip.sl.r_31 arg6 harg6 arg10 harg10 arg11 K Q k)
      (trip.sl.r_32 arg6 harg6 arg10 harg10 arg11 K Q k)
      (View.readAt (Elt F) arg7.view (Rect.unit (s := S32x144x512) (k0_off3 k 15#32) S1x144x512.size (k0_off3_inb k 15)).toLoadRect (harg7.unread V))
      (trip.sl.v721 arg6 harg6 arg7 harg7 arg10 harg10 arg11 arg12 K V Q k) = runAcc K V Q (16 * k.val + 15 + 1) := by
    sl_open_run
    simp (disch := decide) only [↓ View.readCov_skip, ↓ View.readCov_cons_toLoadRect, ↓ tripK, ↓ tripQ, ↓ tripV]
    simp only [runAcc, stepAcc, runMax, stepMax, scoreAt]
    sl_open_pay
    rfl
  rw [e2]
  have e3 : arg11.view.readAt (Elt F) (Rect.unit (s := S2x512x512) ![0, 0, 0] S1x512x512.size inb_S2x512x512_S1x512x512_0_0_0).toLoadRect
      (arg11.view.writes (Elt F) f11 (trip.sl.HW_arg11_16 arg6 harg6 arg10 harg10 K Q k)) = scoreAt K Q (16 * k.val + 15 + 1) := by
    unfold trip.sl.HW_arg11_16
    refine (readAt_head _ _ _ _ _).trans ?_
    sl_open_run
    simp (disch := decide) only [↓ tripK, ↓ tripQ]
    simp only [scoreAt]
    sl_open_pay
    rfl
  isplitl
  swap
  · ipureintro; exact e1
  isplitl [HR_arg6]; · iexact HR_arg6
  isplitl [HR_arg7]; · iexact HR_arg7
  isplitl [HR_arg10]; · iexact HR_arg10
  isplitl [HW_arg11]
  · iexists _; isplitl [HW_arg11]; · iexact HW_arg11
    ipureintro; exact e3
  iexists _; isplitl [HW_arg12]; · iexact HW_arg12
  ipureintro; exact readAt_head _ _ _ _ _

end Cert.AttnIdeal.Flash

end
-- ==== Proof.Body.lean ====
module

public import proofs.«01_k».proof.Proof.Trip
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.Tactic.Stretches
public import Idealize.ShloMosaic.Lib.WholeRead
public import Idealize.ShloMosaic.Lib.Writes
public import Idealize.ShloMosaic.Lib.WordCmp

@[expose] public section

set_option maxRecDepth 16384

noncomputable section

namespace Cert.AttnIdeal.Flash

open Cert.AttnIdeal Cert.AttnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop's invariant: before trip `k`, sixteen chunks for each trip so far have been absorbed. -/
abbrev loopInvAt (c : Dev nD) (arg6 : Memref sig .tc .vmem S16384x128 .bf16) (harg6 : arg6.IsWhole)
    (arg7 : Memref sig .tc .vmem S32x144x512 .bf16) (harg7 : arg7.IsWhole) (arg10 : Memref sig .tc .vmem S2x128x512 .bf16) (harg10 : arg10.IsWhole)
    (arg11 : Memref sig .tc .vmem S2x512x512 .f32) (arg12 : Memref sig .tc .vmem S144x512 .f32)
    (K : Vec F S16384x128 .bf16) (V : Vec F S32x144x512 .bf16) (Q : Vec F S2x128x512 .bf16) (k : ℕ) (acc : FVec F S1x512 .f32) : sProp 𝕄 :=
  iprop(loopHeld c arg6 harg6 arg7 harg7 arg10 harg10 arg11 arg12 K V Q (16 * k) ∗ ⌜acc = runMax K Q (16 * k)⌝)

theorem loop_step (𝒱 : Variants) (c : Dev nD) (bd : Option 𝒱.V) (E : Set ℕ) (i : grid0.Coords)
    (arg3 : Memref sig .tc .vmem S1x128 .f32) (harg3 : arg3.IsWhole) (arg4 : Memref sig .tc .vmem S2x128x256 .bf16) (harg4 : arg4.IsWhole)
    (arg5 : Memref sig .tc .vmem S2x128x256 .bf16) (harg5 : arg5.IsWhole) (arg6 : Memref sig .tc .vmem S16384x128 .bf16) (harg6 : arg6.IsWhole)
    (arg7 : Memref sig .tc .vmem S32x144x512 .bf16) (harg7 : arg7.IsWhole) (arg8 : Memref sig .tc .vmem S128x128 .f32) (harg8 : arg8.IsWhole)
    (arg9 : Memref sig .tc .vmem S128x256 .bf16) (harg9 : arg9.IsWhole) (arg10 : Memref sig .tc .vmem S2x128x512 .bf16) (harg10 : arg10.IsWhole)
    (arg11 : Memref sig .tc .vmem S2x512x512 .f32) (harg11 : arg11.IsWhole) (arg12 : Memref sig .tc .vmem S144x512 .f32) (harg12 : arg12.IsWhole)
    (K : Vec F S16384x128 .bf16) (V : Vec F S32x144x512 .bf16) (Q : Vec F S2x128x512 .bf16) (k : Fin k0_t1_loop.trips) (acc : FVec F S1x512 .f32) :
    loopInvAt c arg6 harg6 arg7 harg7 arg10 harg10 arg11 arg12 K V Q k acc
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 k acc)
        (loopInvAt c arg6 harg6 arg7 harg7 arg10 harg10 arg11 arg12 K V Q (k.val + 1)) := by
  have h := trip (F := F) 𝒱 c bd E i arg3 harg3 arg4 harg4 arg5 harg5 arg6 harg6 arg7 harg7 arg8 harg8 arg9 harg9 arg10 harg10 arg11 harg11 arg12 harg12 K V Q k
  iintro ⟨H, %hacc⟩
  subst hacc
  iapply h
  iexact H

/-- A load of one row of a pair of half tiles. -/
theorem readHalf (m : Memref sig .tc .vmem S2x128x256 .bf16) (h : m.IsWhole) (T : Vec F S2x128x256 .bf16) (r : Fin 2) (inb) :
    View.readAt (Elt F) m.view (Rect.unit (s := S2x128x256) ![r.val, 0, 0] S1x128x256.size inb).toLoadRect (h.unread T) = half r T := by
  funext j
  rw [h.readAt_unread]
  have h0 : (j 0).val < 1 := (j 0).isLt
  refine congrArg T (funext fun a => ?_)
  match a with
  | ⟨0, _⟩ => exact Fin.ext ((unitIdx _ _ inb j 0).trans (show r.val + (j 0).val = r.val by omega))
  | ⟨1, _⟩ => exact Fin.ext ((unitIdx _ _ inb j 1).trans (Nat.zero_add _))
  | ⟨2, _⟩ => exact Fin.ext ((unitIdx _ _ inb j 2).trans (Nat.zero_add _))

/-- … its first row … -/
theorem readHalf0 (m : Memref sig .tc .vmem S2x128x256 .bf16) (h : m.IsWhole) (T : Vec F S2x128x256 .bf16) (inb) :
    View.readAt (Elt F) m.view (Rect.unit (s := S2x128x256) ![0, 0, 0] S1x128x256.size inb).toLoadRect (h.unread T) = half 0 T :=
  readHalf m h T 0 inb

/-- … and its second. -/
theorem readHalf1 (m : Memref sig .tc .vmem S2x128x256 .bf16) (h : m.IsWhole) (T : Vec F S2x128x256 .bf16) (inb) :
    View.readAt (Elt F) m.view (Rect.unit (s := S2x128x256) ![1, 0, 0] S1x128x256.size inb).toLoadRect (h.unread T) = half 1 T :=
  readHalf m h T 1 inb

/-- The query scratch after both of its halves have been stored. -/
theorem stored_pair (m : Memref sig .tc .vmem S2x128x512 .bf16) (h : m.IsWhole) (f : m.view.ty.Contents (Elt F)) (T N : Vec F S2x128x256 .bf16)
    (i0 i1) :
    m.view.writes (Elt F) f [⟨Rect.unit (s := S2x128x512) ![1, 0, 0] S1x128x512.size i1, qTile N⟩,
      ⟨Rect.unit (s := S2x128x512) ![0, 0, 0] S1x128x512.size i0, qTile T⟩] = h.unread (qPair T N) := by
  refine h.eq_unread (funext fun j => ?_)
  have h0 : (j 0).val < 2 := (j 0).isLt
  unfold qPair
  by_cases hj : (j 0).val = 0
  · rw [if_pos hj, View.read_writes_cons_miss_of_axis _ _ _ _ j 0 1 1 rfl rfl rfl (by omega)]
    refine View.read_writes_cons_hit_of_coords m.view f (Rect.unit (s := S2x128x512) ![0, 0, 0] S1x128x512.size i0) (qTile T) []
      (ix3 (n0 := 1) (n1 := 128) (n2 := 512) 0 (j 1) (j 2)) j fun a => ?_
    match a with
    | ⟨0, _⟩ => exact hj
    | ⟨1, _⟩ => show (j 1).val = 0 + 1 * (j 1).val; omega
    | ⟨2, _⟩ => show (j 2).val = 0 + 1 * (j 2).val; omega
  · rw [if_neg hj]
    refine View.read_writes_cons_hit_of_coords m.view f (Rect.unit (s := S2x128x512) ![1, 0, 0] S1x128x512.size i1) (qTile N)
      [⟨Rect.unit (s := S2x128x512) ![0, 0, 0] S1x128x512.size i0, qTile T⟩]
      (ix3 (n0 := 1) (n1 := 128) (n2 := 512) 0 (j 1) (j 2)) j fun a => ?_
    match a with
    | ⟨0, _⟩ => show (j 0).val = 1 + 1 * 0; omega
    | ⟨1, _⟩ => show (j 1).val = 0 + 1 * (j 1).val; omega
    | ⟨2, _⟩ => show (j 2).val = 0 + 1 * (j 2).val; omega

/-- The second payload that packs a query tile is the first. -/
theorem pay80_eq (a b : Vec F S1x128x256 .bf16) : k0_pay80 a b = k0_pay79 a b := rfl

/-- Before the first chunk the ready scores are those of the first chunk. -/
theorem scoreAt_zero (K : Vec F S16384x128 .bf16) (T N : Vec F S2x128x256 .bf16) : scoreAt K (qPair T N) 0 = firstScores K T := by
  unfold scoreAt firstScores
  rw [if_neg (by decide), curQ_qPair]

/-- Behind the last chunk they are the first chunk's against the next tile. -/
theorem scoreAt_last (K : Vec F S16384x128 .bf16) (T N : Vec F S2x128x256 .bf16) : scoreAt K (qPair T N) 32 = firstScores K N := by
  unfold scoreAt firstScores
  rw [if_pos rfl, nextQ_qPair]
  rfl

/-- A load of a whole rank-2 memref gives what it holds. -/
theorem readWhole {n0 n1 : ℕ} {e : EltTy} (m : Memref sig .tc .vmem ⟨2, ![n0, n1]⟩ e) (h : m.IsWhole) (X : Vec F ⟨2, ![n0, n1]⟩ e) (inb) :
    View.readAt (Elt F) m.view (Rect.unit (s := ⟨2, ![n0, n1]⟩) ![0, 0] ![n0, n1] inb).toLoadRect (h.unread X) = X := by
  funext j
  rw [h.readAt_unread]
  refine congrArg X (funext fun a => ?_)
  match a with
  | ⟨0, _⟩ => exact Fin.ext ((unitIdx _ _ inb j 0).trans (Nat.zero_add _))
  | ⟨1, _⟩ => exact Fin.ext ((unitIdx _ _ inb j 1).trans (Nat.zero_add _))

/-- A load of some rows of the accumulator reads those rows of what a load of the whole of it gives. -/
theorem readRows (m : Memref sig .tc .vmem S144x512 .f32) (g : m.view.ty.Contents (Elt F)) (A : Vec F S144x512 .f32)
    (hA : m.view.readAt (Elt F) (Rect.unit (s := S144x512) ![0, 0] S144x512.size inb_S144x512_S144x512_0_0).toLoadRect g = A)
    (o n : ℕ) (inb) (j : (Rect.unit (s := S144x512) ![o, 0] ![n, 512] inb).toLoadRect.shape.Idx) (y : S144x512.Idx)
    (h0 : (y 0).val = o + (j 0).val) (h1 : (y 1).val = (j 1).val) :
    m.view.readAt (Elt F) (Rect.unit (s := S144x512) ![o, 0] ![n, 512] inb).toLoadRect g j = A y := by
  refine Eq.trans (congrArg (m.view.read (Elt F) g) (funext fun a => ?_)) (congrFun hA y)
  match a with
  | ⟨0, _⟩ =>
    refine Fin.ext ((unitIdx _ _ inb j 0).trans ?_)
    show o + (j 0).val = 0 + 1 * (y 0).val
    omega
  | ⟨1, _⟩ =>
    refine Fin.ext ((unitIdx _ _ inb j 1).trans ?_)
    show 0 + (j 1).val = 0 + 1 * (y 1).val
    omega

/-- The result window after the point's store. -/
theorem stored_tile (arg3 : Memref sig .tc .vmem S1x128 .f32) (harg3 : arg3.IsWhole) (arg8 : Memref sig .tc .vmem S128x128 .f32) (harg8 : arg8.IsWhole)
    (arg9 : Memref sig .tc .vmem S128x256 .bf16) (harg9 : arg9.IsWhole) (arg12 : Memref sig .tc .vmem S144x512 .f32)
    (f : arg9.view.ty.Contents (Elt F)) (g : arg12.view.ty.Contents (Elt F)) (A : Vec F S144x512 .f32)
    (hA : arg12.view.readAt (Elt F) (Rect.unit (s := S144x512) ![0, 0] S144x512.size inb_S144x512_S144x512_0_0).toLoadRect g = A)
    (L : Vec F S1x128 .f32) (G : Vec F S128x128 .f32) :
    arg9.view.writes (Elt F) f [⟨Rect.unit (s := S128x256) ![0, 0] S128x256.size inb_S128x256_S128x256_0_0,
        k0_pay1
          (View.readAt (Elt F) arg12.view (Rect.unit (s := S144x512) ![0, 0] S128x512.size inb_S144x512_S128x512_0_0).toLoadRect g)
          (View.readAt (Elt F) arg12.view (Rect.unit (s := S144x512) ![128, 0] S1x512.size inb_S144x512_S1x512_128_0).toLoadRect g)
          (View.readAt (Elt F) arg3.view (Rect.unit (s := S1x128) ![0, 0] S1x128.size inb_S1x128_S1x128_0_0).toLoadRect (harg3.unread L))
          (View.readAt (Elt F) arg8.view (Rect.unit (s := S128x128) ![0, 0] S128x128.size inb_S128x128_S128x128_0_0).toLoadRect (harg8.unread G))⟩]
      = harg9.unread (k0_pay1 (accTop A) (accRow A) L G) := by
  have e1 : View.readAt (Elt F) arg12.view (Rect.unit (s := S144x512) ![0, 0] S128x512.size inb_S144x512_S128x512_0_0).toLoadRect g = accTop A :=
    funext fun j => readRows arg12 g A hA 0 128 _ j _ (Nat.zero_add _).symm rfl
  have e2 : View.readAt (Elt F) arg12.view (Rect.unit (s := S144x512) ![128, 0] S1x512.size inb_S144x512_S1x512_128_0).toLoadRect g = accRow A :=
    funext fun j => readRows arg12 g A hA 128 1 _ j _
      (show 128 = 128 + (j 0).val by have h0 : (j 0).val < 1 := (j 0).isLt; omega) rfl
  have e3 := readWhole arg3 harg3 L inb_S1x128_S1x128_0_0
  have e4 := readWhole arg8 harg8 G inb_S128x128_S128x128_0_0
  refine harg9.eq_unread (funext fun j => ?_)
  refine (View.read_writes_cons_hit_of_coords _ _ _ _ _ j j fun a => ?_).trans ?_
  · match a with
    | ⟨0, _⟩ => show (j 0).val = 0 + 1 * (j 0).val; omega
    | ⟨1, _⟩ => show (j 1).val = 0 + 1 * (j 1).val; omega
  · exact congrFun (congr (congr (congr (congrArg k0_pay1 e1) e2) e3) e4) j

/-- The loop makes two trips. -/
theorem trips_eq : Scf.trips k0_t1_loop.lb k0_t1_loop.ub k0_t1_loop.st = 2 := by decide +kernel

/-- The result tile and the scratch after the loop. -/
theorem body_triple (𝒱 : Variants) (c : Dev nD) (bd : Option 𝒱.V) (E : Set ℕ) (i : grid0.Coords)
    (arg3 : Memref sig .tc .vmem S1x128 .f32) (harg3 : arg3.IsWhole) (arg4 : Memref sig .tc .vmem S2x128x256 .bf16) (harg4 : arg4.IsWhole)
    (arg5 : Memref sig .tc .vmem S2x128x256 .bf16) (harg5 : arg5.IsWhole) (arg6 : Memref sig .tc .vmem S16384x128 .bf16) (harg6 : arg6.IsWhole)
    (arg7 : Memref sig .tc .vmem S32x144x512 .bf16) (harg7 : arg7.IsWhole) (arg8 : Memref sig .tc .vmem S128x128 .f32) (harg8 : arg8.IsWhole)
    (arg9 : Memref sig .tc .vmem S128x256 .bf16) (harg9 : arg9.IsWhole) (arg10 : Memref sig .tc .vmem S2x128x512 .bf16) (harg10 : arg10.IsWhole)
    (arg11 : Memref sig .tc .vmem S2x512x512 .f32) (harg11 : arg11.IsWhole) (arg12 : Memref sig .tc .vmem S144x512 .f32) (harg12 : arg12.IsWhole)
    (L : Vec F S1x128 .f32) (T N : Vec F S2x128x256 .bf16) (K : Vec F S16384x128 .bf16) (V : Vec F S32x144x512 .bf16) (G : Vec F S128x128 .f32) :
    (iprop((arg3.view.loc (c : Thread nD τ) ↦[arg3.view.set]{fullShare} harg3.unread L)
      ∗ (arg4.view.loc (c : Thread nD τ) ↦[arg4.view.set]{fullShare} harg4.unread T)
      ∗ (arg5.view.loc (c : Thread nD τ) ↦[arg5.view.set]{fullShare} harg5.unread N)
      ∗ (arg6.view.loc (c : Thread nD τ) ↦[arg6.view.set]{fullShare} harg6.unread K)
      ∗ (arg7.view.loc (c : Thread nD τ) ↦[arg7.view.set]{fullShare} harg7.unread V)
      ∗ (arg8.view.loc (c : Thread nD τ) ↦[arg8.view.set]{fullShare} harg8.unread G)
      ∗ (∃ f, arg9.view.loc (c : Thread nD τ) ↦[arg9.view.set]{fullShare} f)
      ∗ (∃ f, arg10.view.loc (c : Thread nD τ) ↦[arg10.view.set]{fullShare} f)
      ∗ (∃ f, (arg11.view.loc (c : Thread nD τ) ↦[arg11.view.set]{fullShare} f)
          ∗ ⌜¬ k0_cond1 i = 1#1 → arg11.view.readAt (Elt F) (Rect.unit (s := S2x512x512) ![0, 0, 0] S1x512x512.size inb_S2x512x512_S1x512x512_0_0_0).toLoadRect f = firstScores K T⌝)
      ∗ (∃ f, arg12.view.loc (c : Thread nD τ) ↦[arg12.view.set]{fullShare} f)) : sProp 𝕄)
    ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12)
        (fun _ => iprop((arg3.view.loc (c : Thread nD τ) ↦[arg3.view.set]{fullShare} harg3.unread L)
      ∗ (arg4.view.loc (c : Thread nD τ) ↦[arg4.view.set]{fullShare} harg4.unread T)
      ∗ (arg5.view.loc (c : Thread nD τ) ↦[arg5.view.set]{fullShare} harg5.unread N)
      ∗ (arg6.view.loc (c : Thread nD τ) ↦[arg6.view.set]{fullShare} harg6.unread K)
      ∗ (arg7.view.loc (c : Thread nD τ) ↦[arg7.view.set]{fullShare} harg7.unread V)
      ∗ (arg8.view.loc (c : Thread nD τ) ↦[arg8.view.set]{fullShare} harg8.unread G)
      ∗ (arg9.view.loc (c : Thread nD τ) ↦[arg9.view.set]{fullShare} harg9.unread (outTile L T N K V G))
      ∗ (∃ f, arg10.view.loc (c : Thread nD τ) ↦[arg10.view.set]{fullShare} f)
      ∗ (∃ f, (arg11.view.loc (c : Thread nD τ) ↦[arg11.view.set]{fullShare} f)
          ∗ ⌜arg11.view.readAt (Elt F) (Rect.unit (s := S2x512x512) ![0, 0, 0] S1x512x512.size inb_S2x512x512_S1x512x512_0_0_0).toLoadRect f = firstScores K N⌝)
      ∗ (∃ f, arg12.view.loc (c : Thread nD τ) ↦[arg12.view.set]{fullShare} f))) := by
  iintro ⟨HR_arg3, HR_arg4, HR_arg5, HR_arg6, HR_arg7, HR_arg8, ⟨%f9, HW_arg9⟩, ⟨%f10, HW_arg10⟩, ⟨%f11, HW_arg11, %h11⟩, ⟨%f12, HW_arg12⟩⟩
  sl_unfold [cc0_diff_attn]
  by_cases hc : k0_cond1 i = 1#1
  · sl_exec
    have e10 : arg10.view.writes (Elt F) arg10.view.junk (body_triple.sl.HW_arg10_2 arg4 harg4 arg5 harg5 T N) = harg10.unread (qPair T N) := by
      sl_open_run
      rw [readHalf0 _ harg4 T, readHalf1 _ harg4 T, readHalf0 _ harg5 N, readHalf1 _ harg5 N, pay80_eq]
      exact stored_pair arg10 harg10 arg10.view.junk T N _ _
    have e12 : arg12.view.readAt (Elt F) (Rect.unit (s := S144x512) ![0, 0] S144x512.size inb_S144x512_S144x512_0_0).toLoadRect
        (arg12.view.writes (Elt F) arg12.view.junk body_triple.sl.HW_arg12_1) = runAcc K V (qPair T N) 0 := by
      unfold body_triple.sl.HW_arg12_1
      exact readAt_head _ _ _ _ _
    rw [e10]
    generalize arg12.view.writes (Elt F) arg12.view.junk body_triple.sl.HW_arg12_1 = f12' at e12 ⊢
    sl_for (loopInvAt c arg6 harg6 arg7 harg7 arg10 harg10 arg11 arg12 K V (qPair T N)) $$ [HR_arg6 HR_arg7 HW_arg10 HW_arg11 HW_arg12]
    · intro k acc
      exact loop_step 𝒱 c bd E i arg3 harg3 arg4 harg4 arg5 harg5 arg6 harg6 arg7 harg7 arg8 harg8 arg9 harg9 arg10 harg10 arg11 harg11 arg12 harg12 K V (qPair T N) k acc
    · isplitl
      swap
      · ipureintro; rfl
      isplitl [HR_arg6]; · iexact HR_arg6
      isplitl [HR_arg7]; · iexact HR_arg7
      isplitl [HW_arg10]; · iexact HW_arg10
      isplitl [HW_arg11]
      · iexists _; isplitl [HW_arg11]; · iexact HW_arg11
        ipureintro
        refine (readAt_head _ _ _ _ _).trans ?_
        rw [scoreAt_zero]
        have eK := readK arg6 harg6 K 0 ![0, 0] inb_S16384x128_S512x128_0_0 rfl
        sl_open_run
        rw [eK, readHalf0 _ harg4 T, readHalf1 _ harg4 T]
        simp (disch := decide) only [↓ View.readCov_skip, ↓ View.readCov_cons_toLoadRect]
        rfl
      iexists _; isplitl [HW_arg12]; · iexact HW_arg12
      ipureintro; exact e12
    iintro %acc ⟨⟨HR_arg6, HR_arg7, HW_arg10, ⟨%g11, HW_arg11, %k11⟩, ⟨%g12, HW_arg12, %k12⟩⟩, %hacc⟩
    sl_exec
    sl_step
    rw [trips_eq] at k11 k12
    rw [stored_tile arg3 harg3 arg8 harg8 arg9 harg9 arg12 f9 g12 _ k12 L G]
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HW_arg9]; · iexact HW_arg9
    isplitl [HW_arg10]; · iexists _; iexact HW_arg10
    isplitl [HW_arg11]
    · iexists _; isplitl [HW_arg11]; · iexact HW_arg11
      ipureintro; exact k11.trans (scoreAt_last K T N)
    iexists _; iexact HW_arg12
  · sl_exec
    have e10 : arg10.view.writes (Elt F) arg10.view.junk (body_triple.sl.HW_arg10_2_1 arg4 harg4 arg5 harg5 T N) = harg10.unread (qPair T N) := by
      sl_open_run
      rw [readHalf0 _ harg4 T, readHalf1 _ harg4 T, readHalf0 _ harg5 N, readHalf1 _ harg5 N, pay80_eq]
      exact stored_pair arg10 harg10 arg10.view.junk T N _ _
    have e11 := (h11 hc).trans (scoreAt_zero K T N).symm
    have e12 : arg12.view.readAt (Elt F) (Rect.unit (s := S144x512) ![0, 0] S144x512.size inb_S144x512_S144x512_0_0).toLoadRect
        (arg12.view.writes (Elt F) arg12.view.junk body_triple.sl.HW_arg12_1_1) = runAcc K V (qPair T N) 0 := by
      unfold body_triple.sl.HW_arg12_1_1
      exact readAt_head _ _ _ _ _
    rw [e10]
    generalize arg12.view.writes (Elt F) arg12.view.junk body_triple.sl.HW_arg12_1_1 = f12' at e12 ⊢
    sl_for (loopInvAt c arg6 harg6 arg7 harg7 arg10 harg10 arg11 arg12 K V (qPair T N)) $$ [HR_arg6 HR_arg7 HW_arg10 HW_arg11 HW_arg12]
    · intro k acc
      exact loop_step 𝒱 c bd E i arg3 harg3 arg4 harg4 arg5 harg5 arg6 harg6 arg7 harg7 arg8 harg8 arg9 harg9 arg10 harg10 arg11 harg11 arg12 harg12 K V (qPair T N) k acc
    · isplitl
      swap
      · ipureintro; rfl
      isplitl [HR_arg6]; · iexact HR_arg6
      isplitl [HR_arg7]; · iexact HR_arg7
      isplitl [HW_arg10]; · iexact HW_arg10
      isplitl [HW_arg11]
      · iexists _; isplitl [HW_arg11]; · iexact HW_arg11
        ipureintro; exact e11
      iexists _; isplitl [HW_arg12]; · iexact HW_arg12
      ipureintro; exact e12
    iintro %acc ⟨⟨HR_arg6, HR_arg7, HW_arg10, ⟨%g11, HW_arg11, %k11⟩, ⟨%g12, HW_arg12, %k12⟩⟩, %hacc⟩
    sl_exec
    sl_step
    rw [trips_eq] at k11 k12
    rw [stored_tile arg3 harg3 arg8 harg8 arg9 harg9 arg12 f9 g12 _ k12 L G]
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HW_arg9]; · iexact HW_arg9
    isplitl [HW_arg10]; · iexists _; iexact HW_arg10
    isplitl [HW_arg11]
    · iexists _; isplitl [HW_arg11]; · iexact HW_arg11
      ipureintro; exact k11.trans (scoreAt_last K T N)
    iexists _; iexact HW_arg12

end Cert.AttnIdeal.Flash

end
-- ==== Proof.Run.lean ====
/-
  The run of the attention call. The pipeline's proof data: each input's buffer holds its block, the result's buffer is
  left at `outTile` of the point's blocks, and between two points the score scratch already holds the first scores of
  the coming point's query tile, unless that point is the first of its sequence. From the body's triple, the run of
  the whole call and its frame.
-/
module

public import proofs.«01_k».proof.Proof.Body
public import proofs.«01_k».proof.Proof.Gen.AttnIdeal.Frame
public import proofs.«01_k».proof.Proof.Gen.AttnIdeal.Skeleton
public import Idealize.ShloMosaic.Lib.Tactic
public import Idealize.ShloMosaic.PureOps.BitExact

@[expose] public section

set_option maxRecDepth 16384

noncomputable section

namespace Cert.AttnIdeal.Flash

open Cert.AttnIdeal Cert.AttnIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-! ## The blocks of a point -/

/-- The row of lambda at a point. -/
abbrev lamB (c : Dev nD) (t : Fin cfg0.N) : Vec F S1x128 .f32 := iblk m c 0 t
/-- The query tile of a point, as its two masked halves. -/
abbrev tileB (c : Dev nD) (t : Fin cfg0.N) : Vec F S2x128x256 .bf16 := iblk m c 1 t
/-- The query tile after it. -/
abbrev nextB (c : Dev nD) (t : Fin cfg0.N) : Vec F S2x128x256 .bf16 := iblk m c 2 t
/-- The keys of a point's sequence and head. -/
abbrev keyB (c : Dev nD) (t : Fin cfg0.N) : Vec F S16384x128 .bf16 := iblk m c 3 t
/-- The values of a point's sequence and head, with the rows of ones. -/
abbrev valB (c : Dev nD) (t : Fin cfg0.N) : Vec F S32x144x512 .bf16 := iblk m c 4 t
/-- The gain at a point. -/
abbrev gainB (c : Dev nD) (t : Fin cfg0.N) : Vec F S128x128 .f32 := iblk m c 5 t

/-- What the point leaves in the result's buffer. -/
def outAt (c : Dev nD) (t : Fin cfg0.N) : Vec F S128x256 .bf16 :=
  outTile (lamB m c t) (tileB m c t) (nextB m c t) (keyB m c t) (valB m c t) (gainB m c t)

/-- The tile of queries at given block indices. -/
def tileOf (c : Dev nD) (ix : Fin 3 → ℕ) (h : ∀ a, (ix a + 1) * S2x128x256.size a ≤ S2x512x32768.size a) : Vec F S2x128x256 .bf16 :=
  ((Memref.whole (κ := .tc) main_v15).slice (Rect.block (s := S2x512x32768) S2x128x256.size ix h) fun _ => rfl).view.read (Elt F) (V m c main_v15)

/-- The keys at given block indices. -/
def keyOf (c : Dev nD) (ix : Fin 2 → ℕ) (h : ∀ a, (ix a + 1) * S16384x128.size a ≤ S32768x512.size a) : Vec F S16384x128 .bf16 :=
  ((Memref.whole (κ := .tc) main_v17).slice (Rect.block (s := S32768x512) S16384x128.size ix h) fun _ => rfl).view.read (Elt F) (V m c main_v17)

theorem tileOf_congr (c : Dev nD) {ix ix' : Fin 3 → ℕ} (e : ix = ix') (h h') : tileOf m c ix h = tileOf m c ix' h' := by subst e; rfl
theorem keyOf_congr (c : Dev nD) {ix ix' : Fin 2 → ℕ} (e : ix = ix') (h h') : keyOf m c ix h = keyOf m c ix' h' := by subst e; rfl

/-- Within one sequence the coming point's tile is this point's next tile, and the keys stay. -/
theorem next_point : ∀ t : Fin grid0.N, ∀ h : t.val + 1 < grid0.N, ¬ k0_cond1 (grid0.coords ⟨t.val + 1, h⟩) = 1#1 →
    cc0_transform_1 (grid0.coords ⟨t.val + 1, h⟩) = cc0_transform_2 (grid0.coords t)
    ∧ cc0_transform_3 (grid0.coords ⟨t.val + 1, h⟩) = cc0_transform_3 (grid0.coords t) := by decide +kernel

/-- The first point starts a sequence. -/
theorem first_point : ∀ h : 0 < grid0.N, k0_cond1 (grid0.coords ⟨0, h⟩) = 1#1 := by decide +kernel

theorem tile_next (c : Dev nD) (t : Fin cfg0.N) (h : t.val + 1 < cfg0.N) (hc : ¬ k0_cond1 (grid0.coords ⟨t.val + 1, h⟩) = 1#1) :
    tileB m c ⟨t.val + 1, h⟩ = nextB m c t :=
  tileOf_congr m c (next_point t h hc).1 (hinb0_1 _) (hinb0_2 _)

theorem key_next (c : Dev nD) (t : Fin cfg0.N) (h : t.val + 1 < cfg0.N) (hc : ¬ k0_cond1 (grid0.coords ⟨t.val + 1, h⟩) = 1#1) :
    keyB m c ⟨t.val + 1, h⟩ = keyB m c t :=
  keyOf_congr m c (next_point t h hc).2 (hinb0_3 _) (hinb0_3 _)

/-! ## The proof data -/

/-- The first slot of the score scratch. -/
abbrev slot0 (f : Buf (Elt F) ((Memref.whole (κ := .tc) cc0_scratch1).view.loc ((0 : Dev nD) : Thread nD τ))) : Vec F S1x512x512 .f32 :=
  (Memref.whole (κ := .tc) cc0_scratch1).view.readAt (Elt F)
    (Rect.unit (s := S2x512x512) ![0, 0, 0] S1x512x512.size inb_S2x512x512_S1x512x512_0_0_0).toLoadRect f

/-- Before point `t` the first slot holds the point's first scores, unless the point starts a sequence. -/
def Carried (c : Dev nD) (t : Fin (cfg0.N + 1)) (f : S2x512x512.Idx → Elt F .f32) : Prop :=
  ∀ h : t.val < cfg0.N, ¬ k0_cond1 (grid0.coords ⟨t.val, h⟩) = 1#1 →
    slot0 (F := F) f = firstScores (keyB m c ⟨t.val, h⟩) (tileB m c ⟨t.val, h⟩)

/-- What the body holds between two points beside its windows: the three scratch buffers and the generator register. -/
def between (c : Dev nD) (t : Fin (cfg0.N + 1)) : sProp 𝕄 :=
  iprop((∃ f, (Memref.whole (κ := .tc) cc0_scratch0).view.loc (c : Thread nD τ) ↦[(Memref.whole (κ := .tc) cc0_scratch0).view.set]{fullShare} f)
    ∗ (∃ f, ((Memref.whole (κ := .tc) cc0_scratch1).view.loc (c : Thread nD τ) ↦[(Memref.whole (κ := .tc) cc0_scratch1).view.set]{fullShare} f) ∗ ⌜Carried m c t f⌝)
    ∗ (∃ f, (Memref.whole (κ := .tc) cc0_scratch2).view.loc (c : Thread nD τ) ↦[(Memref.whole (κ := .tc) cc0_scratch2).view.set]{fullShare} f)
    ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := between m c t
  q w := Pipeline.shareOf spec0 w
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What is carried into a point is what its body asks for. -/
theorem carried_here (c : Dev nD) (t : Fin cfg0.N) (f) (h : Carried m c t.castSucc f) :
    ¬ k0_cond1 (grid0.coords t) = 1#1 → slot0 (F := F) f = firstScores (keyB m c t) (tileB m c t) :=
  fun hc => h t.isLt hc

/-- What the body leaves is what is carried into the coming point. -/
theorem carried_next (c : Dev nD) (t : Fin cfg0.N) (f) (h : slot0 (F := F) f = firstScores (keyB m c t) (nextB m c t)) :
    Carried m c t.succ f := by
  intro hn hc
  have hn' : t.val + 1 < cfg0.N := hn
  have e1 := tile_next m c t hn' hc
  have e2 := key_next m c t hn' hc
  exact h.trans (by rw [← e1, ← e2]; rfl)

/-! ## The body obligation -/

set_option maxHeartbeats 2000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4, before_5]
  rw [show (dats m 0 c).Φ t.succ = between m c t.succ from rfl, show (dats m 0 c).Φ t.castSucc = between m c t.castSucc from rfl,
    show (dats m 0 c).owesAt () t.succ = (dats m 0 c).owesAt () t.castSucc from rfl,
    after_0, after_1, after_2, after_3, after_4, after_5, after_6]
  unfold between owns
  iintro ⟨⟨H10, ⟨%f11, H11, %hf11⟩, H12, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  obtain rfl := (hstage0_3 ((cfg0.slots t 3).cast nbuf0_3)).eq_unread hf3
  obtain rfl := (hstage0_4 ((cfg0.slots t 4).cast nbuf0_4)).eq_unread hf4
  obtain rfl := (hstage0_5 ((cfg0.slots t 5).cast nbuf0_5)).eq_unread hf5
  iapply ((sep_mono (body_triple 𝒱₀ c none Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _)
    (Memref.whole cc0_scratch1) (Memref.isWhole_whole _)
    (Memref.whole cc0_scratch2) (Memref.isWhole_whole _)
    (lamB m c t) (tileB m c t) (nextB m c t) (keyB m c t) (valB m c t) (gainB m c t)) .rfl).trans
    (wp_wand_r frame (wpE (defs₀ (F := F)) 𝒱₀ (c : Thread nD τ) none) Set.univ))
  isplitl [H0 H1 H2 H3 H4 H5 H6 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H10]; · iexact H10
    isplitl [H11]
    · iexists _; isplitl [H11]; · iexact H11
      ipureintro; exact carried_here m c t f11 hf11
    iexact H12
  iintro %u ⟨H0, H1, H2, H3, H4, H5, H6, H10, ⟨%g11, H11, %hg11⟩, H12⟩
  isplitl [H10 H11 H12 Hr]
  · isplitl [H10]; · iexact H10
    isplitl [H11]
    · iexists _; isplitl [H11]; · iexact H11
      ipureintro; exact carried_next m c t g11 hg11
    isplitl [H12]; · iexact H12
    iexact Hr
  isplitl [Ho]; · iexact Ho
  isplitl [H0]
  · iexists _; isplitr; swap; · iexact H0
    ipureintro; exact (hstage0_0 ((cfg0.slots t 0).cast nbuf0_0)).read_unread _
  isplitl [H1]
  · iexists _; isplitr; swap; · iexact H1
    ipureintro; exact (hstage0_1 ((cfg0.slots t 1).cast nbuf0_1)).read_unread _
  isplitl [H2]
  · iexists _; isplitr; swap; · iexact H2
    ipureintro; exact (hstage0_2 ((cfg0.slots t 2).cast nbuf0_2)).read_unread _
  isplitl [H3]
  · iexists _; isplitr; swap; · iexact H3
    ipureintro; exact (hstage0_3 ((cfg0.slots t 3).cast nbuf0_3)).read_unread _
  isplitl [H4]
  · iexists _; isplitr; swap; · iexact H4
    ipureintro; exact (hstage0_4 ((cfg0.slots t 4).cast nbuf0_4)).read_unread _
  isplitl [H5]
  · iexists _; isplitr; swap; · iexact H5
    ipureintro; exact (hstage0_5 ((cfg0.slots t 5).cast nbuf0_5)).read_unread _
  iexists _; isplitr; swap; · iexact H6
  ipureintro; exact (hstage0_6 ((cfg0.slots t 6).cast nbuf0_6)).read_unread _

/-! ## The run and the frame -/

/-- Before the first point nothing is carried: the scratch may hold anything. -/
theorem enter (c : Dev nD) : ΦA spec0 c ⊢ (dats (F := F) m 0 c).Φ 0 := by
  rw [show (dats (F := F) m 0 c).Φ 0 = between m c 0 from rfl]
  unfold Pipeline.ΦA between
  rw [scopedRest0_eq]
  simp only [Memref.view_whole, View.set_whole]
  iintro ⟨⟨⟨%f10, H10⟩, ⟨%f11, H11⟩, ⟨%f12, H12⟩⟩, Hr⟩
  isplitl [H10]; · iexists f10; iexact H10
  isplitl [H11]
  · iexists f11; isplitl [H11]; · iexact H11
    ipureintro; exact fun h hc => absurd (first_point h) hc
  isplitl [H12]; · iexists f12; iexact H12
  iexact Hr

/-- After the last point the scratch is given back. -/
theorem leave (c : Dev nD) : (dats (F := F) m 0 c).Φ (Fin.last cfg0.N) ⊢ ΦA spec0 c := by
  rw [show (dats (F := F) m 0 c).Φ (Fin.last cfg0.N) = between m c (Fin.last cfg0.N) from rfl]
  unfold Pipeline.ΦA between
  rw [scopedRest0_eq]
  simp only [Memref.view_whole, View.set_whole]
  iintro ⟨⟨%f10, H10⟩, ⟨%f11, H11, -⟩, ⟨%f12, H12⟩, Hr⟩
  isplitl [H10 H11 H12]
  · isplitl [H10]; · iexists f10; iexact H10
    isplitl [H11]; · iexists f11; iexact H11
    iexists f12; iexact H12
  iexact Hr

set_option backward.isDefEq.respectTransparency.types false in
/-- From any memory with zero counters the call terminates, its arrays hold what the proof data say, and every counter ends at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl)
    (hin := fun c => enter m c) (hout := fun c => leave m c)

/-- The frame: the call terminates with its five arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.AttnIdeal.Flash

end
-- ==== Proof.Printed.lean ====
/-
  The frame of the program as printed. No rule was applied to it, so its text is the idealized program's, and the run
  proved for every float arithmetic holds of it.
-/
module

public import proofs.«01_k».proof.Proof.Run
public import proofs.«01_k».proof.Proof.Gen.Attn
public import proofs.«01_k».proof.Proof.Gen.Pre_finite
public import proofs.«01_k».proof.Defs

@[expose] public section

set_option maxRecDepth 65536

noncomputable section

namespace Cert.Proof

open Idealize.ShloMosaic Idealize.SL.Sem

set_option maxHeartbeats 20000000 in
theorem main_eq : @Cert.Attn.main Bits _ Cert.Attn.Gen.facts = @Cert.AttnIdeal.main Bits _ Cert.AttnIdeal.Gen.facts := rfl

set_option maxHeartbeats 2000000 in
/-- The two bodies. -/
theorem body_eq : @Cert.Attn.cc0_diff_attn Bits _ Cert.Attn.Gen.facts = @Cert.AttnIdeal.cc0_diff_attn Bits _ Cert.AttnIdeal.Gen.facts := rfl

set_option maxHeartbeats 2000000 in
theorem table_eq : @Cert.Attn.defs₀ Bits _ Cert.Attn.Gen.facts = @Cert.AttnIdeal.defs₀ Bits _ Cert.AttnIdeal.Gen.facts := by
  unfold Cert.Attn.defs₀ Cert.AttnIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

set_option maxHeartbeats 2000000 in
theorem defs_eq : @Cert.Attn.defs Bits _ Cert.Attn.Gen.facts = @Cert.AttnIdeal.defs Bits _ Cert.AttnIdeal.Gen.facts :=
  congrArg (Pipeline.defs (Cert.AttnIdeal.pcfgs (F := Bits))) table_eq

set_option maxHeartbeats 20000000 in
theorem frame_attn : Cert.quiescent_Attn (hAttn := Cert.Attn.Gen.facts) := fun m g _ => by
  rw [main_eq, defs_eq]
  exact Cert.AttnIdeal.Flash.frame_main (F := Bits) m g

end Cert.Proof

end
-- ==== Proof.Frames.lean ====
/- The frames of the idealized call and of the reference. -/
module

public import proofs.«01_k».proof.Proof.Run
public import proofs.«01_k».proof.Proof.Gen.AttnRefIdeal.Run
public import proofs.«01_k».proof.Proof.Gen.Pre_finite
public import proofs.«01_k».proof.Defs
public import Idealize.ShloMosaic.Lib.Claim
public import Idealize.ShloMosaic.Lib.Quiescent

@[expose] public section

set_option maxRecDepth 16384

noncomputable section

namespace Cert.Proof

open Idealize.ShloMosaic Idealize.SL.Sem

theorem frame_ideal : Cert.quiescent_AttnIdeal (hAttnIdeal := Cert.AttnIdeal.Gen.facts) :=
  fun m g _ => Cert.AttnIdeal.Flash.frame_main m g

theorem frame_ideal_pre : Cert.quiescent_AttnIdeal_pre_finite (hAttnIdeal := Cert.AttnIdeal.Gen.facts)
    (hPre_finite := Cert.Pre_finite.Gen.facts) :=
  fun m g _ => Cert.AttnIdeal.Flash.frame_main m g

theorem frame_ref : Cert.quiescent_AttnRefIdeal (hAttnRefIdeal := Cert.AttnRefIdeal.Gen.facts) := by
  intro m g _
  refine θ_run_mono (Cert.AttnRefIdeal.Value.run m g) fun r h => ⟨fun c => (h c).2, ?_⟩
  exact sem_eq_zero_of_no_sems rfl r.2

theorem frame_ref_pre : Cert.quiescent_AttnRefIdeal_pre_finite (hAttnRefIdeal := Cert.AttnRefIdeal.Gen.facts)
    (hPre_finite := Cert.Pre_finite.Gen.facts) :=
  fun m g _ => frame_ref m g trivial

end Cert.Proof

end
-- ==== Proof.Host.lean ====
/-
  The operands that the host prepares for the attention call, read at an entry over the extended reals.
-/
module

public import proofs.«01_k».proof.Proof.Gen.AttnIdeal.Frame
public import proofs.«01_k».proof.Proof.Gen.AttnIdeal.Launch
public import Idealize.ShloMosaic.Lib.Pipeline.ValueKit
public import Idealize.ShloMosaic.Lib.StableHlo.ReadAt

@[expose] public section

set_option maxRecDepth 16384

noncomputable section

namespace Cert.AttnIdeal.Flash

open Idealize.ShloMosaic Idealize.ShloMosaic.TcCoe Idealize.SL.Sem
open Cert.AttnIdeal Cert.AttnIdeal.Gen

variable (m : (ℓ : Loc nD τ sig) → Buf (Elt Ideal) ℓ) (c : Dev nD)

/-! ## The arguments -/

abbrev qA : FVec Ideal S2x16384x512 .f32 := m ((c : Thread nD τ).loc main_arg0)
abbrev kA : FVec Ideal S2x16384x512 .f32 := m ((c : Thread nD τ).loc main_arg1)
abbrev vA : FVec Ideal S2x16384x512 .f32 := m ((c : Thread nD τ).loc main_arg2)
abbrev lA : FVec Ideal S4x64 .f32 := m ((c : Thread nD τ).loc main_arg3)
abbrev gA : FVec Ideal S128 .f32 := m ((c : Thread nD τ).loc main_arg4)

/-- The weight of the second map: the difference of two exponentials of scalar products, plus a fifth. -/
def lamOf (l : FVec Ideal S4x64 .f32) : EReal :=
  Ideal.exp (∑ x : Fin 64, l (ix2 0 x) * l (ix2 1 x)) - Ideal.exp (∑ x : Fin 64, l (ix2 2 x) * l (ix2 3 x))
    + Ideal.ofBits .f32 0x3E4CCCCD#32

/-- The scale of the queries: an eighth over the logarithm of two. -/
def scaleOf : EReal := Ideal.div (Ideal.ofBits .f32 0x3E000000#32) (Ideal.log (Ideal.ofBits .f32 0x40000000#32))

/-- The divisor that the remainder is taken by, guarded against zero. -/
def divisor : BitVec 32 := Scalar.select (IntOp.cmpi .eq 128#32 0#32) 1#32 128#32

/-- Whether a row lies in the first half of its head, as the host's words compute it: the signed remainder by 128,
    made nonnegative, compared with 64. -/
def firstWord (x : BitVec 32) : BitVec 1 :=
  IntOp.cmpi .slt
    (Scalar.select
      (IntOp.andi
        (IntOp.cmpi .ne (IntOp.cmpi .slt (IntOp.remsi ArithUnit.host x divisor) 0#32) (IntOp.cmpi .slt divisor 0#32))
        (IntOp.cmpi .ne (IntOp.remsi ArithUnit.host x divisor) 0#32))
      (IntOp.addi (IntOp.remsi ArithUnit.host x divisor) divisor)
      (IntOp.remsi ArithUnit.host x divisor))
    64#32

theorem firstWord_eq : ∀ d : Fin 512, firstWord (BitVec.ofNat 32 d.val) = if d.val % 128 < 64 then 1#1 else 0#1 := by
  decide +kernel

/-- A choice by that word is a choice by the row. -/
theorem select_first (d : Fin 512) (x y : EReal) :
    Scalar.select (firstWord (BitVec.ofNat 32 d.val)) x y = if d.val % 128 < 64 then x else y := by
  rw [firstWord_eq d]
  split <;> rfl

/-! ## The operands -/

theorem keys_at (p : Fin 32768) (d : Fin 512) : (V m c main_v17 : FVec Ideal S32768x512 .bf16) (ix2 p d)
    = kA m c (ix3 (⟨p.val / 16384, by omega⟩ : Fin 2) (⟨p.val % 16384, by omega⟩ : Fin 16384) d) := by
  unfold V
  simp only [hostOps0, hostOps0_1, hostOps0_2, hostOps0_3, hostOps0_4, hostOps0_5, hostOps0_6, List.flatten_cons, List.flatten_nil, List.append_nil, List.cons_append, List.nil_append]
  after_reads_at

theorem zero_const : (id (constant (F := Ideal) S_ FTy.f32 0#32) ix0 : EReal) = 0 := Ideal.ofBits_zero .f32

theorem queries_left (d : Fin 512) (p : Fin 32768) : (V m c main_v15 : FVec Ideal S2x512x32768 .bf16) (ix3 0 d p)
    = if d.val % 128 < 64 then
        qA m c (ix3 (⟨p.val / 16384, by omega⟩ : Fin 2) (⟨p.val % 16384, by omega⟩ : Fin 16384) d) * scaleOf
      else 0 := by
  rw [← select_first, ← zero_const]
  unfold V
  simp only [hostOps0, hostOps0_1, hostOps0_2, hostOps0_3, hostOps0_4, hostOps0_5, hostOps0_6, List.flatten_cons, List.flatten_nil, List.append_nil, List.cons_append, List.nil_append]
  after_reads_at
  after_reads_at
  rfl

theorem queries_right (d : Fin 512) (p : Fin 32768) : (V m c main_v15 : FVec Ideal S2x512x32768 .bf16) (ix3 1 d p)
    = if d.val % 128 < 64 then 0 else
        qA m c (ix3 (⟨p.val / 16384, by omega⟩ : Fin 2) (⟨p.val % 16384, by omega⟩ : Fin 16384) d) * scaleOf := by
  rw [← select_first, ← zero_const]
  unfold V
  simp only [hostOps0, hostOps0_1, hostOps0_2, hostOps0_3, hostOps0_4, hostOps0_5, hostOps0_6, List.flatten_cons, List.flatten_nil, List.append_nil, List.cons_append, List.nil_append]
  after_reads_at
  after_reads_at
  rfl

theorem values_at (a : Fin 64) (r : Fin 576) (k : Fin 512) : (V m c main_v23 : FVec Ideal S64x576x512 .bf16) (ix3 a r k)
    = if r.val % 144 < 128 then
        vA m c (ix3 (⟨a.val / 32, by omega⟩ : Fin 2) (⟨a.val % 32 * 512 + k.val, by omega⟩ : Fin 16384)
          (⟨(r.val / 144 * 128 + r.val % 144) % 512, by omega⟩ : Fin 512))
      else 1 := by
  unfold V
  simp only [hostOps0, hostOps0_1, hostOps0_2, hostOps0_3, hostOps0_4, hostOps0_5, hostOps0_6, List.flatten_cons, List.flatten_nil, List.append_nil, List.cons_append, List.nil_append]
  after_reads_at
  after_reads_at
  split
  · rename_i h
    have e : (r.val / 144 * 128 + r.val % 144) % 512 = r.val / 144 * 128 + r.val % 144 := by omega
    simp only [e]
  · rfl

theorem gain_at (r l : Fin 128) : (V m c main_v41 : FVec Ideal S128x128 .f32) (ix2 r l) = gA m c (ix1 r) := by
  unfold V
  simp only [hostOps0, hostOps0_1, hostOps0_2, hostOps0_3, hostOps0_4, hostOps0_5, hostOps0_6, List.flatten_cons, List.flatten_nil, List.append_nil, List.cons_append, List.nil_append]
  after_reads_at

theorem lambda_at (l : Fin 128) : (V m c main_v42 : FVec Ideal S1x128 .f32) (ix2 0 l) = lamOf (lA m c) := by
  unfold lamOf
  unfold V
  simp only [hostOps0, hostOps0_1, hostOps0_2, hostOps0_3, hostOps0_4, hostOps0_5, hostOps0_6, List.flatten_cons, List.flatten_nil, List.append_nil, List.cons_append, List.nil_append]
  after_reads_at

end Cert.AttnIdeal.Flash

end
-- ==== Proof.Weights.lean ====
/-
  Softmax weights over the extended reals, and the recursion that sums them chunk by chunk.

    * `weight s m` — the weight `2 ^ (s - m)` of a score `s` under a maximum `m ≥ s`. It is a real number whatever the
      two are: a score of `-∞` and a maximum of `+∞` both give 0. Weights compose: `weight s m * weight m n = weight s n`.
    * `online` — a running maximum and a running sum, the latter rescaled whenever the maximum grows, end at the maximum
      of all scores and at the sum of the values by their weights.
    * `exp_eq_exp2` — the natural exponential of scores that were not yet divided by the logarithm of two.
-/
module

public import Idealize.ShloMosaic.Lib.ValueIdx
public import Idealize.ShloMosaic.PureOps.Ideal.Laws
public import Mathlib.Algebra.BigOperators.Fin

@[expose] public section

noncomputable section

namespace Cert.Softmax

open Idealize.ShloMosaic

/-! ## The weight of a score -/

/-- The weight of a score `s` under a maximum `m`. -/
def weight (s m : EReal) : ℝ := (Ideal.exp2 (s - m)).toReal

theorem sub_top' (x : EReal) : x - ⊤ = ⊥ := by
  rw [sub_eq_add_neg, EReal.neg_top, EReal.add_bot]

theorem bot_sub' (x : EReal) : ⊥ - x = ⊥ := by
  rw [sub_eq_add_neg, EReal.bot_add]

theorem weight_bot (m : EReal) : weight ⊥ m = 0 := by simp [weight, bot_sub']

theorem weight_top (s : EReal) : weight s ⊤ = 0 := by simp [weight, sub_top']

theorem weight_coe (a b : ℝ) : weight a b = (2 : ℝ) ^ (a - b) := by
  simp only [weight, ← EReal.coe_sub, Ideal.exp2_coe, EReal.toReal_coe]; rfl

/-- A score and its maximum are both real, or the weight is zero because of an infinity. -/
theorem cases_of_le {s m : EReal} (h : s ≤ m) : s = ⊥ ∨ m = ⊤ ∨ ∃ a b : ℝ, s = a ∧ m = b := by
  induction s using EReal.rec with
  | bot => exact .inl rfl
  | top => exact .inr (.inl (top_le_iff.mp h))
  | coe a =>
    induction m using EReal.rec with
    | bot => exact absurd (le_bot_iff.mp h) (EReal.coe_ne_bot a)
    | top => exact .inr (.inl rfl)
    | coe b => exact .inr (.inr ⟨a, b, rfl, rfl⟩)

theorem exp2_sub {s m : EReal} (h : s ≤ m) : Ideal.exp2 (s - m) = (weight s m : EReal) := by
  obtain rfl | rfl | ⟨a, b, rfl, rfl⟩ := cases_of_le h
  · simp [weight_bot, bot_sub']
  · simp [weight_top, sub_top']
  · rw [weight_coe, ← EReal.coe_sub, Ideal.exp2_coe]; rfl

theorem weight_nonneg {s m : EReal} (h : s ≤ m) : 0 ≤ weight s m := by
  obtain rfl | rfl | ⟨a, b, rfl, rfl⟩ := cases_of_le h
  · rw [weight_bot]
  · rw [weight_top]
  · rw [weight_coe]; positivity

theorem weight_mul {s m n : EReal} (h : s ≤ m) (h' : m ≤ n) : weight m n * weight s m = weight s n := by
  obtain rfl | rfl | ⟨a, b, rfl, rfl⟩ := cases_of_le h
  · simp [weight_bot]
  · rw [top_le_iff.mp h']; simp [weight_top]
  · obtain hb | rfl | ⟨b', c, hb, rfl⟩ := cases_of_le h'
    · exact absurd hb (EReal.coe_ne_bot b)
    · simp [weight_top]
    · rw [weight_coe, weight_coe, weight_coe, ← Real.rpow_add (by norm_num)]
      ring_nf

/-! ## The recursion over chunks -/

/-- The largest of finitely many scores. -/
def top {n : ℕ} (s : Fin n → EReal) : EReal := (Finset.univ : Finset (Fin n)).fold max ⊥ s

theorem top_le {n : ℕ} {s : Fin n → EReal} {b : EReal} : top s ≤ b ↔ ∀ x, s x ≤ b := by
  simp [top, Finset.fold_max_le]

theorem le_top' {n : ℕ} (s : Fin n → EReal) (x : Fin n) : s x ≤ top s := top_le.mp le_rfl x

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

section online

variable {C W : ℕ} (S : ℕ → Fin W → EReal) (v : ℕ → Fin W → ℝ) (M A : ℕ → EReal)

/-- The running maximum bounds exactly what every score absorbed so far is bounded by. -/
theorem running_max (h0 : M 0 = ⊥) (h : ∀ c < C, M (c + 1) = max (M c) (top (S c))) :
    ∀ n ≤ C, ∀ b, M n ≤ b ↔ ∀ c < n, ∀ k, S c k ≤ b := by
  intro n
  induction n with
  | zero => intro _ b; simp [h0]
  | succ n ih =>
    intro hn b
    rw [h n (by omega), max_le_iff, ih (by omega) b, top_le]
    constructor
    · rintro ⟨h1, h2⟩ c hc
      rcases Nat.lt_succ_iff_lt_or_eq.mp hc with hc | rfl
      · exact h1 c hc
      · exact h2
    · exact fun h1 => ⟨fun c hc => h1 c (by omega), h1 n (by omega)⟩

/-- The running sum is the sum of the values by their weights under the running maximum. -/
theorem online (h0 : M 0 = ⊥) (h : ∀ c < C, M (c + 1) = max (M c) (top (S c))) (a0 : A 0 = 0)
    (ha : ∀ c < C, A (c + 1) = Ideal.exp2 (M c - M (c + 1)) * A c + ∑ k, (v c k : EReal) * Ideal.exp2 (S c k - M (c + 1))) :
    ∀ n ≤ C, A n = ((∑ c ∈ Finset.range n, ∑ k, v c k * weight (S c k) (M n) : ℝ) : EReal) := by
  intro n
  induction n with
  | zero => intro _; simp [a0]
  | succ n ih =>
    intro hn
    have hle : M n ≤ M (n + 1) := by rw [h n (by omega)]; exact le_max_left _ _
    have hb := (running_max S M h0 h (n + 1) hn (M (n + 1))).mp le_rfl
    have hb' := (running_max S M h0 h n (by omega) (M n)).mp le_rfl
    rw [ha n (by omega), ih (by omega), exp2_sub hle, ← EReal.coe_mul, Finset.sum_range_succ, EReal.coe_add,
      coe_sum Finset.univ]
    congr 1
    · congr 1
      rw [Finset.mul_sum]
      refine Finset.sum_congr rfl fun c hc => ?_
      rw [Finset.mul_sum]
      refine Finset.sum_congr rfl fun k _ => ?_
      rw [← weight_mul (hb' c (Finset.mem_range.mp hc) k) hle]
      ring
    · refine Finset.sum_congr rfl fun k _ => ?_
      rw [exp2_sub (hb n (by omega) k), EReal.coe_mul]

end online

/-! ## A sum over all keys as a sum over chunks -/

/-- Key `k` of chunk `c`. -/
def key (c : Fin 32) (k : Fin 512) : Fin 16384 := ⟨512 * c.val + k.val, by omega⟩

theorem key_surj (x : Fin 16384) : ∃ c k, key c k = x :=
  ⟨⟨x.val / 512, by omega⟩, ⟨x.val % 512, by omega⟩, Fin.ext (by simp only [key]; omega)⟩

theorem sum_keys (f : Fin 16384 → ℝ) : ∑ x, f x = ∑ c : Fin 32, ∑ k : Fin 512, f (key c k) := by
  rw [← Fintype.sum_prod_type']
  symm
  refine Fintype.sum_equiv (finProdFinEquiv (m := 32) (n := 512)) _ _ fun p => ?_
  congr 1
  exact Fin.ext (by simp only [key, finProdFinEquiv_apply_val]; omega)

/-- The recursion, run over 32 chunks of 512 keys, gives the largest score … -/
theorem chunks_max (s : Fin 16384 → EReal) (M : ℕ → EReal) (h0 : M 0 = ⊥)
    (h : ∀ c : Fin 32, M (c.val + 1) = max (M c.val) (top fun k => s (key c k))) : M 32 = top s := by
  have hS := running_max (C := 32) (fun c k => if hc : c < 32 then s (key ⟨c, hc⟩ k) else ⊥) M h0
    (fun c hc => by simp only [hc, dite_true]; exact h ⟨c, hc⟩) 32 le_rfl
  refine le_antisymm ((hS _).mpr fun c hc k => ?_) (top_le.mpr fun x => ?_)
  · simp only [hc, dite_true]; exact le_top' _ _
  · obtain ⟨c, k, rfl⟩ := key_surj x
    have := (hS (M 32)).mp le_rfl c.val c.isLt k
    simpa only [c.isLt, dite_true] using this

/-- … and the values summed by their weights under it. -/
theorem chunks_sum (s : Fin 16384 → EReal) (v : Fin 16384 → ℝ) (M A : ℕ → EReal) (h0 : M 0 = ⊥)
    (h : ∀ c : Fin 32, M (c.val + 1) = max (M c.val) (top fun k => s (key c k))) (a0 : A 0 = 0)
    (ha : ∀ c : Fin 32, A (c.val + 1) = Ideal.exp2 (M c.val - M (c.val + 1)) * A c.val
      + ∑ k, (v (key c k) : EReal) * Ideal.exp2 (s (key c k) - M (c.val + 1))) :
    A 32 = ((∑ x, v x * weight (s x) (top s) : ℝ) : EReal) := by
  have hA := online (C := 32) (fun c k => if hc : c < 32 then s (key ⟨c, hc⟩ k) else ⊥)
    (fun c k => if hc : c < 32 then v (key ⟨c, hc⟩ k) else 0) M A h0
    (fun c hc => by simp only [hc, dite_true]; exact h ⟨c, hc⟩) a0
    (fun c hc => by simp only [hc, dite_true]; exact ha ⟨c, hc⟩) 32 le_rfl
  rw [hA, chunks_max s M h0 h, sum_keys, Finset.sum_range]
  congr 1

/-! ## The change of base -/

/-- One over the natural logarithm of two. -/
def base : ℝ := (Real.log 2)⁻¹

theorem log_two_pos : 0 < Real.log 2 := Real.log_pos (by norm_num)

theorem base_pos : 0 < base := inv_pos.mpr log_two_pos

theorem base_mul_bot : (base : EReal) * ⊥ = ⊥ := EReal.coe_mul_bot_of_pos base_pos

theorem base_mul_sub (a b : EReal) : (base : EReal) * (a - b) = base * a - base * b := by
  rw [sub_eq_add_neg, sub_eq_add_neg,
    EReal.left_distrib_of_nonneg_of_ne_top (EReal.coe_nonneg.mpr base_pos.le) (EReal.coe_ne_top _), mul_neg]

/-- The natural exponential is the power of two of the argument over the logarithm of two. -/
theorem exp_eq_exp2 (x : EReal) : Ideal.exp x = Ideal.exp2 (base * x) := by
  induction x using EReal.rec with
  | bot => rw [base_mul_bot]; rfl
  | top => rw [EReal.coe_mul_top_of_pos base_pos]; rfl
  | coe a =>
    rw [← EReal.coe_mul, Ideal.exp_coe, Ideal.exp2_coe]
    refine congrArg _ ?_
    show _ = (2 : ℝ) ^ (base * a)
    rw [Real.rpow_def_of_pos (by norm_num), base, ← mul_assoc, mul_inv_cancel₀ log_two_pos.ne', one_mul]

theorem base_mul_top {n : ℕ} (t : Fin n → EReal) : (base : EReal) * top t = top fun x => base * t x := by
  have hm : Monotone fun x : EReal => (base : EReal) * x :=
    fun a b h => mul_le_mul_of_nonneg_left h (EReal.coe_nonneg.mpr base_pos.le)
  have := Finset.fold_hom (op := max) (op' := max) (b := (⊥ : EReal)) (f := t) (s := Finset.univ)
    (m := fun x : EReal => (base : EReal) * x) (fun x y => hm.map_max)
  rw [top, top, ← this, base_mul_bot]

/-- The exponential of a score under the largest is the weight of the scores divided by the logarithm of two. -/
theorem exp_sub {n : ℕ} (t : Fin n → EReal) (x : Fin n) :
    Ideal.exp (t x - top t) = (weight (base * t x) (top fun y => base * t y) : EReal) := by
  rw [exp_eq_exp2, base_mul_sub, base_mul_top, exp2_sub (le_top' (fun y => (base : EReal) * t y) x)]

end Cert.Softmax

end
-- ==== Proof.Combine.lean ====
/-
  The differential combination of two attention maps and its normalisation, over the extended reals.

  The kernel divides the two weighted sums of values by the sums of their weights and subtracts; the reference divides
  each weight first, subtracts, and then sums the values. When both sums of weights are nonzero everything is a real
  number and the two agree. When one is zero (every score `-∞`, or one `+∞`) the quotients are infinite, the two
  combinations may differ, but each column of either is all zeros or has an infinite entry, and such a column is
  normalised to zeros: `normed_combine`.
-/
module

public import proofs.«01_k».proof.Proof.Weights

@[expose] public section

noncomputable section

namespace Cert.Softmax

open Idealize.ShloMosaic

/-! ## Normalising a column -/

/-- The mean of the squares' reciprocal root, times the entry. -/
def normed {R : ℕ} (d : Fin R → EReal) (r : Fin R) : EReal :=
  d r * Ideal.rsqrt (Ideal.div (∑ i, d i * d i) (Ideal.ofBits .f32 0x43000000#32) + Ideal.ofBits .f32 0x358637BD#32)

theorem mul_self_nonneg' (x : EReal) : 0 ≤ x * x := by
  induction x using EReal.rec with
  | bot => simp
  | top => simp
  | coe a => rw [← EReal.coe_mul]; exact EReal.coe_nonneg.mpr (mul_self_nonneg a)

theorem ofBits_128 : Ideal.ofBits .f32 0x43000000#32 = ((128 : ℝ) : EReal) := by
  simp [Ideal.ofBits, Ideal.ieee]
  rw [← EReal.coe_mul]
  norm_num

/-- A normal number of the format is a real. -/
theorem ofBits_eps : ∃ e : ℝ, Ideal.ofBits .f32 0x358637BD#32 = (e : EReal) := by
  simp [Ideal.ofBits, Ideal.ieee]
  exact ⟨_, (EReal.coe_mul _ _).symm⟩

theorem ofBits_fifth : ∃ e : ℝ, Ideal.ofBits .f32 0x3E4CCCCD#32 = (e : EReal) := by
  simp [Ideal.ofBits, Ideal.ieee]
  exact ⟨_, (EReal.coe_mul _ _).symm⟩

/-- A column of zeros, or one with an infinite entry, is normalised to zeros. -/
theorem normed_zero {R : ℕ} (d : Fin R → EReal) (h : (∀ r, d r = 0) ∨ ∃ r, d r = ⊤ ∨ d r = ⊥) (r : Fin R) : normed d r = 0 := by
  obtain h | ⟨i, hi⟩ := h
  · rw [normed, h r, zero_mul]
  · have hs : ∑ j, d j * d j = ⊤ := by
      refine top_le_iff.mp (le_trans (le_of_eq ?_) (Finset.single_le_sum (f := fun j => d j * d j)
        (fun j _ => mul_self_nonneg' (d j)) (Finset.mem_univ i)))
      obtain hi | hi := hi <;> simp [hi]
    obtain ⟨e, he⟩ := ofBits_eps
    rw [normed, hs, ofBits_128, he, Ideal.div, if_neg (by simp), ← EReal.coe_inv,
      EReal.top_mul_coe_of_pos (by norm_num), EReal.top_add_coe, Ideal.rsqrt_top, mul_zero]

/-! ## The two combinations -/

section combine

variable {N R : ℕ} (w₀ w₁ : Fin N → ℝ) (lam : ℝ) (v : Fin N → Fin R → ℝ)

/-- The kernel's: sums of weighted values, each over the sum of its weights. -/
def diffOfSums (r : Fin R) : EReal :=
  Ideal.div ((∑ x, v x r * w₀ x : ℝ) : EReal) ((∑ x, w₀ x : ℝ) : EReal)
    - lam * Ideal.div ((∑ x, v x r * w₁ x : ℝ) : EReal) ((∑ x, w₁ x : ℝ) : EReal)

/-- The reference's: values summed by the difference of the two maps. -/
def sumOfDiffs (r : Fin R) : EReal :=
  ∑ x, (v x r : EReal) * (Ideal.div (w₀ x : EReal) ((∑ y, w₀ y : ℝ) : EReal)
    - lam * Ideal.div (w₁ x : EReal) ((∑ y, w₁ y : ℝ) : EReal))

theorem div_coe {a b : ℝ} (hb : b ≠ 0) : Ideal.div (a : EReal) b = ((a / b : ℝ) : EReal) := by
  rw [Ideal.div, if_neg (by exact_mod_cast hb), ← EReal.coe_inv, ← EReal.coe_mul, div_eq_mul_inv]

theorem div_zero_zero : Ideal.div ((0 : ℝ) : EReal) ((0 : ℝ) : EReal) = ⊥ := by simp [Ideal.div]

theorem zero_of_sum_zero {w : Fin N → ℝ} (hw : ∀ x, 0 ≤ w x) (h : ∑ x, w x = 0) (x : Fin N) : w x = 0 :=
  (Finset.sum_eq_zero_iff_of_nonneg fun x _ => hw x).mp h x (Finset.mem_univ x)

/-- Reals times an infinity sum to zero or to an infinity. -/
theorem sum_mul_infinite {W : EReal} (hW : W = ⊤ ∨ W = ⊥) (u : Fin N → ℝ) :
    ∑ x, (u x : EReal) * W = 0 ∨ ∑ x, (u x : EReal) * W = ⊤ ∨ ∑ x, (u x : EReal) * W = ⊥ := by
  refine Finset.sum_induction _ (fun z : EReal => z = 0 ∨ z = ⊤ ∨ z = ⊥) ?_ (.inl rfl) fun x _ => ?_
  · rintro a b (rfl | rfl | rfl) (rfl | rfl | rfl) <;> simp
  · obtain h | h | h := lt_trichotomy (u x) 0
    · obtain rfl | rfl := hW
      · rw [EReal.coe_mul_top_of_neg h]; simp
      · rw [EReal.coe_mul_bot_of_neg h]; simp
    · rw [h]; simp
    · obtain rfl | rfl := hW
      · rw [EReal.coe_mul_top_of_pos h]; simp
      · rw [EReal.coe_mul_bot_of_pos h]; simp

/-- With both sums nonzero the two combinations are the same real number. -/
theorem combine_real (h₀ : ∑ x, w₀ x ≠ 0) (h₁ : ∑ x, w₁ x ≠ 0) (r : Fin R) : diffOfSums w₀ w₁ lam v r = sumOfDiffs w₀ w₁ lam v r := by
  unfold diffOfSums sumOfDiffs
  simp only [div_coe h₀, div_coe h₁, ← EReal.coe_mul, ← EReal.coe_sub]
  rw [← coe_sum]
  congr 1
  simp only [mul_sub, Finset.sum_sub_distrib, Finset.sum_div, Finset.mul_sum]
  congr 1
  · exact Finset.sum_congr rfl fun x _ => by ring
  · exact Finset.sum_congr rfl fun x _ => by ring

/-- A column whose entries are all zero or infinite is normalised to zeros. -/
theorem normed_zero_of {d : Fin R → EReal} (h : ∀ r, d r = 0 ∨ d r = ⊤ ∨ d r = ⊥) (r : Fin R) : normed d r = 0 := by
  refine normed_zero d ?_ r
  by_cases hz : ∀ r, d r = 0
  · exact .inl hz
  · obtain ⟨i, hi⟩ := not_forall.mp hz
    exact .inr ⟨i, (h i).resolve_left hi⟩

/-- An infinite difference of the maps leaves zeros on both sides. -/
theorem normed_infinite {d o : Fin R → EReal} {W : EReal} (hW : W = ⊤ ∨ W = ⊥) (hd : ∀ r, d r = W)
    (ho : ∀ r, o r = ∑ x, (v x r : EReal) * W) (r : Fin R) : normed d r = normed o r := by
  rw [normed_zero_of (fun r => .inr ((hd r).symm ▸ hW)), normed_zero_of (fun r => (ho r).symm ▸ sum_mul_infinite hW _)]

theorem normed_combine (hw₀ : ∀ x, 0 ≤ w₀ x) (hw₁ : ∀ x, 0 ≤ w₁ x) (r : Fin R) :
    normed (diffOfSums w₀ w₁ lam v) r = normed (sumOfDiffs w₀ w₁ lam v) r := by
  by_cases h₀ : ∑ x, w₀ x = 0
  · have z₀ := zero_of_sum_zero hw₀ h₀
    refine normed_infinite v (W := ⊥) (.inr rfl) (fun r => ?_) (fun r => ?_) r
    · simp only [diffOfSums, z₀, mul_zero, Finset.sum_const_zero, div_zero_zero, bot_sub']
    · simp only [sumOfDiffs, z₀, Finset.sum_const_zero, div_zero_zero, bot_sub']
  · by_cases h₁ : ∑ x, w₁ x = 0
    · have z₁ := zero_of_sum_zero hw₁ h₁
      have hd : ∀ r, diffOfSums w₀ w₁ lam v r = (((∑ x, v x r * w₀ x) / ∑ x, w₀ x : ℝ) : EReal) - lam * ⊥ := fun r => by
        simp only [diffOfSums, z₁, mul_zero, Finset.sum_const_zero, div_zero_zero, div_coe h₀]
      have ho : ∀ r, sumOfDiffs w₀ w₁ lam v r = ∑ x, (v x r : EReal) * (((w₀ x / ∑ x, w₀ x : ℝ) : EReal) - lam * ⊥) := fun r => by
        simp only [sumOfDiffs, z₁, Finset.sum_const_zero, div_zero_zero, div_coe h₀]
      obtain hl | hl | hl := lt_trichotomy lam 0
      · refine normed_infinite v (W := ⊥) (.inr rfl) (fun r => ?_) (fun r => ?_) r
        · rw [hd, EReal.coe_mul_bot_of_neg hl, sub_top']
        · rw [ho]; simp only [EReal.coe_mul_bot_of_neg hl, sub_top']
      · subst hl
        refine congrArg (normed · r) (funext fun r => ?_)
        rw [hd, ho]
        simp only [EReal.coe_zero, zero_mul, sub_zero, ← EReal.coe_mul]
        rw [← coe_sum, Finset.sum_div]
        exact congrArg _ (Finset.sum_congr rfl fun x _ => by ring)
      · refine normed_infinite v (W := ⊤) (.inl rfl) (fun r => ?_) (fun r => ?_) r
        · rw [hd, EReal.coe_mul_bot_of_pos hl, EReal.coe_sub_bot]
        · rw [ho]; simp only [EReal.coe_mul_bot_of_pos hl, EReal.coe_sub_bot]
    · exact congrArg (normed · r) (funext fun r => combine_real w₀ w₁ lam v h₀ h₁ r)

end combine

/-! ## One entry of each program -/

/-- The kernel's entry, from the scores of the two maps as it forms them. -/
def flashEntry (a b : Fin 16384 → EReal) (lam : ℝ) (v : Fin 16384 → Fin 128 → ℝ) (r : Fin 128) : EReal :=
  normed (diffOfSums (fun x => weight (a x) (top a)) (fun x => weight (b x) (top b)) lam v) r

/-- The reference's entry, from the scores of the two maps. -/
def plainEntry (a b : Fin 16384 → EReal) (lam : EReal) (v : Fin 16384 → Fin 128 → EReal) (r : Fin 128) : EReal :=
  normed (fun r => ∑ x, v x r * (Ideal.div (Ideal.exp (a x - top a)) (∑ y, Ideal.exp (a y - top a))
    - lam * Ideal.div (Ideal.exp (b x - top b)) (∑ y, Ideal.exp (b y - top b)))) r

/-- They agree when the kernel's scores are the reference's over the logarithm of two. -/
theorem entry_eq (a b : Fin 16384 → EReal) (lam : ℝ) (v : Fin 16384 → Fin 128 → ℝ) (r : Fin 128) :
    flashEntry (fun x => base * a x) (fun x => base * b x) lam v r = plainEntry a b lam (fun x r => v x r) r := by
  unfold flashEntry plainEntry
  rw [normed_combine _ _ _ _ (fun x => weight_nonneg (le_top' (fun y => (base : EReal) * a y) x))
    (fun x => weight_nonneg (le_top' (fun y => (base : EReal) * b y) x))]
  simp only [exp_sub, ← coe_sum]
  rfl

/-! ## The scores -/

/-- A nonnegative real factor comes out of a finite sum. -/
theorem sum_mul_real {ι : Type} (t : Finset ι) (f : ι → EReal) {c : ℝ} (hc : 0 ≤ c) : ∑ i ∈ t, f i * c = (∑ i ∈ t, f i) * c := by
  classical
  induction t using Finset.induction_on with
  | empty => simp
  | insert a t ha ih =>
    rw [Finset.sum_insert ha, Finset.sum_insert ha, ih,
      EReal.right_distrib_of_nonneg_of_ne_top (EReal.coe_nonneg.mpr hc) (EReal.coe_ne_top _)]

end Cert.Softmax

end
-- ==== Proof.Spec.lean ====
/-
  Differential attention at one entry, over the extended reals, as both programs are compared with it. An array of
  queries, keys or values is a function of the sequence, the position and the column; a head owns 128 columns, and each
  of its two score maps owns 64 of them.
-/
module

public import proofs.«01_k».proof.Proof.Combine

@[expose] public section

noncomputable section

namespace Cert.Spec

open Idealize.ShloMosaic Cert.Softmax

/-- An array of queries, keys or values. -/
abbrev Arr : Type := Fin 2 → Fin 16384 → Fin 512 → EReal

/-- Column `d` of the part of head `h` that score map `s` reads. -/
def mapCol (h : Fin 4) (s : Fin 2) (d : Fin 64) : Fin 512 := ⟨h.val * 128 + s.val * 64 + d.val, by omega⟩

/-- Column `r` of head `h`. -/
def headCol (h : Fin 4) (r : Fin 128) : Fin 512 := ⟨h.val * 128 + r.val, by omega⟩

/-- The score of key `x` for the query at position `i`: the scalar product, times an eighth. -/
def score (q k : Arr) (b : Fin 2) (h : Fin 4) (s : Fin 2) (i x : Fin 16384) : EReal :=
  (∑ d : Fin 64, q b i (mapCol h s d) * k b x (mapCol h s d)) * Ideal.ofBits .f32 0x3E000000#32

/-- The result: the values weighted by the difference of the two softmax maps, normalised over the head's columns,
    times the gain and four fifths. -/
def entry (q k v : Arr) (lam : EReal) (g : Fin 128 → EReal) (b : Fin 2) (h : Fin 4) (i : Fin 16384) (r : Fin 128) : EReal :=
  plainEntry (score q k b h 0 i) (score q k b h 1 i) lam (fun x r => v b x (headCol h r)) r * g r
    * Ideal.ofBits .f32 0x3F4CCCCD#32

end Cert.Spec

end
-- ==== Proof.Blocks.lean ====
/-
  The blocks of a point, read at an entry: the point's number is its sequence, head and query tile, and each window's
  block is the operand at that place.
-/
module

public import proofs.«01_k».proof.Proof.Host
public import proofs.«01_k».proof.Proof.Run
public import proofs.«01_k».proof.Proof.Spec

@[expose] public section

set_option maxRecDepth 16384

noncomputable section

namespace Cert.AttnIdeal.Flash

open Idealize.ShloMosaic Idealize.ShloMosaic.TcCoe Idealize.SL.Sem
open Idealize.ShloMosaic.Pipeline (Dat Cfg Window)
open Cert.AttnIdeal Cert.AttnIdeal.Gen Cert.Spec

variable (m : (ℓ : Loc nD τ sig) → Buf (Elt Ideal) ℓ) (c : Dev nD)

/-- Every window's block at a point. -/
theorem idx : ∀ t : Fin cfg0.N, t.val < 512 ∧ win0_0.index t = ![0, 0] ∧ win0_1.index t = ![0, t.val / 64 % 4, t.val / 256 * 64 + t.val % 64]
    ∧ win0_3.index t = ![t.val / 256, t.val / 64 % 4] ∧ win0_4.index t = ![t.val / 256, t.val / 64 % 4, 0]
    ∧ win0_5.index t = ![0, 0] ∧ win0_6.index t = ![t.val / 64 % 4, t.val / 256 * 64 + t.val % 64] :=
  (by decide +kernel : ∀ t : Fin grid0.N, _)

theorem lam_block (t : Fin cfg0.N) : lamB m c t (ix2 0 0) = (V m c main_v42 : FVec Ideal S1x128 .f32) (ix2 0 0) := by
  have h := idx t
  blk_ext [lamB, iblk, idx t]

theorem gain_block (t : Fin cfg0.N) (r l : Fin 128) : gainB m c t (ix2 r l) = (V m c main_v41 : FVec Ideal S128x128 .f32) (ix2 r l) := by
  have h := idx t
  blk_ext [gainB, iblk, idx t]

theorem tile_block (t : Fin cfg0.N) (s : Fin 2) (d : Fin 128) (j : Fin 256) : tileB m c t (ix3 s d j)
    = (V m c main_v15 : FVec Ideal S2x512x32768 .bf16) (ix3 s (⟨t.val / 64 % 4 * 128 + d.val, by omega⟩ : Fin 512)
      (⟨(t.val / 256 * 64 + t.val % 64) * 256 + j.val, by have := (idx t).1; omega⟩ : Fin 32768)) := by
  blk_ext [tileB, iblk, idx t]

theorem key_block (t : Fin cfg0.N) (x : Fin 16384) (d : Fin 128) : keyB m c t (ix2 x d)
    = (V m c main_v17 : FVec Ideal S32768x512 .bf16) (ix2 (⟨t.val / 256 * 16384 + x.val, by have := (idx t).1; omega⟩ : Fin 32768)
      (⟨t.val / 64 % 4 * 128 + d.val, by omega⟩ : Fin 512)) := by
  blk_ext [keyB, iblk, idx t]

theorem val_block (t : Fin cfg0.N) (a : Fin 32) (r : Fin 144) (k : Fin 512) : valB m c t (ix3 a r k)
    = (V m c main_v23 : FVec Ideal S64x576x512 .bf16) (ix3 (⟨t.val / 256 * 32 + a.val, by have := (idx t).1; omega⟩ : Fin 64)
      (⟨t.val / 64 % 4 * 144 + r.val, by omega⟩ : Fin 576) k) := by
  blk_ext [valB, iblk, idx t]

end Cert.AttnIdeal.Flash

end
-- ==== Proof.Chunk.lean ====
/-
  The pieces of the kernel's loop, read at one entry over the extended reals.
-/
module

public import proofs.«01_k».proof.Proof.States
public import proofs.«01_k».proof.Proof.Weights
public import Idealize.ShloMosaic.Lib.Pipeline.ValueKit

@[expose] public section

set_option maxRecDepth 16384

noncomputable section

namespace Cert.AttnIdeal.Flash

open Idealize.ShloMosaic Idealize.SL.Sem
open Idealize.ShloMosaic.ValueIdx hiding ix0 ix1 ix2 ix3 ix4 ix5
open Cert.AttnIdeal Cert.AttnIdeal.Gen Cert.Softmax

/-- The pattern of minus infinity. -/
theorem bot_pattern : Ideal.ofBits .f32 0xFF800000#32 = ⊥ := by simp [Ideal.ofBits, Ideal.ieee]

/-- A score: the dot product of a key with a query column. -/
theorem scores_at (K : Vec Ideal S512x128 .bf16) (Q : Vec Ideal S1x128x512 .bf16) (k j : Fin 512) :
    k0_pay2 K Q (ix3 0 k j) = ∑ d : Fin 128, K (ix2 k d) * Q (ix3 0 d j) := by
  pointwise [k0_pay2]

theorem pay3_at (s : Vec Ideal S1x512x512 .f32) (k j : Fin 512) : k0_pay3 s (ix2 k j) = s (ix3 0 k j) := by
  pointwise [k0_pay3]

theorem stepMax_at (m : FVec Ideal S1x512 .f32) (s : FVec Ideal S1x512x512 .f32) (j : Fin 512) :
    stepMax m s (ix2 0 j) = max (m (ix2 0 j)) (top fun k : Fin 512 => s (ix3 0 k j)) := by
  pointwise [stepMax, k0_pay4]
  simp only [pay3_at, bot_pattern, top]

theorem pv_at (m : FVec Ideal S1x512 .f32) (s : FVec Ideal S1x512x512 .f32) (v : Vec Ideal S1x144x512 .bf16) (r : Fin 144) (j : Fin 512) :
    k0_pay5 m s v (ix2 r j) = ∑ k : Fin 512, v (ix3 0 r k)
      * Ideal.exp2 (s (ix3 0 k j) - k0_pay4 m s (ix2 0 j)) := by
  pointwise [k0_pay5]
  simp only [pay3_at]
  rfl

theorem rescale_at (m : FVec Ideal S1x512 .f32) (s : FVec Ideal S1x512x512 .f32) (j : Fin 512) :
    k0_pay6 m s (ix2 0 j) = Ideal.exp2 (m (ix2 0 j) - k0_pay4 m s (ix2 0 j)) := by
  pointwise [k0_pay6]
  rfl

theorem acc_at (p : FVec Ideal S144x512 .f32) (e : FVec Ideal S1x512 .f32) (a : FVec Ideal S144x512 .f32) (r : Fin 144) (j : Fin 512) :
    k0_pay7 p e a (ix2 r j) = e (ix2 0 j) * a (ix2 r j) + p (ix2 r j) := by
  pointwise [k0_pay7]

theorem max_start (j : Fin 512) : (k0_pay83 (F := Ideal)) (ix2 0 j) = ⊥ := by
  pointwise [k0_pay83]
  exact bot_pattern

theorem acc_start (r : Fin 144) (j : Fin 512) : (k0_pay81 (F := Ideal)) (ix2 r j) = 0 := by
  pointwise [k0_pay81]

theorem qTile_left (T : Vec Ideal S2x128x256 .bf16) (d : Fin 128) (j : Fin 256) :
    qTile T (ix3 0 d (⟨j.val, by omega⟩ : Fin 512)) = T (ix3 0 d j) := by
  pointwise [qTile, k0_pay79, half]
  rfl

theorem qTile_right (T : Vec Ideal S2x128x256 .bf16) (d : Fin 128) (j : Fin 256) :
    qTile T (ix3 0 d (⟨256 + j.val, by omega⟩ : Fin 512)) = T (ix3 1 d j) := by
  pointwise [qTile, k0_pay79, half]
  rfl

/-! ## One column of the accumulator -/

section column

variable (K : Vec Ideal S16384x128 .bf16) (V : Vec Ideal S32x144x512 .bf16) (T N : Vec Ideal S2x128x256 .bf16) (j : Fin 512)

/-- The score of a key in a column of the query tile. -/
def colScore (x : Fin 16384) : EReal := ∑ d : Fin 128, K (ix2 x d) * qTile T (ix3 0 d j)

theorem scoreAt_at (c : Fin 32) (k : Fin 512) : scoreAt K (qPair T N) c.val (ix3 0 k j) = colScore K T j (key c k) := by
  unfold scoreAt colScore
  rw [if_neg (by omega), scores_at, curQ_qPair]
  refine Finset.sum_congr rfl fun d _ => congrArg (· * _) (congrArg K (funext fun a => ?_))
  match a with
  | ⟨0, _⟩ => exact Fin.ext (show 512 * (c.val % 32) + k.val = 512 * c.val + k.val by rw [Nat.mod_eq_of_lt c.isLt])
  | ⟨1, _⟩ => rfl

theorem runMax_zero : runMax K (qPair T N) 0 (ix2 0 j) = ⊥ := max_start j

theorem runMax_succ (c : Fin 32) : runMax K (qPair T N) (c.val + 1) (ix2 0 j)
    = max (runMax K (qPair T N) c.val (ix2 0 j)) (top fun k => colScore K T j (key c k)) := by
  rw [runMax, stepMax_at]
  simp only [scoreAt_at]

theorem runAcc_zero (r : Fin 144) : runAcc K V (qPair T N) 0 (ix2 r j) = 0 := acc_start r j

theorem runAcc_succ (r : Fin 144) (c : Fin 32) : runAcc K V (qPair T N) (c.val + 1) (ix2 r j)
    = Ideal.exp2 (runMax K (qPair T N) c.val (ix2 0 j) - runMax K (qPair T N) (c.val + 1) (ix2 0 j)) * runAcc K V (qPair T N) c.val (ix2 r j)
      + ∑ k, V (ix3 c r k) * Ideal.exp2 (colScore K T j (key c k) - runMax K (qPair T N) (c.val + 1) (ix2 0 j)) := by
  rw [runAcc, stepAcc, acc_at, rescale_at, pv_at]
  simp only [scoreAt_at]
  refine congrArg (_ + ·) (Finset.sum_congr rfl fun k _ => congrArg (· * _) (congrArg V (funext fun a => ?_)))
  match a with
  | ⟨0, _⟩ => exact Fin.ext (Nat.mod_eq_of_lt c.isLt)
  | ⟨1, _⟩ => rfl
  | ⟨2, _⟩ => rfl

/-- After the last chunk an entry of the accumulator is its row's values summed by their weights. -/
theorem runAcc_end (r : Fin 144) (val : Fin 16384 → ℝ) (hV : ∀ (c : Fin 32) (k : Fin 512), V (ix3 c r k) = (val (key c k) : EReal)) :
    runAcc K V (qPair T N) 32 (ix2 r j) = ((∑ x, val x * weight (colScore K T j x) (top (colScore K T j)) : ℝ) : EReal) :=
  chunks_sum (colScore K T j) val (fun c => runMax K (qPair T N) c (ix2 0 j)) (fun c => runAcc K V (qPair T N) c (ix2 r j))
    (runMax_zero K T N j) (runMax_succ K T N j) (runAcc_zero K V T N j r) fun c => by
      simp only [← hV]; exact runAcc_succ K V T N j r c

end column

end Cert.AttnIdeal.Flash

end
-- ==== Proof.Tile.lean ====
/-
  What one grid point writes, over the extended reals: an entry of its tile is the flash form of the differential
  attention (`Cert.Softmax.flashEntry`), times the gain and the output scale.
-/
module

public import proofs.«01_k».proof.Proof.Chunk
public import proofs.«01_k».proof.Proof.Combine

@[expose] public section

set_option maxRecDepth 16384

noncomputable section

namespace Cert.AttnIdeal.Flash

open Idealize.ShloMosaic Idealize.SL.Sem
open Cert.AttnIdeal Cert.AttnIdeal.Gen Cert.Softmax

/-- Column `j` of the first score map, and of the second, among the 512 columns of a tile. -/
def colA (j : Fin 256) : Fin 512 := ⟨j.val, by omega⟩
def colB (j : Fin 256) : Fin 512 := ⟨256 + j.val, by omega⟩

/-- The difference of the two normalised maps, from the accumulator. -/
def diffAt (A : Vec Ideal S128x512 .f32) (l : Vec Ideal S1x512 .f32) (L : Vec Ideal S1x128 .f32) (j : Fin 256) (r : Fin 128) : EReal :=
  Ideal.div (A (ix2 r (colA j))) (l (ix2 0 (colA j))) - L (ix2 0 0) * Ideal.div (A (ix2 r (colB j))) (l (ix2 0 (colB j)))

theorem store_at (A : Vec Ideal S128x512 .f32) (l : Vec Ideal S1x512 .f32) (L : Vec Ideal S1x128 .f32) (G : Vec Ideal S128x128 .f32)
    (r : Fin 128) (j : Fin 256) :
    k0_pay1 A l L G (ix2 r j) = normed (diffAt A l L j) r * G (ix2 r (⟨j.val % 128, by omega⟩ : Fin 128)) * Ideal.ofBits .f32 0x3F4CCCCD#32 := by
  pointwise [k0_pay1]
  have hg : (if h : j.val < 128 then G (ix2 r ⟨j.val, h⟩) else G (ix2 r (⟨j.val - 128, by omega⟩ : Fin 128)))
      = G (ix2 r (⟨j.val % 128, by omega⟩ : Fin 128)) := by
    split
    · exact congrArg (fun n => G (ix2 r n)) (Fin.ext (show j.val = j.val % 128 by omega))
    · exact congrArg (fun n => G (ix2 r n)) (Fin.ext (show j.val - 128 = j.val % 128 by omega))
  rw [hg]
  rfl

theorem accTop_at (A : Vec Ideal S144x512 .f32) (i : Fin 128) (q : Fin 512) :
    accTop A (ix2 i q) = A (ix2 (⟨i.val, by omega⟩ : Fin 144) q) := rfl

theorem accRow_at (A : Vec Ideal S144x512 .f32) (q : Fin 512) :
    accRow A (ix2 0 q) = A (ix2 (⟨128, by omega⟩ : Fin 144) q) := rfl

theorem outTile_at (L : Vec Ideal S1x128 .f32) (T N : Vec Ideal S2x128x256 .bf16) (K : Vec Ideal S16384x128 .bf16)
    (V : Vec Ideal S32x144x512 .bf16) (G : Vec Ideal S128x128 .f32) (lam : ℝ) (v : Fin 16384 → Fin 128 → ℝ)
    (hL : L (ix2 0 0) = (lam : EReal))
    (hV : ∀ (c : Fin 32) (r : Fin 128) (k : Fin 512), V (ix3 c (⟨r.val, by omega⟩ : Fin 144) k) = (v (key c k) r : EReal))
    (hone : ∀ (c : Fin 32) (k : Fin 512), V (ix3 c (⟨128, by omega⟩ : Fin 144) k) = 1)
    (r : Fin 128) (j : Fin 256) :
    outTile L T N K V G (ix2 r j) = flashEntry (colScore K T (colA j)) (colScore K T (colB j)) lam v r
      * G (ix2 r (⟨j.val % 128, by omega⟩ : Fin 128)) * Ideal.ofBits .f32 0x3F4CCCCD#32 := by
  rw [outTile, store_at]
  have top_at : ∀ (i : Fin 128) (q : Fin 512), accTop (runAcc K V (qPair T N) 32) (ix2 i q)
      = ((∑ x, v x i * weight (colScore K T q x) (top (colScore K T q)) : ℝ) : EReal) := fun i q =>
    (accTop_at _ i q).trans <| runAcc_end K V T N q (⟨i.val, by omega⟩ : Fin 144) (fun x => v x i) (fun c k => hV c i k)
  have row_at : ∀ q : Fin 512, accRow (runAcc K V (qPair T N) 32) (ix2 0 q)
      = ((∑ x, weight (colScore K T q x) (top (colScore K T q)) : ℝ) : EReal) := fun q => by
    have := runAcc_end K V T N q (⟨128, by omega⟩ : Fin 144) (fun _ => 1) (fun c k => (hone c k).trans EReal.coe_one.symm)
    rw [accRow_at, this]
    simp only [one_mul]
  have hd : diffAt (accTop (runAcc K V (qPair T N) 32)) (accRow (runAcc K V (qPair T N) 32)) L j
      = diffOfSums (fun x => weight (colScore K T (colA j) x) (top (colScore K T (colA j))))
        (fun x => weight (colScore K T (colB j) x) (top (colScore K T (colB j)))) lam v := funext fun i => by
    unfold diffAt diffOfSums
    rw [top_at, top_at, row_at, row_at, hL]
  rw [hd, flashEntry]

end Cert.AttnIdeal.Flash

end
-- ==== Proof.Scores.lean ====
/-
  The scores of the kernel: a column of the query tile has one half of a head and zeros in the other, so its scalar
  product with a key over the 128 columns of the head is the product over that half; scaled on the host, it is the
  reference's score over the logarithm of two.
-/
module

public import proofs.«01_k».proof.Proof.Blocks
public import proofs.«01_k».proof.Proof.Tile

@[expose] public section

set_option maxRecDepth 16384

noncomputable section

namespace Cert.AttnIdeal.Flash

open Idealize.ShloMosaic Idealize.ShloMosaic.TcCoe Idealize.SL.Sem
open Idealize.ShloMosaic.Pipeline (Dat Cfg Window)
open Cert.AttnIdeal Cert.AttnIdeal.Gen Cert.Spec Cert.Softmax

/-! ## Sums over the columns of a head of which one half is zero -/

theorem sum_first (f : Fin 128 → EReal) (g : Fin 64 → EReal) (h₁ : ∀ d : Fin 64, f ⟨d.val, by omega⟩ = g d)
    (h₂ : ∀ d : Fin 64, f ⟨64 + d.val, by omega⟩ = 0) : ∑ d, f d = ∑ d, g d := by
  refine (Fin.sum_univ_add (a := 64) (b := 64) f).trans ?_
  exact (congrArg₂ (· + ·) (Finset.sum_congr rfl fun d _ => h₁ d) (Finset.sum_eq_zero fun d _ => h₂ d)).trans (add_zero _)

theorem sum_second (f : Fin 128 → EReal) (g : Fin 64 → EReal) (h₁ : ∀ d : Fin 64, f ⟨d.val, by omega⟩ = 0)
    (h₂ : ∀ d : Fin 64, f ⟨64 + d.val, by omega⟩ = g d) : ∑ d, f d = ∑ d, g d := by
  refine (Fin.sum_univ_add (a := 64) (b := 64) f).trans ?_
  exact (congrArg₂ (· + ·) (Finset.sum_eq_zero fun d _ => h₁ d) (Finset.sum_congr rfl fun d _ => h₂ d)).trans (zero_add _)

/-! ## The scale -/

theorem ofBits_eighth : Ideal.ofBits .f32 0x3E000000#32 = ((1 / 8 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

/-- The scale is an eighth over the logarithm of two. -/
theorem scaleOf_eq : scaleOf = ((1 / 8 * base : ℝ) : EReal) := by
  rw [scaleOf, ofBits_eighth, ofBits_two, Ideal.log_coe, if_neg (by norm_num), Ideal.div,
    if_neg (by exact_mod_cast log_two_pos.ne'), ← EReal.coe_inv, ← EReal.coe_mul, base]

/-- A scaled scalar product is the reference's score over the logarithm of two. -/
theorem scaled_sum (f g : Fin 64 → EReal) :
    ∑ d, g d * (f d * scaleOf) = base * ((∑ d, f d * g d) * Ideal.ofBits .f32 0x3E000000#32) := by
  have e : ∀ d, g d * (f d * scaleOf) = (f d * g d) * ((1 / 8 * base : ℝ) : EReal) := fun d => by
    rw [scaleOf_eq, ← mul_assoc, mul_comm (g d)]
  rw [Finset.sum_congr rfl fun d _ => e d, sum_mul_real _ _ (by have := base_pos; positivity), ofBits_eighth, EReal.coe_mul,
    ← mul_assoc, mul_comm]

/-! ## The scores of a point -/

variable (m : (ℓ : Loc nD τ sig) → Buf (Elt Ideal) ℓ) (c : Dev nD)

/-- An array by its sequence, position and column. -/
abbrev arr (a : FVec Ideal S2x16384x512 .f32) : Arr := fun b i e => a (ix3 b i e)

/-- The sequence, the head and the position of column `j` of the query tile of a point. -/
def seqOf (t : Fin cfg0.N) : Fin 2 := ⟨t.val / 256, by have := (idx t).1; omega⟩
def headOf (t : Fin cfg0.N) : Fin 4 := ⟨t.val / 64 % 4, by omega⟩
def posOf (t : Fin cfg0.N) (j : Fin 256) : Fin 16384 := ⟨t.val % 64 * 256 + j.val, by omega⟩

/-- A key at column `d` of the point's head. -/
theorem key_at (t : Fin cfg0.N) (x : Fin 16384) (d : Fin 128) :
    keyB m c t (ix2 x d) = arr (kA m c) (seqOf t) x (headCol (headOf t) d) := by
  have h := (idx t).1
  rw [key_block, keys_at]
  exact congrArg₂ (fun b i => kA m c (ix3 b i (headCol (headOf t) d))) (Fin.ext (by show (_ * _ + _) / _ = _; simp only [seqOf]; omega))
    (Fin.ext (by show (_ * _ + _) % _ = _; omega))

/-- The query tile at column `d` of the point's head, in its two halves. -/
theorem tile_left (t : Fin cfg0.N) (d : Fin 128) (j : Fin 256) :
    tileB m c t (ix3 0 d j) = if d.val < 64 then arr (qA m c) (seqOf t) (posOf t j) (headCol (headOf t) d) * scaleOf else 0 := by
  have h := (idx t).1
  have e₁ : ((t.val / 256 * 64 + t.val % 64) * 256 + j.val) / 16384 = t.val / 256 := by omega
  have e₂ : ((t.val / 256 * 64 + t.val % 64) * 256 + j.val) % 16384 = t.val % 64 * 256 + j.val := by omega
  have e₃ : ((t.val / 64 % 4 * 128 + d.val) % 128 < 64) = (d.val < 64) := by
    have : (t.val / 64 % 4 * 128 + d.val) % 128 = d.val := by omega
    rw [this]
  rw [tile_block, queries_left]
  simp only [e₁, e₂, e₃]
  rfl

theorem tile_right (t : Fin cfg0.N) (d : Fin 128) (j : Fin 256) :
    tileB m c t (ix3 1 d j) = if d.val < 64 then 0 else arr (qA m c) (seqOf t) (posOf t j) (headCol (headOf t) d) * scaleOf := by
  have h := (idx t).1
  have e₁ : ((t.val / 256 * 64 + t.val % 64) * 256 + j.val) / 16384 = t.val / 256 := by omega
  have e₂ : ((t.val / 256 * 64 + t.val % 64) * 256 + j.val) % 16384 = t.val % 64 * 256 + j.val := by omega
  have e₃ : ((t.val / 64 % 4 * 128 + d.val) % 128 < 64) = (d.val < 64) := by
    have : (t.val / 64 % 4 * 128 + d.val) % 128 = d.val := by omega
    rw [this]
  rw [tile_block, queries_right]
  simp only [e₁, e₂, e₃]
  rfl

theorem first_col (h : Fin 4) (d : Fin 64) : headCol h ⟨d.val, by omega⟩ = mapCol h 0 d := Fin.ext (by simp [headCol, mapCol])
theorem second_col (h : Fin 4) (d : Fin 64) : headCol h ⟨64 + d.val, by omega⟩ = mapCol h 1 d :=
  Fin.ext (by simp [headCol, mapCol]; omega)

/-- The scores of the first map. -/
theorem scores_first (t : Fin cfg0.N) (j : Fin 256) : colScore (keyB m c t) (tileB m c t) (colA j)
    = fun x => base * score (arr (qA m c)) (arr (kA m c)) (seqOf t) (headOf t) 0 (posOf t j) x := funext fun x => by
  rw [colScore, score, ← scaled_sum]
  refine sum_first _ _ (fun d => ?_) fun d => ?_
  · rw [key_at, colA, qTile_left, tile_left, if_pos (by show d.val < 64; omega), first_col]
  · rw [colA, qTile_left, tile_left, if_neg (by show ¬ 64 + d.val < 64; omega), mul_zero]

/-- The scores of the second map. -/
theorem scores_second (t : Fin cfg0.N) (j : Fin 256) : colScore (keyB m c t) (tileB m c t) (colB j)
    = fun x => base * score (arr (qA m c)) (arr (kA m c)) (seqOf t) (headOf t) 1 (posOf t j) x := funext fun x => by
  rw [colScore, score, ← scaled_sum]
  refine sum_second _ _ (fun d => ?_) fun d => ?_
  · rw [colB, qTile_right, tile_right, if_pos (by show d.val < 64; omega), mul_zero]
  · rw [key_at, colB, qTile_right, tile_right, if_neg (by show ¬ 64 + d.val < 64; omega), second_col]

end Cert.AttnIdeal.Flash

end
-- ==== Proof.Result.lean ====
/-
  The result array of the call: each point leaves differential attention on its head's columns at its query tile's
  positions, and the points' blocks tile the array.
-/
module

public import proofs.«01_k».proof.Proof.Scores

@[expose] public section

set_option maxRecDepth 16384

noncomputable section

namespace Cert.AttnIdeal.Flash

open Idealize.ShloMosaic Idealize.ShloMosaic.TcCoe Idealize.SL.Sem
open Idealize.ShloMosaic.Pipeline (Dat Cfg Window)
open Cert.AttnIdeal Cert.AttnIdeal.Gen Cert.Spec Cert.Softmax

variable (m : (ℓ : Loc nD τ sig) → Buf (Elt Ideal) ℓ) (c : Dev nD)

/-- The values at a key and a column of the point's head. -/
theorem value_at (t : Fin cfg0.N) (a : Fin 32) (r : Fin 128) (k : Fin 512) :
    valB m c t (ix3 a (⟨r.val, by omega⟩ : Fin 144) k) = arr (vA m c) (seqOf t) (key a k) (headCol (headOf t) r) := by
  have h := (idx t).1
  have e₁ : (t.val / 64 % 4 * 144 + r.val) % 144 < 128 := by omega
  have e₂ : (t.val / 256 * 32 + a.val) / 32 = t.val / 256 := by omega
  have e₃ : (t.val / 256 * 32 + a.val) % 32 * 512 + k.val = 512 * a.val + k.val := by omega
  have e₄ : ((t.val / 64 % 4 * 144 + r.val) / 144 * 128 + (t.val / 64 % 4 * 144 + r.val) % 144) % 512 = t.val / 64 % 4 * 128 + r.val := by omega
  rw [val_block, values_at]
  simp only [e₂, e₃, e₄]
  rw [if_pos e₁]
  rfl

/-- The row under the values is ones. -/
theorem ones_at (t : Fin cfg0.N) (a : Fin 32) (k : Fin 512) : valB m c t (ix3 a (⟨128, by omega⟩ : Fin 144) k) = 1 := by
  rw [val_block, values_at, if_neg (by show ¬ (t.val / 64 % 4 * 144 + 128) % 144 < 128; omega)]

section real

variable (lam : ℝ) (w : Fin 2 → Fin 16384 → Fin 512 → ℝ)
  (hl : lamOf (lA m c) = (lam : EReal)) (hw : ∀ b i e, arr (vA m c) b i e = (w b i e : EReal))

include hl hw

/-- What a point leaves in the result's buffer. -/
theorem out_at (t : Fin cfg0.N) (r : Fin 128) (j : Fin 256) : outAt m c t (ix2 r j)
    = entry (arr (qA m c)) (arr (kA m c)) (arr (vA m c)) (lamOf (lA m c)) (fun r => gA m c (ix1 r)) (seqOf t) (headOf t) (posOf t j) r := by
  rw [outAt, outTile_at _ _ _ _ _ _ lam (fun x r => w (seqOf t) x (headCol (headOf t) r))
    (by rw [lam_block, lambda_at, hl]) (fun a r k => by rw [value_at, hw]) (fun a k => ones_at m c t a k),
    scores_first, scores_second, entry_eq, gain_block, gain_at, entry, hl]
  simp only [hw]

/-- The result: at column `e` and position `p`. -/
def resultOf (e : Fin 512) (p : Fin 32768) : EReal :=
  entry (arr (qA m c)) (arr (kA m c)) (arr (vA m c)) (lamOf (lA m c)) (fun r => gA m c (ix1 r)) (⟨p.val / 16384, by omega⟩ : Fin 2)
    (⟨e.val / 128, by omega⟩ : Fin 4) (⟨p.val % 16384, by omega⟩ : Fin 16384) (⟨e.val % 128, by omega⟩ : Fin 128)

/-- A point's entry is the result at its place in the array. -/
theorem out_place (t : Fin cfg0.N) (r : Fin 128) (j : Fin 256) (e : Fin 512) (p : Fin 32768)
    (he : e.val = t.val / 64 % 4 * 128 + r.val) (hp : p.val = (t.val / 256 * 64 + t.val % 64) * 256 + j.val) :
    outAt m c t (ix2 r j) = resultOf m c e p := by
  have h := (idx t).1
  rw [out_at m c lam w hl hw, resultOf]
  have e₁ : (⟨p.val / 16384, by omega⟩ : Fin 2) = seqOf t := Fin.ext (by simp only [seqOf]; omega)
  have e₂ : (⟨e.val / 128, by omega⟩ : Fin 4) = headOf t := Fin.ext (by simp only [headOf]; omega)
  have e₃ : (⟨p.val % 16384, by omega⟩ : Fin 16384) = posOf t j := Fin.ext (by simp only [posOf]; omega)
  have e₄ : (⟨e.val % 128, by omega⟩ : Fin 128) = r := Fin.ext (by show e.val % 128 = r.val; omega)
  rw [e₁, e₂, e₃, e₄]

/-- The result array after the run. -/
theorem final : (dats m 0 c).arrAt 6 cfg0.N = (fun y => resultOf m c (y 0) (y 1) : FVec Ideal S512x32768 .bf16) := by
  refine (dats m 0 c).arrAt_eq_of_covers 6 _ (by decide +kernel) fun t _ y => ?_
  blk_simp
  rw [after_6]
  rw [show outAt m c t y = outAt m c t (ix2 (y 0) (y 1)) from congrArg _ (Idealize.ShloMosaic.ValueIdx.eq_ix2 y)]
  refine out_place m c lam w hl hw t (y 0) (y 1) _ _ ?_ ?_
  · blk_simp [idx t]
  · blk_simp [idx t]

end real

end Cert.AttnIdeal.Flash

end
-- ==== Proof.Reference.lean ====
/-
  The reference at an entry: its operations read one after another at an index, down to the scores, the two softmax
  maps, their weighted difference and the normalised sum of values.
-/
module

public import proofs.«01_k».proof.Proof.Spec
public import proofs.«01_k».proof.Proof.Gen.AttnRefIdeal.Read
public import Idealize.ShloMosaic.Lib.Pipeline.ValueKit

@[expose] public section

set_option maxRecDepth 16384

noncomputable section

namespace Cert.AttnRefIdeal.Flash

open Idealize.ShloMosaic Idealize.ShloMosaic.TcCoe Idealize.SL.Sem
open Cert.AttnRefIdeal Cert.AttnRefIdeal.Read Cert.Softmax Cert.Spec

variable (q k v : FVec Ideal S2x16384x512 .f32) (l : FVec Ideal S4x64 .f32) (g : FVec Ideal S128 .f32)

/-- An array by its sequence, position and column. -/
abbrev arr (a : FVec Ideal S2x16384x512 .f32) : Arr := fun b i e => a (ix3 b i e)

theorem score_at (b : Fin 2) (h : Fin 4) (s : Fin 2) (i x : Fin 16384) :
    val_main_v21 (F := Ideal) q k (ix5 b h s i x) = score (arr q) (arr k) b h s i x := by
  unfold score mapCol
  pointwise [val_main_v21, val_main_v20, val_main_v19, val_main_cst_2, val_main_v0, val_main_v1]

/-- The word of minus infinity is the least value. -/
theorem least : Ideal.ofBits .f32 0xFF800000#32 = ⊥ := by
  simp [Ideal.ofBits, Ideal.ieee]

/-- A maximum over the keys, started at the word of minus infinity, is a fold from the least value. -/
theorem reduce_at (y : FVec Ideal S2x4x2x16384x16384 .f32) (b : Fin 2) (h : Fin 4) (s : Fin 2) (i : Fin 16384) :
    (Host.reduce FloatOps.maximumf y (constant (F := Ideal) S_ .f32 0xFF800000#32) Gen.reducesTo_S2x4x2x16384x16384_S2x4x2x16384_d4 Gen.h_S_ : FVec Ideal S2x4x2x16384 .f32) (ix4 b h s i)
      = (Finset.univ : Finset (Fin 16384)).fold max (Ideal.ofBits .f32 0xFF800000#32) (fun x => y (ix5 b h s i x)) := by
  pointwise

theorem max_at (b : Fin 2) (h : Fin 4) (s : Fin 2) (i : Fin 16384) :
    val_main_v24 (F := Ideal) q k (ix4 b h s i) = top (fun x => val_main_v21 (F := Ideal) q k (ix5 b h s i x)) := by
  rw [val_main_v24_apply, val_main_v22, val_main_cst_3, val_main_v23_apply, val_main_cst_4_apply]
  generalize val_main_v21 (F := Ideal) q k = y
  rw [reduce_at]
  unfold top
  simp only [least]
  exact max_eq_right bot_le

theorem exp_at (b : Fin 2) (h : Fin 4) (s : Fin 2) (i x : Fin 16384) :
    val_main_v28 (F := Ideal) q k (ix5 b h s i x)
      = Ideal.exp (val_main_v21 (F := Ideal) q k (ix5 b h s i x) - val_main_v24 (F := Ideal) q k (ix4 b h s i)) := by
  pointwise [val_main_v28, val_main_v27, val_main_v26, val_main_v25]

theorem soft_at (b : Fin 2) (h : Fin 4) (s : Fin 2) (i x : Fin 16384) :
    val_main_v32 (F := Ideal) q k (ix5 b h s i x)
      = Ideal.div (val_main_v28 (F := Ideal) q k (ix5 b h s i x)) (∑ y : Fin 16384, val_main_v28 (F := Ideal) q k (ix5 b h s i y)) := by
  pointwise [val_main_v32, val_main_v31, val_main_v30, val_main_v29, val_main_cst_5]

theorem lam_at (j : S_.Idx) : val_main_v18 (F := Ideal) l j =
    Ideal.exp (∑ x : Fin 64, l (ix2 0 x) * l (ix2 1 x)) - Ideal.exp (∑ x : Fin 64, l (ix2 2 x) * l (ix2 3 x))
    + Ideal.ofBits .f32 0x3E4CCCCD#32 := by
  pointwise [val_main_v18, val_main_cst_1, val_main_v17, val_main_v16, val_main_v15, val_main_v14, val_main_v13, val_main_v12, val_main_v11, val_main_v10, val_main_v9, val_main_v8, val_main_v7, val_main_v6, val_main_v5, val_main_v4, val_main_v3, val_main_cst, val_main_cst_0]

/-! The two maps are the two slices of the softmax: a row-major split by sequence, head, query and key. -/

theorem first_map (b : Fin 2) (h : Fin 4) (i x : Fin 16384) : idx_main_v33 (idx_main_v34 (ix4 b h i x)) = ix5 b h 0 i x :=
  funext fun a => match a with
  | ⟨0, _⟩ => Fin.ext (by show (((b.val * 4 + h.val) * 16384 + i.val) * 16384 + x.val) / 1073741824 = b.val; omega)
  | ⟨1, _⟩ => Fin.ext (by show (((b.val * 4 + h.val) * 16384 + i.val) * 16384 + x.val) / 268435456 % 4 = h.val; omega)
  | ⟨2, _⟩ => rfl
  | ⟨3, _⟩ => Fin.ext (by show (((b.val * 4 + h.val) * 16384 + i.val) * 16384 + x.val) / 16384 % 16384 = i.val; omega)
  | ⟨4, _⟩ => Fin.ext (by show (((b.val * 4 + h.val) * 16384 + i.val) * 16384 + x.val) % 16384 = x.val; omega)

theorem second_map (b : Fin 2) (h : Fin 4) (i x : Fin 16384) : idx_main_v35 (idx_main_v36 (ix4 b h i x)) = ix5 b h 1 i x :=
  funext fun a => match a with
  | ⟨0, _⟩ => Fin.ext (by show (((b.val * 4 + h.val) * 16384 + i.val) * 16384 + x.val) / 1073741824 = b.val; omega)
  | ⟨1, _⟩ => Fin.ext (by show (((b.val * 4 + h.val) * 16384 + i.val) * 16384 + x.val) / 268435456 % 4 = h.val; omega)
  | ⟨2, _⟩ => rfl
  | ⟨3, _⟩ => Fin.ext (by show (((b.val * 4 + h.val) * 16384 + i.val) * 16384 + x.val) / 16384 % 16384 = i.val; omega)
  | ⟨4, _⟩ => Fin.ext (by show (((b.val * 4 + h.val) * 16384 + i.val) * 16384 + x.val) % 16384 = x.val; omega)

theorem weight_at (b : Fin 2) (h : Fin 4) (i x : Fin 16384) :
    val_main_v39 (F := Ideal) q k l (ix4 b h i x)
      = val_main_v32 (F := Ideal) q k (ix5 b h 0 i x) - val_main_v18 (F := Ideal) l ix0 * val_main_v32 (F := Ideal) q k (ix5 b h 1 i x) := by
  rw [val_main_v39_apply, val_main_v38_apply, val_main_v37_apply, val_main_v36_apply, val_main_v35_apply,
    val_main_v34_apply, val_main_v33_apply, first_map, second_map]
  generalize val_main_v32 (F := Ideal) q k = y
  have e : idx_main_v37 (ix4 b h i x) = ix0 := funext fun a => a.elim0
  rw [e]
  rfl

theorem mix_at (b : Fin 2) (h : Fin 4) (i : Fin 16384) (r : Fin 128) :
    val_main_v41 (F := Ideal) q k v l (ix4 b i h r)
      = ∑ x : Fin 16384, v (ix3 b x (headCol h r)) * val_main_v39 (F := Ideal) q k l (ix4 b h i x) := by
  unfold headCol
  pointwise [val_main_v41, val_main_v40, val_main_v2]

theorem result_at (p : Fin 32768) (e : Fin 512) :
    val_main_v59 (F := Ideal) q k v l g (ix2 e p)
      = normed (fun r : Fin 128 => val_main_v41 (F := Ideal) q k v l (ix4 (⟨p.val / 16384, by omega⟩ : Fin 2) (⟨p.val % 16384, by omega⟩ : Fin 16384)
          (⟨e.val / 128, by omega⟩ : Fin 4) r)) (⟨e.val % 128, by omega⟩ : Fin 128) * g (ix1 (⟨e.val % 128, by omega⟩ : Fin 128)) * Ideal.ofBits .f32 0x3F4CCCCD#32 := by
  unfold normed
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_cst_6, val_main_cst_7, val_main_cst_8, val_main_cst_9]

/-- The reference at column `e` and position `p`. -/
theorem reference_at (e : Fin 512) (p : Fin 32768) :
    val_main_v59 (F := Ideal) q k v l g (ix2 e p)
      = entry (arr q) (arr k) (arr v) (val_main_v18 (F := Ideal) l ix0) (fun r => g (ix1 r)) (⟨p.val / 16384, by omega⟩ : Fin 2)
        (⟨e.val / 128, by omega⟩ : Fin 4) (⟨p.val % 16384, by omega⟩ : Fin 16384) (⟨e.val % 128, by omega⟩ : Fin 128) := by
  rw [result_at, entry, plainEntry]
  simp only [mix_at, weight_at, soft_at, exp_at, max_at, score_at]

end Cert.AttnRefIdeal.Flash

end
-- ==== Proof.Finite.lean ====
/-
  The precondition: the values and the vectors of lambda are real, hence so is lambda.
-/
module

public import proofs.«01_k».proof.Proof.Host
public import proofs.«01_k».proof.Proof.Combine
public import proofs.«01_k».proof.Proof.Gen.Pre_finite
public import Idealize.ShloMosaic.Lib.ReduceAll

@[expose] public section

set_option maxRecDepth 16384

noncomputable section

namespace Cert.Pre_finite.Flash

open Idealize.ShloMosaic Idealize.SL.Sem
open Cert.Pre_finite Cert.Softmax

theorem infinity : Ideal.ofBits .f32 0x7F800000#32 = ⊤ := by
  simp [Ideal.ofBits, Ideal.ieee]

/-- An entry whose absolute value is below infinity is a real. -/
theorem real_of_abs (x : EReal) (h : max x (-x) < ⊤) : ∃ r : ℝ, x = (r : EReal) := by
  induction x using EReal.rec with
  | bot => simp at h
  | top => simp at h
  | coe a => exact ⟨a, rfl⟩

/-- The same, of the word of the comparison. -/
theorem real_of_word {x : EReal} (h : Ideal.cmp .olt (max x (-x)) (Ideal.ofBits .f32 0x7F800000#32) = 1#1) :
    ∃ r : ℝ, x = (r : EReal) := by
  rw [infinity] at h
  refine real_of_abs x ?_
  by_contra hn
  simp [Ideal.cmp, hn] at h

instance : Subsingleton S_.Idx := ⟨fun a b => funext fun x => x.elim0⟩

variable (q k v : FVec Ideal S2x16384x512 .f32) (l : FVec Ideal S4x64 .f32) (g : FVec Ideal S128 .f32)
  (h : Cert.Pre_finite.fn (F := Ideal) q k v l g = fun _ => 1#1)

include h

theorem values_real (i : S2x16384x512.Idx) : ∃ r : ℝ, v i = (r : EReal) := by
  have h0 := (IntOp.andi_eq_one.1 (congrFun h ix0)).1
  exact real_of_word (Host.reduce_andi_all _ _ _ _ _ h0 i)

theorem lambda_real (i : S4x64.Idx) : ∃ r : ℝ, l i = (r : EReal) := by
  have h0 := (IntOp.andi_eq_one.1 (congrFun h ix0)).2
  exact real_of_word (Host.reduce_andi_all _ _ _ _ _ h0 i)

end Cert.Pre_finite.Flash

namespace Cert.AttnIdeal.Flash

open Idealize.ShloMosaic Cert.AttnIdeal Cert.Softmax

/-- Lambda is a real when its vectors are. -/
theorem lamOf_real (l : FVec Ideal S4x64 .f32) (h : ∀ i, ∃ r : ℝ, l i = (r : EReal)) : ∃ r : ℝ, lamOf l = (r : EReal) := by
  choose u hu using h
  obtain ⟨e, he⟩ := ofBits_fifth
  unfold lamOf
  simp only [hu, he, ← EReal.coe_mul]
  rw [← coe_sum, ← coe_sum, Ideal.exp_coe, Ideal.exp_coe, ← EReal.coe_sub, ← EReal.coe_add]
  exact ⟨_, rfl⟩

end Cert.AttnIdeal.Flash

end
-- ==== Proof.Equation.lean ====
/-
  The equation: where the values and the vectors of lambda are real, the idealized call and the reference end with the
  same array, entry by entry, and leave their arguments.
-/
module

public import proofs.«01_k».proof.Proof.Result
public import proofs.«01_k».proof.Proof.Reference
public import proofs.«01_k».proof.Proof.Finite
public import proofs.«01_k».proof.Proof.Gen.AttnRefIdeal.Run
public import proofs.«01_k».proof.Defs
public import Idealize.ShloMosaic.Lib.Claim

@[expose] public section

set_option maxRecDepth 16384

noncomputable section

namespace Cert.Proof

open Idealize.ShloMosaic Idealize.SL.Sem Cert.Spec
open Cert.AttnIdeal.Flash (dats resultOf lamOf lA qA kA vA gA)

section kernel

open Cert.AttnIdeal Cert.AttnIdeal.Gen Idealize.ShloMosaic.TcCoe

variable (m : (ℓ : Loc nD τ sig) → Buf (Elt Ideal) ℓ) (g : Dev nD → PrngReg)

/-- The array that both programs end with. -/
def answer (c : Dev nD) : FVec Ideal S512x32768 .bf16 := fun y => resultOf m c (y 0) (y 1)

/-- The run of the idealized call: the answer, and the arguments unchanged. -/
theorem run_kernel (hv : ∀ c i, ∃ r : ℝ, vA m c i = (r : EReal)) (hl : ∀ c i, ∃ r : ℝ, lA m c i = (r : EReal)) :
    θ_run (Cert.AttnIdeal.defs (F := Ideal)) (onTc (τ := τ) (main (F := Ideal))) ⟨m, fun _ => 0, g⟩ fun r => ∀ c : Dev nD,
      r.2.mem ((c : Thread nD τ).loc main_v43) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine θ_run_mono (Cert.AttnIdeal.Flash.run_main m g) fun r h c => ⟨?_, ?_, ?_, ?_, ?_, ?_⟩
  · obtain ⟨lam, hlam⟩ := Cert.AttnIdeal.Flash.lamOf_real (lA m c) (hl c)
    choose w hw using hv c
    exact ((h.1 c).1 6).trans (Cert.AttnIdeal.Flash.final m c lam (fun b i e => w (ix3 b i e)) hlam (fun b i e => hw _))
  · exact ((h.1 c).2 main_arg0 (Pipeline.mem_restRefs_of main_arg0 (by decide) (by decide))).trans (V_main_arg0 m c)
  · exact ((h.1 c).2 main_arg1 (Pipeline.mem_restRefs_of main_arg1 (by decide) (by decide))).trans (V_main_arg1 m c)
  · exact ((h.1 c).2 main_arg2 (Pipeline.mem_restRefs_of main_arg2 (by decide) (by decide))).trans (V_main_arg2 m c)
  · exact ((h.1 c).2 main_arg3 (Pipeline.mem_restRefs_of main_arg3 (by decide) (by decide))).trans (V_main_arg3 m c)
  · exact ((h.1 c).2 main_arg4 (Pipeline.mem_restRefs_of main_arg4 (by decide) (by decide))).trans (V_main_arg4 m c)

end kernel

/-- The reference ends with the answer too. -/
theorem reference_answer (m : (ℓ : Loc Cert.AttnIdeal.nD Cert.AttnIdeal.τ Cert.AttnIdeal.sig) → Buf (Elt Ideal) ℓ) (c : Dev Cert.AttnIdeal.nD) :
    Cert.AttnRefIdeal.Read.val_main_v59 (F := Ideal) (qA m c) (kA m c) (vA m c) (lA m c) (gA m c) = answer m c := by
  funext y
  obtain ⟨e, p, rfl⟩ : ∃ (e : Fin 512) (p : Fin 32768), y = ix2 e p := ⟨_, _, Idealize.ShloMosaic.ValueIdx.eq_ix2 y⟩
  exact (Cert.AttnRefIdeal.Flash.reference_at _ _ _ _ _ e p).trans (by rw [Cert.AttnRefIdeal.Flash.lam_at]; rfl)

/-- The two programs, from memories that agree on the arguments, end with one array. -/
theorem algebraic : Cert.algebraic_AttnIdeal_AttnRefIdeal_pre_finite (hAttnIdeal := Cert.AttnIdeal.Gen.facts)
    (hAttnRefIdeal := Cert.AttnRefIdeal.Gen.facts) (hPre_finite := Cert.Pre_finite.Gen.facts) := by
  intro m g m' g' hpre heq
  refine ⟨fun c => answer m c, ?_, ?_⟩
  · exact run_kernel m g (fun c => Cert.Pre_finite.Flash.values_real _ _ _ _ _ (hpre c))
      (fun c => Cert.Pre_finite.Flash.lambda_real _ _ _ _ _ (hpre c))
  · refine θ_run_mono (Cert.AttnRefIdeal.Value.run m' g') fun r h c => ⟨?_, (h c).2⟩
    refine ((h c).1).trans ?_
    rw [Cert.AttnRefIdeal.Read.val_main_v59_eq, (heq c).1, (heq c).2.1, (heq c).2.2.1, (heq c).2.2.2.1, (heq c).2.2.2.2]
    exact reference_answer m c

end Cert.Proof

end
-- ==== Proof.FfnSpec.lean ====
/-
  One entry of the feed-forward part, by plain sums: the up projection, the depthwise convolution of width three along the
  sequence with zeros beyond its ends, the tanh form of gelu, the product with the value branch, the down projection, the
  residual and the layer norm.
-/
module

public import Idealize.ShloMosaic.PureOps.Ideal
public import Idealize.ShloMosaic.PureOps.Ideal.Laws

@[expose] public section

noncomputable section

namespace Cert.Ffn

open Idealize.ShloMosaic

/-- gelu in its tanh form. -/
def gelu (a : EReal) : EReal :=
  a * (Ideal.ofBits .f32 0x3F000000#32 * (1 + Ideal.tanh (Ideal.ofBits .f32 0x3F4C422A#32 * (a + Ideal.ofBits .f32 0x3D372713#32 * (a * a * a)))))

/-- Three neighbours weighted, and the bias. -/
def conv (w : Fin 3 → EReal) (b p q r : EReal) : EReal := w 0 * p + w 1 * q + w 2 * r + b

/-- The mean of a row of 1024. -/
def mean (y : Fin 1024 → EReal) : EReal := Ideal.div (∑ e, y e) (Ideal.ofBits .f32 0x44800000#32)

/-- A row less its mean. -/
def centred (y : Fin 1024 → EReal) (e : Fin 1024) : EReal := y e - mean y

/-- The layer norm of a row, with gain and bias. -/
def layerNorm (y g b : Fin 1024 → EReal) (e : Fin 1024) : EReal :=
  centred y e * Ideal.rsqrt (mean (fun e => centred y e * centred y e) + Ideal.ofBits .f32 0x3727C5AC#32) * g e + b e

section entry

variable (x : Fin 2 → Fin 16384 → Fin 1024 → EReal) (W : Fin 1024 → Fin 5632 → EReal) (w : Fin 3 → Fin 2816 → EReal)
  (c : Fin 2816 → EReal) (D : Fin 2816 → Fin 1024 → EReal) (g b : Fin 1024 → EReal)

/-- The gate branch of the up projection, and its value branch. -/
def gate (s : Fin 2) (t : Fin 16384) (f : Fin 2816) : EReal := ∑ k, x s t k * W k ⟨f.val, by omega⟩
def value (s : Fin 2) (t : Fin 16384) (f : Fin 2816) : EReal := ∑ k, x s t k * W k ⟨2816 + f.val, by omega⟩

/-- The gate one position before and one after, zero beyond the ends. -/
def before (s : Fin 2) (t : Fin 16384) (f : Fin 2816) : EReal :=
  if h : t.val = 0 then 0 else gate x W s ⟨t.val - 1, by omega⟩ f
def after (s : Fin 2) (t : Fin 16384) (f : Fin 2816) : EReal :=
  if h : t.val = 16383 then 0 else gate x W s ⟨t.val + 1, by omega⟩ f

/-- The gated hidden unit. -/
def hiddenUnit (s : Fin 2) (t : Fin 16384) (f : Fin 2816) : EReal :=
  gelu (conv (fun a => w a f) (c f) (before x W s t f) (gate x W s t f) (after x W s t f)) * value x W s t f

/-- The residual stream before the norm. -/
def stream (s : Fin 2) (t : Fin 16384) (e : Fin 1024) : EReal :=
  Ideal.ofBits .f32 0x3FB504F3#32 * x s t e + ∑ f, hiddenUnit x W w c s t f * D f e

/-- The entry at sequence `s`, position `t`, column `e`. -/
def entry (s : Fin 2) (t : Fin 16384) (e : Fin 1024) : EReal := layerNorm (stream x W w c D s t) g b e

end entry

end Cert.Ffn

end
-- ==== Proof.FfnTile.lean ====
/-
  What one grid point of the feed-forward call writes, over the extended reals: the layer norm of the residual stream of
  its rows, with the rows before and after the tile taken from the neighbouring blocks.
-/
module

public import proofs.«01_k».proof.Proof.Gen.FfnIdeal.Frame
public import proofs.«01_k».proof.Proof.FfnSpec
public import Idealize.ShloMosaic.Lib.Pipeline.ValueKit

@[expose] public section

set_option maxRecDepth 16384

noncomputable section

namespace Cert.FfnIdeal.Tile

open Idealize.ShloMosaic Idealize.SL.Sem
open Cert.FfnIdeal Cert.FfnIdeal.Gen Cert.Ffn

/-- The two comparisons of the tile's number, and the choice that each makes. -/
theorem past_first (n : Fin 64) : Scalar.cmpi .sgt (BitVec.ofNat 32 n.val) 0#32 = if n.val = 0 then 0#1 else 1#1 := by
  revert n; decide +kernel

theorem before_last (n : Fin 64) : Scalar.cmpi .slt (BitVec.ofNat 32 n.val) 63#32 = if n.val = 63 then 0#1 else 1#1 := by
  revert n; decide +kernel

/-- The row before row `j` of a tile, and the row after it. -/
def rowBefore (n : Fin 64) (v0 : Vec Ideal S256x1024 .f32) (v3 : Vec Ideal S8x1024 .f32) (j : Fin 256) (k : Fin 1024) : EReal :=
  if h : j.val = 0 then (if n.val = 0 then 0 else v3 (ix2 7 k)) else v0 (ix2 ⟨j.val - 1, by omega⟩ k)

def rowAfter (n : Fin 64) (v0 : Vec Ideal S256x1024 .f32) (v8 : Vec Ideal S8x1024 .f32) (j : Fin 256) (k : Fin 1024) : EReal :=
  if h : j.val = 255 then (if n.val = 63 then 0 else v8 (ix2 0 k)) else v0 (ix2 ⟨j.val + 1, by omega⟩ k)

theorem gate_at (i : grid0.Coords) (v0 : Vec Ideal S256x1024 .f32) (v3 v8 : Vec Ideal S8x1024 .f32) (v14 : Vec Ideal S1024x2816 .bf16)
    (v17 : Vec Ideal S3x2816 .f32) (v34 : Vec Ideal S1x2816 .f32) (j : Fin 256) (f : Fin 2816) :
    k0_pay3 i v0 v3 v8 v14 v17 v34 (ix2 j f) = conv (fun a => v17 (ix2 a f)) (v34 (ix2 0 f))
      (∑ k : Fin 1024, rowBefore (i 1) v0 v3 j k * v14 (ix2 k f)) (∑ k : Fin 1024, v0 (ix2 j k) * v14 (ix2 k f))
      (∑ k : Fin 1024, rowAfter (i 1) v0 v8 j k * v14 (ix2 k f)) := by
  unfold conv
  pointwise [k0_pay3, k0_pay2]
  have e₁ := past_first (i 1)
  have e₂ := before_last (i 1)
  have hb : ∀ k : Fin 1024, (if h : (8 + j.val + 272 - 1) % 272 < 8 then
        Scalar.select (Scalar.cmpi CmpIPredicate.sgt (BitVec.ofNat 32 (i 1).val) 0#32) (v3 (ix2 ⟨(8 + j.val + 272 - 1) % 272, h⟩ k)) 0
      else if h' : (8 + j.val + 272 - 1) % 272 - 8 < 256 then v0 (ix2 ⟨(8 + j.val + 272 - 1) % 272 - 8, h'⟩ k)
      else Scalar.select (Scalar.cmpi CmpIPredicate.slt (BitVec.ofNat 32 (i 1).val) 63#32)
        (v8 (ix2 ⟨(8 + j.val + 272 - 1) % 272 - 8 - 256, by omega⟩ k)) 0 : EReal) = rowBefore (i 1) v0 v3 j k := fun k => by
    unfold rowBefore
    by_cases hj : j.val = 0
    · rw [dif_pos (by omega), dif_pos hj, e₁]
      have : (⟨(8 + j.val + 272 - 1) % 272, by omega⟩ : Fin 8) = 7 := Fin.ext (by show (8 + j.val + 272 - 1) % 272 = 7; omega)
      rw [this]
      by_cases hn : (i 1).val = 0
      · rw [if_pos hn, if_pos hn]; rfl
      · rw [if_neg hn, if_neg hn]; rfl
    · rw [dif_neg (by omega), dif_pos (by omega), dif_neg hj]
      exact congrArg (fun r => v0 (ix2 r k)) (Fin.ext (by show (8 + j.val + 272 - 1) % 272 - 8 = j.val - 1; omega))
  have ha : ∀ k : Fin 1024, (if h : (8 + j.val + 272 - 271) % 272 < 8 then
        Scalar.select (Scalar.cmpi CmpIPredicate.sgt (BitVec.ofNat 32 (i 1).val) 0#32) (v3 (ix2 ⟨(8 + j.val + 272 - 271) % 272, h⟩ k)) 0
      else if h' : (8 + j.val + 272 - 271) % 272 - 8 < 256 then v0 (ix2 ⟨(8 + j.val + 272 - 271) % 272 - 8, h'⟩ k)
      else Scalar.select (Scalar.cmpi CmpIPredicate.slt (BitVec.ofNat 32 (i 1).val) 63#32)
        (v8 (ix2 ⟨(8 + j.val + 272 - 271) % 272 - 8 - 256, by omega⟩ k)) 0 : EReal) = rowAfter (i 1) v0 v8 j k := fun k => by
    unfold rowAfter
    by_cases hj : j.val = 255
    · rw [dif_neg (by omega), dif_neg (by omega), dif_pos hj, e₂]
      have : (⟨(8 + j.val + 272 - 271) % 272 - 8 - 256, by omega⟩ : Fin 8) = 0 := Fin.ext (by show (8 + j.val + 272 - 271) % 272 - 8 - 256 = 0; omega)
      rw [this]
      by_cases hn : (i 1).val = 63
      · rw [if_pos hn, if_pos hn]; rfl
      · rw [if_neg hn, if_neg hn]; rfl
    · rw [dif_neg (by omega), dif_pos (by omega), dif_neg hj]
      exact congrArg (fun r => v0 (ix2 r k)) (Fin.ext (by show (8 + j.val + 272 - 271) % 272 - 8 = j.val + 1; omega))
  simp only [hb, ha]

/-- The residual stream of row `j` of a tile, from its convolved gates. -/
def streamOf (v1 : FVec Ideal S256x1024 .f32) (v37 : FVec Ideal S256x2816 .f32) (v38 : FVec Ideal S256x1024 .bf16)
    (v39 : Vec Ideal S1024x2816 .bf16) (v57 : Vec Ideal S2816x1024 .bf16) (j : Fin 256) (e : Fin 1024) : EReal :=
  Ideal.ofBits .f32 0x3FB504F3#32 * v1 (ix2 j e)
    + ∑ f : Fin 2816, gelu (v37 (ix2 j f)) * (∑ k : Fin 1024, v38 (ix2 j k) * v39 (ix2 k f)) * v57 (ix2 f e)

theorem centred_at (v1 : FVec Ideal S256x1024 .f32) (v37 : FVec Ideal S256x2816 .f32) (v38 : FVec Ideal S256x1024 .bf16)
    (v39 : Vec Ideal S1024x2816 .bf16) (v57 : Vec Ideal S2816x1024 .bf16) (j : Fin 256) (e : Fin 1024) :
    k0_pay7 v1 v37 v38 v39 v57 (ix2 j e) = centred (streamOf v1 v37 v38 v39 v57 j) e := by
  have hg : ∀ a : EReal, Ideal.ofBits .f32 0x3F000000#32 * a * (1 + Ideal.tanh (Ideal.ofBits .f32 0x3F4C422A#32 * (a + Ideal.ofBits .f32 0x3D372713#32 * (a * a * a)))) = gelu a :=
    fun a => by
      unfold gelu
      generalize 1 + Ideal.tanh _ = T
      rw [mul_comm (Ideal.ofBits .f32 0x3F000000#32) a, mul_assoc]
  unfold centred mean streamOf
  pointwise [k0_pay7]
  simp only [hg]

theorem square_at (v1 : FVec Ideal S256x1024 .f32) (v37 : FVec Ideal S256x2816 .f32) (v38 : FVec Ideal S256x1024 .bf16)
    (v39 : Vec Ideal S1024x2816 .bf16) (v57 : Vec Ideal S2816x1024 .bf16) (j : Fin 256) :
    k0_pay8 v1 v37 v38 v39 v57 (ix2 j 0) = mean (fun e => centred (streamOf v1 v37 v38 v39 v57 j) e * centred (streamOf v1 v37 v38 v39 v57 j) e) := by
  unfold mean
  simp only [← centred_at]
  pointwise [k0_pay8]

theorem store_at (v64 v66 : FVec Ideal S1x1024 .f32) (v72 : FVec Ideal S256x1024 .f32) (v77 : FVec Ideal S256x1 .f32) (j : Fin 256) (e : Fin 1024) :
    k0_pay1 (k0_pay5 v64) (k0_pay6 v66) v72 v77 (k0_pay9 (F := Ideal)) (ix2 j e)
      = v72 (ix2 j e) * Ideal.rsqrt (v77 (ix2 j 0) + Ideal.ofBits .f32 0x3727C5AC#32) * v64 (ix2 0 e) + v66 (ix2 0 e) := by
  pointwise [k0_pay1, k0_pay5, k0_pay6, k0_pay9]

/-- What a point leaves in the result's buffer. -/
theorem out_at (i : grid0.Coords) (x0 : Vec Ideal S8x1024 .f32) (x1 : Vec Ideal S256x1024 .f32) (x2 : Vec Ideal S8x1024 .f32)
    (x3 : Vec Ideal S1024x5632 .bf16) (x4 : Vec Ideal S3x2816 .f32) (x5 : Vec Ideal S1x2816 .f32) (x6 : Vec Ideal S2816x1024 .bf16)
    (x7 x8 : Vec Ideal S1x1024 .f32) (j : Fin 256) (e : Fin 1024) :
    out0_9 i x0 x1 x2 x3 x4 x5 x6 x7 x8 (ix2 j e) = layerNorm (fun e => Ideal.ofBits .f32 0x3FB504F3#32 * x1 (ix2 j e)
      + ∑ f : Fin 2816, gelu (conv (fun a => x4 (ix2 a f)) (x5 (ix2 0 f))
          (∑ k : Fin 1024, rowBefore (i 1) x1 x0 j k * x3 (ix2 k (⟨f.val, by omega⟩ : Fin 5632)))
          (∑ k : Fin 1024, x1 (ix2 j k) * x3 (ix2 k (⟨f.val, by omega⟩ : Fin 5632)))
          (∑ k : Fin 1024, rowAfter (i 1) x1 x2 j k * x3 (ix2 k (⟨f.val, by omega⟩ : Fin 5632))))
        * (∑ k : Fin 1024, x1 (ix2 j k) * x3 (ix2 k (⟨2816 + f.val, by omega⟩ : Fin 5632))) * x6 (ix2 f e))
      (fun e => x7 (ix2 0 e)) (fun e => x8 (ix2 0 e)) e := by
  unfold_out out0_9
  simp (disch := decide) only [View.canon_cons_unit_lit', View.ld_unit_lit']
  have low : ∀ (k : Fin 1024) (f : Fin 2816), View.ld x3 r0_2 (ix2 k f) = x3 (ix2 k (⟨f.val, by omega⟩ : Fin 5632)) := fun k f =>
    View.ld_unit_apply_of _ _ _ _ _ _ fun a => match a with
      | ⟨0, _⟩ => by simp
      | ⟨1, _⟩ => by simp
  have high : ∀ (k : Fin 1024) (f : Fin 2816), View.ld x3 r0_5 (ix2 k f) = x3 (ix2 k (⟨2816 + f.val, by omega⟩ : Fin 5632)) := fun k f =>
    View.ld_unit_apply_of _ _ _ _ _ _ fun a => match a with
      | ⟨0, _⟩ => by simp
      | ⟨1, _⟩ => by simp
  have same : ∀ (k : Fin 1024), k0_pay2 x1 (ix2 j k) = x1 (ix2 j k) := fun k => by pointwise [k0_pay2]
  have same' : ∀ (k : Fin 1024), k0_pay4 x1 (ix2 j k) = x1 (ix2 j k) := fun k => by pointwise [k0_pay4, k0_pay2]
  rw [store_at, centred_at, square_at]
  refine Eq.trans (show _ = layerNorm (streamOf (k0_pay2 x1) (k0_pay3 i x1 x0 x2 (View.ld x3 r0_2) x4 x5) (k0_pay4 x1) (View.ld x3 r0_5) x6 j)
    (fun e => x7 (ix2 0 e)) (fun e => x8 (ix2 0 e)) e from rfl) ?_
  refine congrArg (fun y => layerNorm y (fun e => x7 (ix2 0 e)) (fun e => x8 (ix2 0 e)) e) (funext fun e => ?_)
  unfold streamOf
  simp only [gate_at, low, high, same, same']

end Cert.FfnIdeal.Tile

end
-- ==== Proof.FfnResult.lean ====
/-
  The result array of the feed-forward call: the host's operands and each point's blocks read at an entry, the rows beside
  a tile as the neighbouring positions, each point's entries, and the array that the points' blocks tile.
-/
module

public import proofs.«01_k».proof.Proof.FfnTile
public import proofs.«01_k».proof.Proof.FfnSpec
public import proofs.«01_k».proof.Proof.Gen.FfnIdeal.Value
public import Idealize.ShloMosaic.Lib.Pipeline.ValueKit
public import Idealize.ShloMosaic.Lib.StableHlo.ReadAt

@[expose] public section

set_option maxRecDepth 16384

noncomputable section

namespace Cert.FfnIdeal.Tile

open Idealize.ShloMosaic Idealize.ShloMosaic.TcCoe Idealize.SL.Sem
open Idealize.ShloMosaic.Pipeline (Dat Cfg Window)
open Cert.FfnIdeal Cert.FfnIdeal.Gen Cert.Ffn

variable (m : (ℓ : Loc nD τ sig) → Buf (Elt Ideal) ℓ) (c : Dev nD)

/-! ## The arguments by their coordinates -/

abbrev xA (s : Fin 2) (t : Fin 16384) (k : Fin 1024) : EReal := (m ((c : Thread nD τ).loc main_arg0) : FVec Ideal S2x16384x1024 .f32) (ix3 s t k)
abbrev upA (k : Fin 1024) (f : Fin 5632) : EReal := (m ((c : Thread nD τ).loc main_arg1) : FVec Ideal S1024x5632 .f32) (ix2 k f)
abbrev tapA (a : Fin 3) (f : Fin 2816) : EReal := (m ((c : Thread nD τ).loc main_arg2) : FVec Ideal S3x2816 .f32) (ix2 a f)
abbrev biasA (f : Fin 2816) : EReal := (m ((c : Thread nD τ).loc main_arg3) : FVec Ideal S2816 .f32) (ix1 f)
abbrev downA (f : Fin 2816) (e : Fin 1024) : EReal := (m ((c : Thread nD τ).loc main_arg4) : FVec Ideal S2816x1024 .f32) (ix2 f e)
abbrev gainA (e : Fin 1024) : EReal := (m ((c : Thread nD τ).loc main_arg5) : FVec Ideal S1024 .f32) (ix1 e)
abbrev shiftA (e : Fin 1024) : EReal := (m ((c : Thread nD τ).loc main_arg6) : FVec Ideal S1024 .f32) (ix1 e)

/-! ## The operands -/

theorem rows_at (p : Fin 32768) (k : Fin 1024) : (V m c main_v0 : FVec Ideal S32768x1024 .f32) (ix2 p k)
    = xA m c (⟨p.val / 16384, by omega⟩ : Fin 2) (⟨p.val % 16384, by omega⟩ : Fin 16384) k := by
  unfold V
  simp only [hostOps0, List.flatten_cons, List.flatten_nil, List.append_nil, List.cons_append, List.nil_append]
  after_reads_at

theorem up_at (k : Fin 1024) (f : Fin 5632) : (V m c main_v1 : FVec Ideal S1024x5632 .bf16) (ix2 k f) = upA m c k f := by
  unfold V
  simp only [hostOps0, List.flatten_cons, List.flatten_nil, List.append_nil, List.cons_append, List.nil_append]
  after_reads_at

theorem bias_at (f : Fin 2816) : (V m c main_v2 : FVec Ideal S1x2816 .f32) (ix2 0 f) = biasA m c f := by
  unfold V
  simp only [hostOps0, List.flatten_cons, List.flatten_nil, List.append_nil, List.cons_append, List.nil_append]
  after_reads_at

theorem down_at (f : Fin 2816) (e : Fin 1024) : (V m c main_v3 : FVec Ideal S2816x1024 .bf16) (ix2 f e) = downA m c f e := by
  unfold V
  simp only [hostOps0, List.flatten_cons, List.flatten_nil, List.append_nil, List.cons_append, List.nil_append]
  after_reads_at

theorem gain_at (e : Fin 1024) : (V m c main_v4 : FVec Ideal S1x1024 .f32) (ix2 0 e) = gainA m c e := by
  unfold V
  simp only [hostOps0, List.flatten_cons, List.flatten_nil, List.append_nil, List.cons_append, List.nil_append]
  after_reads_at

theorem shift_at (e : Fin 1024) : (V m c main_v5 : FVec Ideal S1x1024 .f32) (ix2 0 e) = shiftA m c e := by
  unfold V
  simp only [hostOps0, List.flatten_cons, List.flatten_nil, List.append_nil, List.cons_append, List.nil_append]
  after_reads_at

theorem tap_at (a : Fin 3) (f : Fin 2816) : (V m c main_arg2 : FVec Ideal S3x2816 .f32) (ix2 a f) = tapA m c a f :=
  congrArg (fun v : FVec Ideal S3x2816 .f32 => v (ix2 a f)) (V_main_arg2 m c)

/-! ## The blocks -/

/-- Every window's block at a point; the grid's second coordinate is the tile in its sequence. -/
theorem idx : ∀ t : Fin cfg0.N, t.val < 128 ∧ win0_0.index t = ![t.val * 32 - 1, 0] ∧ win0_1.index t = ![t.val, 0]
    ∧ win0_2.index t = ![min (t.val * 32 + 32) 4095, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0]
    ∧ (grid0.coords t 1).val = t.val % 64 :=
  (by decide +kernel : ∀ t : Fin grid0.N, _)

abbrev prevB (t : Fin cfg0.N) : FVec Ideal S8x1024 .f32 := iblk m c 0 t
abbrev tileB (t : Fin cfg0.N) : FVec Ideal S256x1024 .f32 := iblk m c 1 t
abbrev nextB (t : Fin cfg0.N) : FVec Ideal S8x1024 .f32 := iblk m c 2 t
abbrev upB (t : Fin cfg0.N) : FVec Ideal S1024x5632 .bf16 := iblk m c 3 t
abbrev tapB (t : Fin cfg0.N) : FVec Ideal S3x2816 .f32 := iblk m c 4 t
abbrev biasB (t : Fin cfg0.N) : FVec Ideal S1x2816 .f32 := iblk m c 5 t
abbrev downB (t : Fin cfg0.N) : FVec Ideal S2816x1024 .bf16 := iblk m c 6 t
abbrev gainB (t : Fin cfg0.N) : FVec Ideal S1x1024 .f32 := iblk m c 7 t
abbrev shiftB (t : Fin cfg0.N) : FVec Ideal S1x1024 .f32 := iblk m c 8 t

theorem prev_block (t : Fin cfg0.N) (k : Fin 1024) (r : Fin 8) : prevB m c t (ix2 r k)
    = (V m c main_v0 : FVec Ideal S32768x1024 .f32) (ix2 (⟨(t.val * 32 - 1) * 8 + r.val, by have := (idx t).1; omega⟩ : Fin 32768) k) := by
  blk_ext [prevB, iblk, idx t]

theorem tile_block (t : Fin cfg0.N) (j : Fin 256) (k : Fin 1024) : tileB m c t (ix2 j k)
    = (V m c main_v0 : FVec Ideal S32768x1024 .f32) (ix2 (⟨t.val * 256 + j.val, by have := (idx t).1; omega⟩ : Fin 32768) k) := by
  blk_ext [tileB, iblk, idx t]

theorem next_block (t : Fin cfg0.N) (k : Fin 1024) (r : Fin 8) : nextB m c t (ix2 r k)
    = (V m c main_v0 : FVec Ideal S32768x1024 .f32) (ix2 (⟨min (t.val * 32 + 32) 4095 * 8 + r.val, by have := (idx t).1; omega⟩ : Fin 32768) k) := by
  blk_ext [nextB, iblk, idx t]

theorem up_block (t : Fin cfg0.N) (k : Fin 1024) (f : Fin 5632) : upB m c t (ix2 k f) = upA m c k f := by
  rw [← up_at]
  blk_ext [upB, iblk, idx t]

theorem tap_block (t : Fin cfg0.N) (a : Fin 3) (f : Fin 2816) : tapB m c t (ix2 a f) = tapA m c a f := by
  rw [← tap_at]
  blk_ext [tapB, iblk, idx t]

theorem bias_block (t : Fin cfg0.N) (f : Fin 2816) : biasB m c t (ix2 0 f) = biasA m c f := by
  rw [← bias_at]
  blk_ext [biasB, iblk, idx t]

theorem down_block (t : Fin cfg0.N) (f : Fin 2816) (e : Fin 1024) : downB m c t (ix2 f e) = downA m c f e := by
  rw [← down_at]
  blk_ext [downB, iblk, idx t]

theorem gain_block (t : Fin cfg0.N) (e : Fin 1024) : gainB m c t (ix2 0 e) = gainA m c e := by
  rw [← gain_at]
  blk_ext [gainB, iblk, idx t]

theorem shift_block (t : Fin cfg0.N) (e : Fin 1024) : shiftB m c t (ix2 0 e) = shiftA m c e := by
  rw [← shift_at]
  blk_ext [shiftB, iblk, idx t]

/-! ## A point's entries -/

/-- The sequence of a point, and the position of its row `j`. -/
def seqOf (t : Fin cfg0.N) : Fin 2 := ⟨t.val / 64, by have := (idx t).1; omega⟩
def posOf (t : Fin cfg0.N) (j : Fin 256) : Fin 16384 := ⟨t.val % 64 * 256 + j.val, by omega⟩

theorem tile_at (t : Fin cfg0.N) (j : Fin 256) (k : Fin 1024) : tileB m c t (ix2 j k) = xA m c (seqOf t) (posOf t j) k := by
  have h := (idx t).1
  rw [tile_block, rows_at]
  have e₁ : (t.val * 256 + j.val) / 16384 = t.val / 64 := by omega
  have e₂ : (t.val * 256 + j.val) % 16384 = t.val % 64 * 256 + j.val := by omega
  simp only [e₁, e₂, seqOf, posOf]

/-- The row before: the position before, or zeros at the start of the sequence. -/
theorem row_before (t : Fin cfg0.N) (j : Fin 256) (k : Fin 1024) :
    rowBefore (grid0.coords t 1) (tileB m c t) (prevB m c t) j k
      = if h : (posOf t j).val = 0 then 0 else xA m c (seqOf t) ⟨(posOf t j).val - 1, by omega⟩ k := by
  have h := (idx t).1
  have hn := (idx t).2.2.2.2.2.2.2.2.2.2.2
  unfold rowBefore
  by_cases hj : j.val = 0
  · rw [dif_pos hj, hn]
    by_cases h0 : t.val % 64 = 0
    · rw [if_pos h0, dif_pos (by simp only [posOf]; omega)]
    · rw [if_neg h0, dif_neg (by simp only [posOf]; omega), prev_block, rows_at]
      have e₁ : ((t.val * 32 - 1) * 8 + 7) / 16384 = t.val / 64 := by omega
      have e₂ : ((t.val * 32 - 1) * 8 + 7) % 16384 = t.val % 64 * 256 + j.val - 1 := by omega
      refine congr (congrArg (xA m c) (Fin.ext e₁)) (Fin.ext e₂) |> fun h => congrFun h k
  · rw [dif_neg hj, dif_neg (by simp only [posOf]; omega), tile_at]
    exact congrArg (fun n => xA m c (seqOf t) n k) (Fin.ext (by simp only [posOf]; omega))

/-- The row after: the position after, or zeros at the end of the sequence. -/
theorem row_after (t : Fin cfg0.N) (j : Fin 256) (k : Fin 1024) :
    rowAfter (grid0.coords t 1) (tileB m c t) (nextB m c t) j k
      = if h : (posOf t j).val = 16383 then 0 else xA m c (seqOf t) ⟨(posOf t j).val + 1, by omega⟩ k := by
  have h := (idx t).1
  have hn := (idx t).2.2.2.2.2.2.2.2.2.2.2
  unfold rowAfter
  by_cases hj : j.val = 255
  · rw [dif_pos hj, hn]
    by_cases h0 : t.val % 64 = 63
    · rw [if_pos h0, dif_pos (by simp only [posOf]; omega)]
    · rw [if_neg h0, dif_neg (by simp only [posOf]; omega), next_block, rows_at]
      have e₁ : (min (t.val * 32 + 32) 4095 * 8 + 0) / 16384 = t.val / 64 := by omega
      have e₂ : (min (t.val * 32 + 32) 4095 * 8 + 0) % 16384 = t.val % 64 * 256 + j.val + 1 := by omega
      refine congr (congrArg (xA m c) (Fin.ext e₁)) (Fin.ext e₂) |> fun h => congrFun h k
  · rw [dif_neg hj, dif_neg (by simp only [posOf]; omega), tile_at]
    exact congrArg (fun n => xA m c (seqOf t) n k) (Fin.ext (by simp only [posOf]; omega))

/-- The gate of the row before and of the row after: a row of zeros has gate zero. -/
theorem gate_before (t : Fin cfg0.N) (j : Fin 256) (f : Fin 2816) :
    ∑ k : Fin 1024, rowBefore (grid0.coords t 1) (tileB m c t) (prevB m c t) j k * upA m c k (⟨f.val, by omega⟩ : Fin 5632)
      = before (xA m c) (upA m c) (seqOf t) (posOf t j) f := by
  simp only [row_before]
  unfold before gate
  by_cases h : (posOf t j).val = 0
  · simp only [dif_pos h, zero_mul, Finset.sum_const_zero]
  · simp only [dif_neg h]

theorem gate_after (t : Fin cfg0.N) (j : Fin 256) (f : Fin 2816) :
    ∑ k : Fin 1024, rowAfter (grid0.coords t 1) (tileB m c t) (nextB m c t) j k * upA m c k (⟨f.val, by omega⟩ : Fin 5632)
      = after (xA m c) (upA m c) (seqOf t) (posOf t j) f := by
  simp only [row_after]
  unfold after gate
  by_cases h : (posOf t j).val = 16383
  · simp only [dif_pos h, zero_mul, Finset.sum_const_zero]
  · simp only [dif_neg h]

/-- The result: at row `p` and column `e`. -/
def resultOf (p : Fin 32768) (e : Fin 1024) : EReal :=
  entry (xA m c) (upA m c) (tapA m c) (biasA m c) (downA m c) (gainA m c) (shiftA m c) (⟨p.val / 16384, by omega⟩ : Fin 2)
    (⟨p.val % 16384, by omega⟩ : Fin 16384) e

/-- What a point leaves in the result's buffer. -/
abbrev outAt (t : Fin cfg0.N) : FVec Ideal S256x1024 .f32 :=
  out0_9 (F := Ideal) (grid0.coords t) (prevB m c t) (tileB m c t) (nextB m c t) (upB m c t) (tapB m c t) (biasB m c t) (downB m c t) (gainB m c t) (shiftB m c t)

/-- Its entries are the result's. -/
theorem point_at (t : Fin cfg0.N) (j : Fin 256) (e : Fin 1024) :
    outAt m c t (ix2 j e)
      = entry (xA m c) (upA m c) (tapA m c) (biasA m c) (downA m c) (gainA m c) (shiftA m c) (seqOf t) (posOf t j) e := by
  rw [outAt, out_at]
  simp only [up_block, tap_block, bias_block, down_block, gain_block, shift_block, gate_before, gate_after, tile_at]
  rfl

theorem point_place (t : Fin cfg0.N) (j : Fin 256) (e e' : Fin 1024) (p : Fin 32768) (hp : p.val = t.val * 256 + j.val) (he : e'.val = e.val) :
    outAt m c t (ix2 j e)
      = resultOf m c p e' := by
  have h := (idx t).1
  rw [point_at, resultOf]
  have e₁ : (⟨p.val / 16384, by omega⟩ : Fin 2) = seqOf t := Fin.ext (by simp only [seqOf]; omega)
  have e₂ : (⟨p.val % 16384, by omega⟩ : Fin 16384) = posOf t j := Fin.ext (by simp only [posOf]; omega)
  have e₃ : e' = e := Fin.ext he
  rw [e₁, e₂, e₃]

/-- The result array after the run. -/
theorem final : (dats m 0 c).arrAt 9 cfg0.N = (fun y => resultOf m c (y 0) (y 1) : FVec Ideal S32768x1024 .f32) := by
  refine (dats m 0 c).arrAt_eq_of_covers 9 _ (by decide +kernel) fun t _ y => ?_
  blk_simp
  rw [after0_9]
  refine (congrArg (outAt m c t) (Idealize.ShloMosaic.ValueIdx.eq_ix2 y)).trans (point_place m c t (y 0) (y 1) _ _ ?_ ?_)
  · blk_simp [idx t]
  · blk_simp [idx t]

end Cert.FfnIdeal.Tile

end
-- ==== Proof.FfnReference.lean ====
/-
  The feed-forward reference at an entry: its operations read one after another at an index, down to the sums of the
  specification.
-/
module

public import proofs.«01_k».proof.Proof.FfnSpec
public import proofs.«01_k».proof.Proof.Gen.FfnRefIdeal.Read
public import Idealize.ShloMosaic.Lib.Pipeline.ValueKit

@[expose] public section

set_option maxRecDepth 16384

noncomputable section

namespace Cert.FfnRefIdeal.Entry

open Idealize.ShloMosaic Idealize.ShloMosaic.TcCoe Idealize.SL.Sem
open Cert.FfnRefIdeal Cert.FfnRefIdeal.Read Cert.Ffn

variable (x : FVec Ideal S2x16384x1024 .f32) (W : FVec Ideal S1024x5632 .f32) (w : FVec Ideal S3x2816 .f32)
  (c : FVec Ideal S2816 .f32) (D : FVec Ideal S2816x1024 .f32) (g b : FVec Ideal S1024 .f32)

/-- Arrays by their coordinates. -/
abbrev at3 (x : FVec Ideal S2x16384x1024 .f32) : Fin 2 → Fin 16384 → Fin 1024 → EReal := fun s t k => x (ix3 s t k)
abbrev atW (W : FVec Ideal S1024x5632 .f32) : Fin 1024 → Fin 5632 → EReal := fun k f => W (ix2 k f)
abbrev atw (w : FVec Ideal S3x2816 .f32) : Fin 3 → Fin 2816 → EReal := fun a f => w (ix2 a f)
abbrev atc (c : FVec Ideal S2816 .f32) : Fin 2816 → EReal := fun f => c (ix1 f)
abbrev atD (D : FVec Ideal S2816x1024 .f32) : Fin 2816 → Fin 1024 → EReal := fun f e => D (ix2 f e)
abbrev atg (g : FVec Ideal S1024 .f32) : Fin 1024 → EReal := fun e => g (ix1 e)

theorem gate_at (s : Fin 2) (t : Fin 16384) (f : Fin 2816) :
    val_main_v1 (F := Ideal) x W (ix3 s t f) = gate (at3 x) (atW W) s t f := by
  unfold gate
  pointwise [val_main_v1, val_main_v0]

theorem value_at (s : Fin 2) (t : Fin 16384) (f : Fin 2816) :
    val_main_v2 (F := Ideal) x W (ix3 s t f) = value (at3 x) (atW W) s t f := by
  unfold value
  pointwise [val_main_v2, val_main_v0]

theorem before_at (s : Fin 2) (t : Fin 16384) (f : Fin 2816) :
    val_main_v5 (F := Ideal) x W (ix3 s t f) = before (at3 x) (atW W) s t f := by
  unfold before
  simp only [← gate_at]
  pointwise [val_main_v5, val_main_v4, val_main_v3, val_main_cst]
  by_cases h : t.val = 0
  · rw [dif_pos (by omega), dif_pos h]
  · rw [dif_neg (by omega), dif_neg h]

theorem after_at (s : Fin 2) (t : Fin 16384) (f : Fin 2816) :
    val_main_v7 (F := Ideal) x W (ix3 s t f) = after (at3 x) (atW W) s t f := by
  unfold after
  simp only [← gate_at]
  pointwise [val_main_v7, val_main_v6, val_main_v3, val_main_cst]
  by_cases h : t.val = 16383
  · rw [dif_neg (by omega), dif_pos h]
  · rw [dif_pos (by omega), dif_neg h]
    exact congrArg (fun n => val_main_v1 (F := Ideal) x W (ix3 s n f)) (Fin.ext (Nat.add_comm 1 t.val))

theorem conv_at (s : Fin 2) (t : Fin 16384) (f : Fin 2816) :
    val_main_v27 (F := Ideal) x W w c (ix3 s t f) = conv (fun a => atw w a f) (atc c f)
      (val_main_v5 (F := Ideal) x W (ix3 s t f)) (val_main_v1 (F := Ideal) x W (ix3 s t f)) (val_main_v7 (F := Ideal) x W (ix3 s t f)) := by
  unfold conv
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8]

theorem hidden_at (s : Fin 2) (t : Fin 16384) (f : Fin 2816) :
    val_main_v41 (F := Ideal) x W w c (ix3 s t f) = gelu (val_main_v27 (F := Ideal) x W w c (ix3 s t f)) * val_main_v2 (F := Ideal) x W (ix3 s t f) := by
  unfold gelu
  pointwise [val_main_v41, val_main_v40, val_main_v39, val_main_v38, val_main_v37, val_main_v36, val_main_v35, val_main_v34, val_main_v33, val_main_v32, val_main_v31, val_main_v30, val_main_v29, val_main_v28, val_main_cst_0, val_main_cst_1, val_main_cst_2, val_main_cst_3]

theorem stream_at (s : Fin 2) (t : Fin 16384) (e : Fin 1024) :
    val_main_v45 (F := Ideal) x W w c D (ix3 s t e) = stream (at3 x) (atW W) (atw w) (atc c) (atD D) s t e := by
  unfold stream hiddenUnit
  simp only [← gate_at, ← before_at, ← after_at, ← value_at]
  simp only [← conv_at]
  pointwise [val_main_v45, val_main_v44, val_main_v43, val_main_v42, val_main_cst_4]
  exact congrArg _ (Finset.sum_congr rfl fun f _ => congrArg (· * atD D f e) (hidden_at x W w c s t f))

theorem norm_at (s : Fin 2) (t : Fin 16384) (e : Fin 1024) :
    val_main_v69 (F := Ideal) x W w c D g b (ix3 s t e)
      = layerNorm (fun e => val_main_v45 (F := Ideal) x W w c D (ix3 s t e)) (atg g) (atg b) e := by
  unfold layerNorm centred mean
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_cst_8, val_main_cst_9]

/-- The reference at row `p` and column `e`. -/
theorem reference_at (p : Fin 32768) (e : Fin 1024) :
    val_main_v70 (F := Ideal) x W w c D g b (ix2 p e) = entry (at3 x) (atW W) (atw w) (atc c) (atD D) (atg g) (atg b)
      (⟨p.val / 16384, by omega⟩ : Fin 2) (⟨p.val % 16384, by omega⟩ : Fin 16384) e := by
  unfold entry
  have : val_main_v70 (F := Ideal) x W w c D g b (ix2 p e)
      = val_main_v69 (F := Ideal) x W w c D g b (ix3 (⟨p.val / 16384, by omega⟩ : Fin 2) (⟨p.val % 16384, by omega⟩ : Fin 16384) e) := by
    pointwise [val_main_v70]
  rw [this, norm_at]
  simp only [stream_at]

end Cert.FfnRefIdeal.Entry

end
-- ==== Proof.FfnEquation.lean ====
/-
  The feed-forward call: its frames, and the equation. From any memories that agree on the arguments, the call and its
  reference end with the same array, entry by entry, and leave their arguments.
-/
module

public import proofs.«01_k».proof.Proof.FfnResult
public import proofs.«01_k».proof.Proof.FfnReference
public import proofs.«01_k».proof.Proof.Gen.Ffn.Frame
public import proofs.«01_k».proof.Proof.Gen.FfnRefIdeal.Run
public import proofs.«01_k».proof.Defs
public import Idealize.ShloMosaic.Lib.Claim
public import Idealize.ShloMosaic.Lib.Quiescent

@[expose] public section

set_option maxRecDepth 16384

noncomputable section

namespace Cert.Proof

open Idealize.ShloMosaic Idealize.SL.Sem

theorem frame_ffn : Cert.quiescent_Ffn (hFfn := Cert.Ffn.Gen.facts) := fun m g _ => Cert.Ffn.Gen.frame m g

theorem frame_ffn_ideal : Cert.quiescent_FfnIdeal (hFfnIdeal := Cert.FfnIdeal.Gen.facts) := fun m g _ => Cert.FfnIdeal.Gen.frame m g

theorem frame_ffn_ref : Cert.quiescent_FfnRefIdeal (hFfnRefIdeal := Cert.FfnRefIdeal.Gen.facts) := by
  intro m g _
  refine θ_run_mono (Cert.FfnRefIdeal.Value.run m g) fun r h => ⟨fun c => (h c).2, ?_⟩
  exact sem_eq_zero_of_no_sems rfl r.2

/-- The array that both programs end with. -/
def ffnAnswer (m : (ℓ : Loc Cert.FfnIdeal.nD Cert.FfnIdeal.τ Cert.FfnIdeal.sig) → Buf (Elt Ideal) ℓ) (c : Dev Cert.FfnIdeal.nD) :
    FVec Ideal Cert.FfnIdeal.S32768x1024 .f32 := fun y => Cert.FfnIdeal.Tile.resultOf m c (y 0) (y 1)

/-- The reference ends with the answer. -/
theorem ffn_reference (m : (ℓ : Loc Cert.FfnIdeal.nD Cert.FfnIdeal.τ Cert.FfnIdeal.sig) → Buf (Elt Ideal) ℓ) (c : Dev Cert.FfnIdeal.nD) :
    Cert.FfnRefIdeal.Read.val_main_v70 (F := Ideal) (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5))
      (m ((c.tc : Thread Cert.FfnIdeal.nD Cert.FfnIdeal.τ).loc Cert.FfnIdeal.main_arg6)) = ffnAnswer m c := by
  funext y
  obtain ⟨p, e, rfl⟩ : ∃ (p : Fin 32768) (e : Fin 1024), y = ix2 p e := ⟨_, _, Idealize.ShloMosaic.ValueIdx.eq_ix2 y⟩
  exact (Cert.FfnRefIdeal.Entry.reference_at _ _ _ _ _ _ _ p e).trans rfl

/-- The two programs, from memories that agree on the arguments, end with one array. -/
theorem algebraic_ffn : Cert.algebraic_FfnIdeal_FfnRefIdeal (hFfnIdeal := Cert.FfnIdeal.Gen.facts)
    (hFfnRefIdeal := Cert.FfnRefIdeal.Gen.facts) := by
  intro m g m' g' _ heq
  refine ⟨fun c => ffnAnswer m c, ?_, ?_⟩
  · exact θ_run_mono (Cert.FfnIdeal.Value.run_blocks m g) fun r h c => ⟨(h c).1.trans (Cert.FfnIdeal.Tile.final m c), (h c).2⟩
  · refine θ_run_mono (Cert.FfnRefIdeal.Value.run m' g') fun r h c => ⟨?_, (h c).2⟩
    refine ((h c).1).trans ?_
    rw [Cert.FfnRefIdeal.Read.val_main_v70_eq, (heq c).1, (heq c).2.1, (heq c).2.2.1, (heq c).2.2.2.1, (heq c).2.2.2.2.1, (heq c).2.2.2.2.2.1, (heq c).2.2.2.2.2.2]
    exact ffn_reference m c

end Cert.Proof

end
-- ==== Proof.MixSpec.lean ====
/-
  One row of the output projection with cross attention, by plain sums: the normed and gated heads, the recurrent branch
  under gelu, the concatenation with the attention's branch, the output projection with residual and layer norm, then the
  cross attention over the memory and its projection with residual and layer norm.
-/
module

public import proofs.«01_k».proof.Proof.FfnSpec
public import proofs.«01_k».proof.Proof.Weights

@[expose] public section

noncomputable section

namespace Cert.MixSpec

open Idealize.ShloMosaic Cert.Ffn Cert.Softmax

/-- The logistic function of an entry, times the entry. -/
def silu (a : EReal) : EReal := a * Ideal.div 1 (1 + Ideal.exp (-a))

/-- Column `k` of the head of 64 that column `d` lies in. -/
def headCol (d : Fin 256) (k : Fin 64) : Fin 256 := ⟨d.val / 64 * 64 + k.val, by omega⟩

/-- The mean of squares over the head of column `d`. -/
def headMean (o : Fin 256 → EReal) (d : Fin 256) : EReal :=
  Ideal.div (∑ k : Fin 64, o (headCol d k) * o (headCol d k)) (Ideal.ofBits .f32 0x42800000#32)

/-- The heads, each normed over its own columns, with gain and gate. -/
def gatedHead (o n y : Fin 256 → EReal) (d : Fin 256) : EReal :=
  o d * Ideal.rsqrt (headMean o d + Ideal.ofBits .f32 0x358637BD#32) * n d * silu (y d)

/-- The three branches side by side. -/
def cat (a b : Fin 256 → EReal) (c : Fin 512 → EReal) (j : Fin 1024) : EReal :=
  if h : j.val < 256 then a ⟨j.val, h⟩ else if h' : j.val - 256 < 256 then b ⟨j.val - 256, h'⟩ else c ⟨j.val - 256 - 256, by omega⟩

/-- The residual stream after the output projection. -/
def firstStream (x : Fin 1024 → EReal) (a b : Fin 256 → EReal) (c : Fin 512 → EReal) (W : Fin 1024 → Fin 1024 → EReal) (e : Fin 1024) : EReal :=
  Ideal.ofBits .f32 0x3FB504F3#32 * x e + ∑ j, cat a b c j * W j e

/-- Column `d` of head `h`, of four heads of 256. -/
def quarter (h : Fin 4) (d : Fin 256) : Fin 1024 := ⟨h.val * 256 + d.val, by omega⟩

/-- A query, and its scaled score against entry `m` of the memory. -/
def query (X : Fin 1024 → EReal) (Q : Fin 1024 → Fin 1024 → EReal) (f : Fin 1024) : EReal := ∑ k, X k * Q k f
def score (X : Fin 1024 → EReal) (Q : Fin 1024 → Fin 1024 → EReal) (K : Fin 256 → Fin 1024 → EReal) (h : Fin 4) (m : Fin 256) : EReal :=
  (∑ d, query X Q (quarter h d) * K m (quarter h d)) * Ideal.ofBits .f32 0x3D800000#32

/-- The softmax of a row of scores. -/
def soft (s : Fin 256 → EReal) (m : Fin 256) : EReal := Ideal.div (Ideal.exp (s m - top s)) (∑ y, Ideal.exp (s y - top s))

/-- The attended value at column `r` of head `h`. -/
def attended (X : Fin 1024 → EReal) (Q : Fin 1024 → Fin 1024 → EReal) (K V : Fin 256 → Fin 1024 → EReal) (h : Fin 4) (r : Fin 256) : EReal :=
  ∑ m, V m (quarter h r) * soft (score X Q K h) m

/-- The residual stream after the cross attention's projection. -/
def secondStream (X : Fin 1024 → EReal) (Q : Fin 1024 → Fin 1024 → EReal) (K V : Fin 256 → Fin 1024 → EReal) (O : Fin 1024 → Fin 1024 → EReal)
    (e : Fin 1024) : EReal :=
  Ideal.ofBits .f32 0x3FB504F3#32 * X e
    + ∑ f : Fin 1024, attended X Q K V (⟨f.val / 256, by omega⟩ : Fin 4) (⟨f.val % 256, by omega⟩ : Fin 256) * O f e

/-- The row after the first norm. -/
def firstRow (x : Fin 1024 → EReal) (o n y h z : Fin 256 → EReal) (c : Fin 512 → EReal) (W : Fin 1024 → Fin 1024 → EReal)
    (g b : Fin 1024 → EReal) (e : Fin 1024) : EReal :=
  layerNorm (firstStream x (gatedHead o n y) (fun d => h d * gelu (z d)) c W) g b e

/-- The row after the second. -/
def row (x : Fin 1024 → EReal) (o n y h z : Fin 256 → EReal) (c : Fin 512 → EReal) (W : Fin 1024 → Fin 1024 → EReal)
    (g b : Fin 1024 → EReal) (Q : Fin 1024 → Fin 1024 → EReal) (K V : Fin 256 → Fin 1024 → EReal) (O : Fin 1024 → Fin 1024 → EReal)
    (g' b' : Fin 1024 → EReal) (e : Fin 1024) : EReal :=
  layerNorm (secondStream (firstRow x o n y h z c W g b) Q K V O) g' b' e

end Cert.MixSpec

end
-- ==== Proof.MixMath.lean ====
/-
  The two ways of computing a row, over the extended reals: a head's mean of squares from a product with the matrix of the
  heads, the branches' sums apart, the scale put on the queries or on the scores, and the division by the softmax's sum
  after or before the values are summed. The layer norm of any row has real entries when its gain and bias have, so the
  scores that it leads to are real.
-/
module

public import proofs.«01_k».proof.Proof.MixSpec
public import proofs.«01_k».proof.Proof.Combine

@[expose] public section

set_option maxRecDepth 16384

noncomputable section

namespace Cert.MixSpec

open Idealize.ShloMosaic Cert.Ffn Cert.Softmax

/-! ## The constants -/

theorem ofBits_64 : Ideal.ofBits .f32 0x42800000#32 = ((64 : ℝ) : EReal) := by
  simp [Ideal.ofBits, Ideal.ieee]
  rw [← EReal.coe_mul]
  norm_num

theorem ofBits_64th : Ideal.ofBits .f32 0x3C800000#32 = ((1 / 64 : ℝ) : EReal) := by
  simp [Ideal.ofBits, Ideal.ieee]
  rw [← EReal.coe_mul]
  norm_num

theorem ofBits_16th : Ideal.ofBits .f32 0x3D800000#32 = ((1 / 16 : ℝ) : EReal) := by
  simp [Ideal.ofBits, Ideal.ieee]
  rw [← EReal.coe_mul]
  norm_num

theorem ofBits_1024 : Ideal.ofBits .f32 0x44800000#32 = ((1024 : ℝ) : EReal) := by
  simp [Ideal.ofBits, Ideal.ieee]
  rw [← EReal.coe_mul]
  norm_num

theorem ofBits_small : ∃ e : ℝ, 0 < e ∧ Ideal.ofBits .f32 0x3727C5AC#32 = (e : EReal) := by
  simp [Ideal.ofBits, Ideal.ieee]
  exact ⟨_, by positivity, (EReal.coe_mul _ _).symm⟩

/-! ## The mean of squares over a head -/

/-- A sum over all columns, masked by the head of `d`, is the sum over that head. -/
theorem masked_sum (f : Fin 256 → EReal) (d : Fin 256) :
    ∑ x : Fin 256, f x * (if x.val / 64 = d.val / 64 then 1 else 0) = ∑ k : Fin 64, f (headCol d k) := by
  have e : ∑ x : Fin 256, f x * (if x.val / 64 = d.val / 64 then 1 else 0)
      = ∑ p : Fin 4 × Fin 64, f (⟨p.1.val * 64 + p.2.val, by omega⟩ : Fin 256) * (if p.1.val = d.val / 64 then 1 else 0) := by
    symm
    refine Fintype.sum_equiv (finProdFinEquiv (m := 4) (n := 64)) _ _ fun p => ?_
    have h : (finProdFinEquiv (m := 4) (n := 64) p : Fin 256) = ⟨p.1.val * 64 + p.2.val, by omega⟩ :=
      Fin.ext (by simp only [finProdFinEquiv_apply_val]; omega)
    rw [h]
    have h' : (p.1.val * 64 + p.2.val) / 64 = p.1.val := by omega
    simp only [h']
  rw [e, Fintype.sum_prod_type, Finset.sum_eq_single (⟨d.val / 64, by omega⟩ : Fin 4)]
  · refine Finset.sum_congr rfl fun k _ => ?_
    simp only [if_true, mul_one]
    rfl
  · intro a _ ha
    refine Finset.sum_eq_zero fun k _ => ?_
    rw [if_neg (fun h => ha (Fin.ext h)), mul_zero]
  · exact fun h => absurd (Finset.mem_univ _) h

/-- The kernel's mean of squares: the products in two parts, the second of which is what rounding the first leaves over. -/
theorem head_mean (o : Fin 256 → EReal) (ho : ∀ k, ∃ r : ℝ, o k = (r : EReal)) (d : Fin 256) :
    (∑ x : Fin 256, o x * o x * (if x.val / 64 = d.val / 64 then 1 else 0)
      + ∑ x : Fin 256, (o x * o x - o x * o x) * (if x.val / 64 = d.val / 64 then 1 else 0)) * Ideal.ofBits .f32 0x3C800000#32 = headMean o d := by
  rw [masked_sum (fun x => o x * o x), masked_sum (fun x => o x * o x - o x * o x), headMean]
  choose r hr using ho
  have z : ∀ x, (r x : EReal) * r x - r x * r x = 0 := fun x => by
    rw [← EReal.coe_mul, ← EReal.coe_sub, sub_self, EReal.coe_zero]
  simp only [hr, z, Finset.sum_const_zero, add_zero]
  simp only [← EReal.coe_mul]
  rw [← coe_sum, ofBits_64th, ofBits_64, div_coe (by norm_num), ← EReal.coe_mul]
  congr 1
  ring

/-! ## The three branches -/

theorem firstStream_eq (x : Fin 1024 → EReal) (a b : Fin 256 → EReal) (c : Fin 512 → EReal) (W : Fin 1024 → Fin 1024 → EReal) (e : Fin 1024) :
    firstStream x a b c W e = Ideal.ofBits .f32 0x3FB504F3#32 * x e
      + (∑ i : Fin 256, a i * W ⟨i.val, by omega⟩ e + ∑ i : Fin 256, b i * W ⟨256 + i.val, by omega⟩ e
        + ∑ i : Fin 512, c i * W ⟨512 + i.val, by omega⟩ e) := by
  rw [firstStream]
  congr 1
  refine (Fin.sum_univ_add (a := 256 + 256) (b := 512) (fun j : Fin 1024 => cat a b c j * W j e)).trans ?_
  refine congrArg₂ (· + ·) ?_ ?_
  · refine (Fin.sum_univ_add (a := 256) (b := 256) _).trans ?_
    refine congrArg₂ (· + ·) ?_ ?_
    · refine Finset.sum_congr rfl fun i _ => ?_
      refine congrArg (· * _) ?_
      exact dif_pos (show i.val < 256 from i.isLt)
    · refine Finset.sum_congr rfl fun i _ => ?_
      refine congrArg (· * _) ?_
      refine (dif_neg (show ¬ 256 + i.val < 256 by omega)).trans ((dif_pos (show 256 + i.val - 256 < 256 by omega)).trans ?_)
      exact congrArg b (Fin.ext (show 256 + i.val - 256 = i.val by omega))
  · refine Finset.sum_congr rfl fun i _ => ?_
    refine congrArg (· * _) ?_
    refine (dif_neg (show ¬ 512 + i.val < 256 by omega)).trans ((dif_neg (show ¬ 512 + i.val - 256 < 256 by omega)).trans ?_)
    exact congrArg c (Fin.ext (show 512 + i.val - 256 - 256 = i.val by omega))

/-! ## The layer norm is real -/

theorem div_1024_bot : Ideal.div ⊥ (Ideal.ofBits .f32 0x44800000#32) = ⊥ := by
  rw [ofBits_1024, Ideal.div, if_neg (by simp), ← EReal.coe_inv, EReal.bot_mul_coe_of_pos (by norm_num)]

theorem div_1024_top : Ideal.div ⊤ (Ideal.ofBits .f32 0x44800000#32) = ⊤ := by
  rw [ofBits_1024, Ideal.div, if_neg (by simp), ← EReal.coe_inv, EReal.top_mul_coe_of_pos (by norm_num)]

/-- A row with an infinite entry has infinite centred entries throughout. -/
theorem centred_infinite (y : Fin 1024 → EReal) (h : ∃ i, y i = ⊤ ∨ y i = ⊥) (e : Fin 1024) : centred y e = ⊤ ∨ centred y e = ⊥ := by
  by_cases hb : ∃ i, y i = ⊥
  · obtain ⟨i, hi⟩ := hb
    have hs : ∑ e, y e = ⊥ := by rw [← Finset.add_sum_erase _ _ (Finset.mem_univ i), hi, EReal.bot_add]
    rw [centred, mean, hs, div_1024_bot]
    by_cases he : y e = ⊥
    · right; rw [he, bot_sub']
    · left; rw [sub_eq_add_neg, EReal.neg_bot, EReal.add_top_of_ne_bot he]
  · have hb' : ∀ i, y i ≠ ⊥ := fun i hi => hb ⟨i, hi⟩
    obtain ⟨i, hi | hi⟩ := h
    · have hn : ∀ s : Finset (Fin 1024), ∑ e ∈ s, y e ≠ ⊥ := fun s => by
        classical
        induction s using Finset.induction_on with
        | empty => simp
        | insert a t ha ih =>
          rw [Finset.sum_insert ha]
          exact fun h => (EReal.add_eq_bot_iff.mp h).elim (hb' a) ih
      have hs : ∑ e, y e = ⊤ := by
        rw [← Finset.add_sum_erase _ _ (Finset.mem_univ i), hi, EReal.top_add_of_ne_bot (hn _)]
      right
      rw [centred, mean, hs, div_1024_top, sub_top']
    · exact absurd hi (hb' i)

/-- The layer norm of any row is real where its gain and bias are. -/
theorem layer_real (y g b : Fin 1024 → EReal) (hg : ∀ e, ∃ r : ℝ, g e = (r : EReal)) (hb : ∀ e, ∃ r : ℝ, b e = (r : EReal)) (e : Fin 1024) :
    ∃ r : ℝ, layerNorm y g b e = (r : EReal) := by
  obtain ⟨ε, hε, hε'⟩ := ofBits_small
  obtain ⟨p, hp⟩ := hg e
  obtain ⟨q, hq⟩ := hb e
  by_cases h : ∃ i, y i = ⊤ ∨ y i = ⊥
  · have hc := centred_infinite y h
    have hs : ∀ i, centred y i * centred y i = ⊤ := fun i => by
      obtain h | h := hc i <;> simp [h]
    have ht : ∑ i : Fin 1024, centred y i * centred y i = ⊤ :=
      top_le_iff.mp (le_trans (le_of_eq (hs 0).symm) (Finset.single_le_sum (f := fun j => centred y j * centred y j)
        (fun j _ => mul_self_nonneg' (centred y j)) (Finset.mem_univ 0)))
    refine ⟨q, ?_⟩
    rw [layerNorm, mean, ht, div_1024_top, hε', EReal.top_add_coe, Ideal.rsqrt_top, mul_zero, zero_mul, zero_add, hq]
  · have hr : ∀ i, ∃ r : ℝ, y i = (r : EReal) := fun i => by
      generalize hy : y i = z
      induction z using EReal.rec with
      | bot => exact absurd ⟨i, Or.inr hy⟩ h
      | top => exact absurd ⟨i, Or.inl hy⟩ h
      | coe a => exact ⟨a, rfl⟩
    choose r hr using hr
    have hc : ∀ i, centred y i = ((r i - (∑ e, r e) / 1024 : ℝ) : EReal) := fun i => by
      rw [centred, mean]
      simp only [hr]
      rw [← coe_sum, ofBits_1024, div_coe (by norm_num), EReal.coe_sub]
    rw [layerNorm, mean]
    simp only [hc, ← EReal.coe_mul]
    rw [← coe_sum, ofBits_1024, div_coe (by norm_num), hε', ← EReal.coe_add, Ideal.rsqrt_coe, hp, hq]
    have hpos : 0 < (∑ i : Fin 1024, (r i - (∑ e, r e) / 1024) * (r i - (∑ e, r e) / 1024)) / 1024 + ε :=
      add_pos_of_nonneg_of_pos (div_nonneg (Finset.sum_nonneg fun i _ => mul_self_nonneg _) (by norm_num)) hε
    rw [if_neg (not_lt.mpr hpos.le), if_neg hpos.ne', ← EReal.coe_mul, ← EReal.coe_mul, ← EReal.coe_add]
    exact ⟨_, rfl⟩

/-! ## The attention over the memory -/

/-- The kernel's attended value: the exponentials by the values, divided by the sum of the exponentials. -/
def attendedBy (s v : Fin 256 → EReal) : EReal :=
  Ideal.div (∑ m, Ideal.exp (s m - top s) * v m) (∑ y, Ideal.exp (s y - top s))

/-- With real scores it is the sum of the values by their softmax. -/
theorem attendedBy_eq (s v : Fin 256 → EReal) (hs : ∀ m, ∃ r : ℝ, s m = (r : EReal)) : attendedBy s v = ∑ m, v m * soft s m := by
  choose r hr using hs
  obtain ⟨i, -, hi⟩ := Finset.exists_max_image (Finset.univ : Finset (Fin 256)) r ⟨0, Finset.mem_univ 0⟩
  have ht : top s = (r i : EReal) := le_antisymm
    (top_le.mpr fun x => by rw [hr]; exact EReal.coe_le_coe_iff.mpr (hi x (Finset.mem_univ x))) (by rw [← hr]; exact le_top' s i)
  have hx : ∀ m, Ideal.exp (s m - top s) = ((Real.exp (r m - r i) : ℝ) : EReal) := fun m => by
    rw [ht, hr, ← EReal.coe_sub, Ideal.exp_coe]
  have hl : (0 : ℝ) < ∑ m, Real.exp (r m - r i) := Finset.sum_pos (fun m _ => Real.exp_pos _) ⟨0, Finset.mem_univ 0⟩
  have hd : ∀ z : EReal, Ideal.div z ((∑ m, Real.exp (r m - r i) : ℝ) : EReal) = z * (((∑ m, Real.exp (r m - r i))⁻¹ : ℝ) : EReal) := fun z => by
    rw [Ideal.div, if_neg (by rw [← EReal.coe_zero]; exact fun h => hl.ne' (EReal.coe_injective h)), ← EReal.coe_inv]
  unfold attendedBy soft
  simp only [hx]
  rw [← coe_sum]
  simp only [hd]
  rw [← sum_mul_real _ _ (inv_nonneg.mpr hl.le)]
  refine Finset.sum_congr rfl fun m _ => ?_
  rw [mul_comm (((Real.exp (r m - r i) : ℝ) : EReal)) (v m), mul_assoc]

section scores

variable (X : Fin 1024 → EReal) (Q : Fin 1024 → Fin 1024 → EReal) (K V : Fin 256 → Fin 1024 → EReal)

/-- The scale on the queries is the scale on the scores. -/
theorem scaled_score (h : Fin 4) (m : Fin 256) :
    ∑ d, query X Q (quarter h d) * Ideal.ofBits .f32 0x3D800000#32 * K m (quarter h d) = score X Q K h m := by
  rw [score, ofBits_16th, ← sum_mul_real _ _ (by norm_num)]
  exact Finset.sum_congr rfl fun d _ => mul_right_comm _ _ _

variable (hX : ∀ k, ∃ r : ℝ, X k = (r : EReal)) (hQ : ∀ k f, ∃ r : ℝ, Q k f = (r : EReal)) (hK : ∀ m f, ∃ r : ℝ, K m f = (r : EReal))

include hX hQ hK

theorem score_real (h : Fin 4) (m : Fin 256) : ∃ r : ℝ, score X Q K h m = (r : EReal) := by
  choose x hx using hX
  choose q hq using hQ
  choose k hk using hK
  unfold score query
  simp only [hx, hq, hk, ofBits_16th, ← EReal.coe_mul]
  simp only [← coe_sum, ← EReal.coe_mul]
  exact ⟨_, rfl⟩

/-- The kernel's attended value of a head is the specification's. -/
theorem attended_eq (h : Fin 4) (r : Fin 256) (s v : Fin 256 → EReal)
    (hs : ∀ m, s m = ∑ d, query X Q (quarter h d) * Ideal.ofBits .f32 0x3D800000#32 * K m (quarter h d)) (hv : ∀ m, v m = V m (quarter h r)) :
    attendedBy s v = attended X Q K V h r := by
  have e : s = score X Q K h := funext fun m => (hs m).trans (scaled_score X Q K h m)
  have e' : v = fun m => V m (quarter h r) := funext hv
  rw [e, e', attendedBy_eq _ _ (score_real X Q K hX hQ hK h), attended]

end scores

end Cert.MixSpec

end
-- ==== Proof.MixTile.lean ====
/-
  What one grid point of the output projection with cross attention writes, over the extended reals: the row of the
  specification, where the heads' inputs, the first norm's gain and bias, the queries' weights and the keys are real.
-/
module

public import proofs.«01_k».proof.Proof.Gen.MixIdeal.Frame
public import proofs.«01_k».proof.Proof.MixSpec
public import proofs.«01_k».proof.Proof.MixMath
public import Idealize.ShloMosaic.Lib.Pipeline.ValueKit

@[expose] public section

set_option maxRecDepth 16384

noncomputable section

namespace Cert.MixIdeal.Tile

open Idealize.ShloMosaic Idealize.SL.Sem
open Cert.MixIdeal Cert.MixIdeal.Gen Cert.Ffn Cert.MixSpec Cert.Softmax

theorem least : Ideal.ofBits .f32 0xFF800000#32 = ⊥ := by
  simp [Ideal.ofBits, Ideal.ieee]

/-! ## The heads -/

/-- The rounded-down quotient of a column's number by 64. -/
theorem floor_at : ∀ x : Fin 256, Scalar.select
    (IntOp.andi (IntOp.cmpi CmpIPredicate.ne
        (IntOp.subi (BitVec.setWidth 32 (IntOp.cmpi CmpIPredicate.sgt (BitVec.ofNat 32 x.val) 0#32)) (BitVec.setWidth 32 (IntOp.cmpi CmpIPredicate.slt (BitVec.ofNat 32 x.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (x.val / 64) := by
  decide +kernel

/-- The entry of the matrix of the heads. -/
theorem mask_four (a b : Fin 4) : (FloatOps.sitofp FTy.f32 (BitVec.setWidth 32 (IntOp.cmpi CmpIPredicate.eq (BitVec.ofNat 32 a.val) (BitVec.ofNat 32 b.val))) : Ideal .f32)
    = if a.val = b.val then (1 : EReal) else 0 := by
  have e : BitVec.setWidth 32 (IntOp.cmpi CmpIPredicate.eq (BitVec.ofNat 32 a.val) (BitVec.ofNat 32 b.val)) = if a.val = b.val then 1#32 else 0#32 := by
    revert a b; decide +kernel
  rw [e]
  by_cases h : a.val = b.val
  · rw [if_pos h, if_pos h]
    show (((1#32 : BitVec 32).toInt : ℝ) : EReal) = 1
    simp
  · rw [if_neg h, if_neg h]
    show (((0#32 : BitVec 32).toInt : ℝ) : EReal) = 0
    simp

theorem mask_at (x d : Fin 256) : (FloatOps.sitofp FTy.f32 (BitVec.setWidth 32 (IntOp.cmpi CmpIPredicate.eq (BitVec.ofNat 32 (x.val / 64)) (BitVec.ofNat 32 (d.val / 64)))) : Ideal .f32)
    = if x.val / 64 = d.val / 64 then (1 : EReal) else 0 :=
  mask_four ⟨x.val / 64, by omega⟩ ⟨d.val / 64, by omega⟩

theorem head_at (v4 : FVec Ideal S512x256 .f32) (v69 : Vec Ideal S512x256 .f32) (v75 : Vec Ideal S1x256 .f32) (j : Fin 512)
    (ho : ∀ d, ∃ r : ℝ, v4 (ix2 j d) = (r : EReal)) (d : Fin 256) :
    k0_pay6 v4 k0_pay3 (iota .tc S256x256 32 [1] iota_S256x256_d1_w32) 64#32 k0_pay4 k0_pay5 (Scalar.extui (Scalar.cmpi .sgt 64#32 0#32)) 0#32 v69 v75 (ix2 j d)
      = gatedHead (fun d => v4 (ix2 j d)) (fun d => v75 (ix2 0 d)) (fun d => v69 (ix2 j d)) d := by
  unfold gatedHead silu
  rw [← head_mean _ ho]
  pointwise [k0_pay6, k0_pay3, k0_pay4, k0_pay5]
  simp only [floor_at, mask_at]
  rfl

/-! ## The first stream and its norm -/

theorem stream_at (v81 v86 : FVec Ideal S512x256 .f32) (v87 : Vec Ideal S512x256 .f32) (v106 : Vec Ideal S512x1024 .bf16) (v109 : Vec Ideal S512x512 .bf16)
    (v111 : Vec Ideal S512x1024 .bf16) (v115 : Vec Ideal S512x1024 .f32) (W : Fin 1024 → Fin 1024 → EReal)
    (hl : ∀ (i : Fin 512) e, v106 (ix2 i e) = W ⟨i.val, by omega⟩ e) (hr : ∀ (i : Fin 512) e, v111 (ix2 i e) = W ⟨512 + i.val, by omega⟩ e) (j : Fin 512) (e : Fin 1024) :
    k0_pay8 v81 v86 v87 v106 v109 v111 v115 (ix2 j e)
      = firstStream (fun e => v115 (ix2 j e)) (fun d => v81 (ix2 j d)) (fun d => v86 (ix2 j d) * gelu (v87 (ix2 j d))) (fun i => v109 (ix2 i j)) W e := by
  have hg : ∀ a : EReal, Ideal.ofBits .f32 0x3F000000#32 * a * (1 + Ideal.tanh (Ideal.ofBits .f32 0x3F4C422A#32 * (a + Ideal.ofBits .f32 0x3D372713#32 * (a * a * a)))) = gelu a :=
    fun a => by
      unfold gelu
      generalize 1 + Ideal.tanh _ = T
      rw [mul_comm (Ideal.ofBits .f32 0x3F000000#32) a, mul_assoc]
  rw [firstStream_eq]
  pointwise [k0_pay8]
  simp only [hg, hl, hr]

theorem total_at (v81 v86 : FVec Ideal S512x256 .f32) (v87 : Vec Ideal S512x256 .f32) (v106 : Vec Ideal S512x1024 .bf16) (v109 : Vec Ideal S512x512 .bf16)
    (v111 : Vec Ideal S512x1024 .bf16) (v115 : Vec Ideal S512x1024 .f32) (j : Fin 512) :
    k0_pay11 v81 v86 v87 v106 v109 v111 v115 (ix2 j 0) = ∑ e : Fin 1024, k0_pay8 v81 v86 v87 v106 v109 v111 v115 (ix2 j e) := by
  pointwise [k0_pay11]

theorem layer_at (v119 : FVec Ideal S512x1024 .f32) (v121 v123 : FVec Ideal S1x1024 .f32) (v125 : FVec Ideal S512x1 .f32) (j : Fin 512)
    (ht : v125 (ix2 j 0) = ∑ e : Fin 1024, v119 (ix2 j e)) (e : Fin 1024) :
    k0_pay12 v119 v121 v123 v125 (ix2 j e) = layerNorm (fun e => v119 (ix2 j e)) (fun e => v121 (ix2 0 e)) (fun e => v123 (ix2 0 e)) e := by
  unfold layerNorm centred mean
  rw [← ht]
  pointwise [k0_pay12]

/-! ## The cross attention -/

theorem query_at (v119 : FVec Ideal S512x1024 .f32) (v121 v123 : FVec Ideal S1x1024 .f32) (v125 : FVec Ideal S512x1 .f32) (v145 : Vec Ideal S1024x1024 .bf16)
    (j : Fin 512) (f : Fin 1024) :
    k0_pay13 v119 v121 v123 v125 v145 (ix2 j f)
      = query (fun k => k0_pay12 v119 v121 v123 v125 (ix2 j k)) (fun k f => v145 (ix2 k f)) f * Ideal.ofBits .f32 0x3D800000#32 := by
  unfold query
  pointwise [k0_pay13]

theorem first_head (v119 : FVec Ideal S512x1024 .f32) (v121 v123 : FVec Ideal S1x1024 .f32) (v125 : FVec Ideal S512x1 .f32) (v145 : Vec Ideal S1024x1024 .bf16)
    (v152 v163 : Vec Ideal S256x256 .bf16) (j : Fin 512) (r : Fin 256) :
    k0_pay14 v119 v121 v123 v125 v145 v152 v163 (ix2 j r)
      = attendedBy (fun m => ∑ d : Fin 256, k0_pay13 v119 v121 v123 v125 v145 (ix2 j (⟨d.val, by omega⟩ : Fin 1024)) * v152 (ix2 m d)) (fun m => v163 (ix2 m r)) := by
  unfold attendedBy top
  simp only [← least]
  pointwise [k0_pay14]

theorem second_head (v119 : FVec Ideal S512x1024 .f32) (v121 v123 : FVec Ideal S1x1024 .f32) (v125 : FVec Ideal S512x1 .f32) (v145 : Vec Ideal S1024x1024 .bf16)
    (v171 v182 : Vec Ideal S256x256 .bf16) (j : Fin 512) (r : Fin 256) :
    k0_pay16 (k0_pay15 v119 v121 v123 v125 v145) v171 v182 (ix2 j r)
      = attendedBy (fun m => ∑ d : Fin 256, k0_pay13 v119 v121 v123 v125 v145 (ix2 j (⟨256 + d.val, by omega⟩ : Fin 1024)) * v171 (ix2 m d)) (fun m => v182 (ix2 m r)) := by
  unfold attendedBy top
  simp only [← least]
  pointwise [k0_pay16, k0_pay15]

theorem third_head (v149 : FVec Ideal S512x1024 .f32) (v190 v201 : Vec Ideal S256x256 .bf16) (j : Fin 512) (r : Fin 256) :
    k0_pay17 v149 v190 v201 (ix2 j r)
      = attendedBy (fun m => ∑ d : Fin 256, v149 (ix2 j (⟨512 + d.val, by omega⟩ : Fin 1024)) * v190 (ix2 m d)) (fun m => v201 (ix2 m r)) := by
  unfold attendedBy top
  simp only [← least]
  pointwise [k0_pay17]

theorem fourth_query (v149 : FVec Ideal S512x1024 .f32) (j : Fin 512) (d : Fin 256) :
    k0_pay18 v149 (ix2 j d) = v149 (ix2 j (⟨768 + d.val, by omega⟩ : Fin 1024)) := by
  pointwise [k0_pay18]

theorem fourth_key (v209 : Vec Ideal S256x256 .bf16) (m d : Fin 256) : k0_pay19 v209 (ix2 m d) = v209 (ix2 m d) := by
  pointwise [k0_pay19]

/-- The four heads side by side. -/
def fourHeads (a b c d : Fin 256 → EReal) (f : Fin 1024) : EReal :=
  if h : f.val < 256 then a ⟨f.val, h⟩ else if h' : f.val - 256 < 256 then b ⟨f.val - 256, h'⟩
  else if h'' : f.val - 256 - 256 < 256 then c ⟨f.val - 256 - 256, h''⟩ else d ⟨f.val - 256 - 256 - 256, by omega⟩

/-- The second stream, from the four heads. -/
def streamOf (v143 : FVec Ideal S512x1024 .f32) (v168 v187 v206 v208 : FVec Ideal S512x256 .bf16) (v210 : FVec Ideal S256x256 .bf16) (v220 : Vec Ideal S256x256 .bf16)
    (v227 : Vec Ideal S1024x1024 .bf16) (j : Fin 512) (e : Fin 1024) : EReal :=
  Ideal.ofBits .f32 0x3FB504F3#32 * v143 (ix2 j e)
    + ∑ f : Fin 1024, fourHeads (fun r => v168 (ix2 j r)) (fun r => v187 (ix2 j r)) (fun r => v206 (ix2 j r))
        (fun r => attendedBy (fun m => ∑ d : Fin 256, v208 (ix2 j d) * v210 (ix2 m d)) (fun m => v220 (ix2 m r))) f * v227 (ix2 f e)

theorem norm_at (v143 : FVec Ideal S512x1024 .f32) (v168 v187 v206 v208 : FVec Ideal S512x256 .bf16) (v210 : FVec Ideal S256x256 .bf16) (v220 : Vec Ideal S256x256 .bf16)
    (v227 : Vec Ideal S1024x1024 .bf16) (j : Fin 512) (e : Fin 1024) :
    k0_pay22 v143 v168 v187 v206 v208 v210 (constant S512x256 .f32 0x00000000#32) v220 v227 (ix2 j e)
      = centred (streamOf v143 v168 v187 v206 v208 v210 v220 v227 j) e
        * Ideal.rsqrt (mean (fun e => centred (streamOf v143 v168 v187 v206 v208 v210 v220 v227 j) e * centred (streamOf v143 v168 v187 v206 v208 v210 v220 v227 j) e)
          + Ideal.ofBits .f32 0x3727C5AC#32) := by
  unfold centred mean streamOf fourHeads attendedBy top
  simp only [← least]
  pointwise [k0_pay22]

theorem store_at (v233 v235 : Vec Ideal S1x1024 .f32) (v252 : FVec Ideal S512x1024 .f32) (j : Fin 512) (e : Fin 1024) :
    k0_pay1 (k0_pay20 v233) (k0_pay21 v235) v252 (ix2 j e) = v252 (ix2 j e) * v233 (ix2 0 e) + v235 (ix2 0 e) := by
  pointwise [k0_pay1, k0_pay20, k0_pay21]

section heads

variable (v119 : FVec Ideal S512x1024 .f32) (v121 v123 : FVec Ideal S1x1024 .f32) (v125 : FVec Ideal S512x1 .f32) (v145 : Vec Ideal S1024x1024 .bf16)
  (k₀ k₁ k₂ k₃ u₀ u₁ u₂ u₃ : Vec Ideal S256x256 .bf16) (v227 : Vec Ideal S1024x1024 .bf16) (K V : Fin 256 → Fin 1024 → EReal)
  (hk₀ : ∀ (m d : Fin 256), k₀ (ix2 m d) = K m (quarter 0 d)) (hk₁ : ∀ (m d : Fin 256), k₁ (ix2 m d) = K m (quarter 1 d))
  (hk₂ : ∀ (m d : Fin 256), k₂ (ix2 m d) = K m (quarter 2 d)) (hk₃ : ∀ (m d : Fin 256), k₃ (ix2 m d) = K m (quarter 3 d))
  (hu₀ : ∀ (m d : Fin 256), u₀ (ix2 m d) = V m (quarter 0 d)) (hu₁ : ∀ (m d : Fin 256), u₁ (ix2 m d) = V m (quarter 1 d))
  (hu₂ : ∀ (m d : Fin 256), u₂ (ix2 m d) = V m (quarter 2 d)) (hu₃ : ∀ (m d : Fin 256), u₃ (ix2 m d) = V m (quarter 3 d))
  (j : Fin 512) (hX : ∀ k, ∃ r : ℝ, k0_pay12 v119 v121 v123 v125 (ix2 j k) = (r : EReal))
  (hQ : ∀ k f : Fin 1024, ∃ r : ℝ, v145 (ix2 k f) = (r : EReal)) (hK : ∀ m f, ∃ r : ℝ, K m f = (r : EReal))

include hk₀ hk₁ hk₂ hk₃ hu₀ hu₁ hu₂ hu₃ hX hQ hK

/-- The second stream of a row, from the row after the first norm. -/
theorem second_at : streamOf (k0_pay12 v119 v121 v123 v125) (k0_pay14 v119 v121 v123 v125 v145 k₀ u₀) (k0_pay16 (k0_pay15 v119 v121 v123 v125 v145) k₁ u₁)
      (k0_pay17 (k0_pay13 v119 v121 v123 v125 v145) k₂ u₂) (k0_pay18 (k0_pay13 v119 v121 v123 v125 v145)) (k0_pay19 k₃) u₃ v227 j
    = secondStream (fun k => k0_pay12 v119 v121 v123 v125 (ix2 j k)) (fun k f => v145 (ix2 k f)) K V (fun f e => v227 (ix2 f e)) := by
  funext e
  unfold streamOf secondStream
  congr 1
  refine Finset.sum_congr rfl fun f _ => ?_
  congr 1
  unfold fourHeads
  by_cases h : f.val < 256
  · have e₁ : (⟨f.val / 256, by omega⟩ : Fin 4) = 0 := Fin.ext (by show f.val / 256 = 0; omega)
    have e₂ : (⟨f.val % 256, by omega⟩ : Fin 256) = ⟨f.val, h⟩ := Fin.ext (by show f.val % 256 = f.val; omega)
    rw [dif_pos h]
    beta_reduce
    rw [first_head, e₁, e₂]
    refine attended_eq _ _ K V hX hQ hK _ _ _ _ (fun m => Finset.sum_congr rfl fun d _ => ?_) fun m => hu₀ m _
    have e₃ : (⟨d.val, by omega⟩ : Fin 1024) = quarter 0 d := Fin.ext (by show d.val = 0 * 256 + d.val; omega)
    rw [hk₀, query_at, e₃]
  · by_cases h' : f.val - 256 < 256
    · have e₁ : (⟨f.val / 256, by omega⟩ : Fin 4) = 1 := Fin.ext (by show f.val / 256 = 1; omega)
      have e₂ : (⟨f.val % 256, by omega⟩ : Fin 256) = ⟨f.val - 256, h'⟩ := Fin.ext (by show f.val % 256 = f.val - 256; omega)
      rw [dif_neg h, dif_pos h']
      beta_reduce
      rw [second_head, e₁, e₂]
      refine attended_eq _ _ K V hX hQ hK _ _ _ _ (fun m => Finset.sum_congr rfl fun d _ => ?_) fun m => hu₁ m _
      have e₃ : (⟨256 + d.val, by omega⟩ : Fin 1024) = quarter 1 d := Fin.ext (by show 256 + d.val = 1 * 256 + d.val; omega)
      rw [hk₁, query_at, e₃]
    · by_cases h'' : f.val - 256 - 256 < 256
      · have e₁ : (⟨f.val / 256, by omega⟩ : Fin 4) = 2 := Fin.ext (by show f.val / 256 = 2; omega)
        have e₂ : (⟨f.val % 256, by omega⟩ : Fin 256) = ⟨f.val - 256 - 256, h''⟩ := Fin.ext (by show f.val % 256 = f.val - 256 - 256; omega)
        rw [dif_neg h, dif_neg h', dif_pos h'']
        beta_reduce
        rw [third_head, e₁, e₂]
        refine attended_eq _ _ K V hX hQ hK _ _ _ _ (fun m => Finset.sum_congr rfl fun d _ => ?_) fun m => hu₂ m _
        have e₃ : (⟨512 + d.val, by omega⟩ : Fin 1024) = quarter 2 d := Fin.ext (by show 512 + d.val = 2 * 256 + d.val; omega)
        rw [hk₂, query_at, e₃]
      · have e₁ : (⟨f.val / 256, by omega⟩ : Fin 4) = 3 := Fin.ext (by show f.val / 256 = 3; omega)
        have e₂ : (⟨f.val % 256, by omega⟩ : Fin 256) = ⟨f.val - 256 - 256 - 256, by omega⟩ := Fin.ext (by show f.val % 256 = f.val - 256 - 256 - 256; omega)
        rw [dif_neg h, dif_neg h', dif_neg h'', e₁, e₂]
        refine attended_eq _ _ K V hX hQ hK _ _ _ _ (fun m => Finset.sum_congr rfl fun d _ => ?_) fun m => hu₃ m _
        have e₃ : (⟨768 + d.val, by omega⟩ : Fin 1024) = quarter 3 d := Fin.ext (by show 768 + d.val = 3 * 256 + d.val; omega)
        rw [fourth_key, fourth_query, hk₃, query_at, e₃]

end heads

/-! ## What a point leaves in the result's buffer -/

theorem sum_first (x1 x2 : Vec Ideal S512x256 .f32) (j : Fin 512) (d : Fin 256) : k0_pay2 x1 x2 (ix2 j d) = x1 (ix2 j d) + x2 (ix2 j d) := by
  pointwise [k0_pay2]

theorem sum_second (x5 x6 : Vec Ideal S512x256 .f32) (j : Fin 512) (d : Fin 256) : k0_pay7 x5 x6 (ix2 j d) = x5 (ix2 j d) + x6 (ix2 j d) := by
  pointwise [k0_pay7]

theorem same_gain (x : Vec Ideal S1x1024 .f32) (e : Fin 1024) : k0_pay9 x (ix2 0 e) = x (ix2 0 e) := by
  pointwise [k0_pay9]

theorem same_bias (x : Vec Ideal S1x1024 .f32) (e : Fin 1024) : k0_pay10 x (ix2 0 e) = x (ix2 0 e) := by
  pointwise [k0_pay10]

theorem out_at (x0 : Vec Ideal S512x1024 .f32) (x1 x2 x3 : Vec Ideal S512x256 .f32) (x4 : Vec Ideal S1x256 .f32) (x5 x6 x7 : Vec Ideal S512x256 .f32)
    (x8 : Vec Ideal S512x512 .bf16) (x9 : Vec Ideal S1024x1024 .bf16) (x10 x11 : Vec Ideal S1x1024 .f32) (x12 : Vec Ideal S1024x1024 .bf16)
    (x13 x14 : Vec Ideal S256x1024 .bf16) (x15 : Vec Ideal S1024x1024 .bf16) (x16 x17 : Vec Ideal S1x1024 .f32) (j : Fin 512)
    (ho : ∀ d : Fin 256, ∃ r : ℝ, x1 (ix2 j d) + x2 (ix2 j d) = (r : EReal)) (hg : ∀ e : Fin 1024, ∃ r : ℝ, x10 (ix2 0 e) = (r : EReal))
    (hb : ∀ e : Fin 1024, ∃ r : ℝ, x11 (ix2 0 e) = (r : EReal)) (hQ : ∀ k f : Fin 1024, ∃ r : ℝ, x12 (ix2 k f) = (r : EReal))
    (hK : ∀ (m : Fin 256) (f : Fin 1024), ∃ r : ℝ, x13 (ix2 m f) = (r : EReal)) (e : Fin 1024) :
    out0_18 x0 x1 x2 x3 x4 x5 x6 x7 x8 x9 x10 x11 x12 x13 x14 x15 x16 x17 (ix2 j e)
      = row (fun e => x0 (ix2 j e)) (fun d => x1 (ix2 j d) + x2 (ix2 j d)) (fun d => x4 (ix2 0 d)) (fun d => x3 (ix2 j d))
          (fun d => x5 (ix2 j d) + x6 (ix2 j d)) (fun d => x7 (ix2 j d)) (fun i => x8 (ix2 i j)) (fun k e => x9 (ix2 k e))
          (fun e => x10 (ix2 0 e)) (fun e => x11 (ix2 0 e)) (fun k f => x12 (ix2 k f)) (fun m f => x13 (ix2 m f)) (fun m f => x14 (ix2 m f))
          (fun f e => x15 (ix2 f e)) (fun e => x16 (ix2 0 e)) (fun e => x17 (ix2 0 e)) e := by
  unfold_out out0_18
  simp (disch := decide) only [View.canon_cons_unit_lit', View.ld_unit_lit']
  have low : ∀ (i : Fin 512) (e : Fin 1024), View.ld x9 r0_2 (ix2 i e) = x9 (ix2 (⟨i.val, by omega⟩ : Fin 1024) e) := fun i e =>
    View.ld_unit_apply_of _ _ _ _ _ _ fun a => match a with
      | ⟨0, _⟩ => by simp
      | ⟨1, _⟩ => by simp
  have high : ∀ (i : Fin 512) (e : Fin 1024), View.ld x9 r0_4 (ix2 i e) = x9 (ix2 (⟨512 + i.val, by omega⟩ : Fin 1024) e) := fun i e =>
    View.ld_unit_apply_of _ _ _ _ _ _ fun a => match a with
      | ⟨0, _⟩ => by simp
      | ⟨1, _⟩ => by simp
  have q₀ : ∀ (x : Vec Ideal S256x1024 .bf16) (m d : Fin 256), View.ld x r0_8 (ix2 m d) = x (ix2 m (quarter 0 d)) := fun x m d =>
    View.ld_unit_apply_of _ _ _ _ _ _ fun a => match a with
      | ⟨0, _⟩ => by simp
      | ⟨1, _⟩ => by simp [quarter]
  have q₁ : ∀ (x : Vec Ideal S256x1024 .bf16) (m d : Fin 256), View.ld x r0_9 (ix2 m d) = x (ix2 m (quarter 1 d)) := fun x m d =>
    View.ld_unit_apply_of _ _ _ _ _ _ fun a => match a with
      | ⟨0, _⟩ => by simp
      | ⟨1, _⟩ => by simp [quarter]
  have q₂ : ∀ (x : Vec Ideal S256x1024 .bf16) (m d : Fin 256), View.ld x r0_10 (ix2 m d) = x (ix2 m (quarter 2 d)) := fun x m d =>
    View.ld_unit_apply_of _ _ _ _ _ _ fun a => match a with
      | ⟨0, _⟩ => by simp
      | ⟨1, _⟩ => by simp [quarter]
  have q₃ : ∀ (x : Vec Ideal S256x1024 .bf16) (m d : Fin 256), View.ld x r0_11 (ix2 m d) = x (ix2 m (quarter 3 d)) := fun x m d =>
    View.ld_unit_apply_of _ _ _ _ _ _ fun a => match a with
      | ⟨0, _⟩ => by simp
      | ⟨1, _⟩ => by simp [quarter]
  generalize hA : k0_pay6 (k0_pay2 x1 x2) k0_pay3 (iota .tc S256x256 32 [1] iota_S256x256_d1_w32) 64#32 k0_pay4 k0_pay5 (Scalar.extui (Scalar.cmpi .sgt 64#32 0#32)) 0#32 x3 x4 = A
  have hA' : ∀ d : Fin 256, A (ix2 j d) = gatedHead (fun d => x1 (ix2 j d) + x2 (ix2 j d)) (fun d => x4 (ix2 0 d)) (fun d => x3 (ix2 j d)) d := fun d => by
    rw [← hA, head_at _ _ _ _ (fun d => by rw [sum_first]; exact ho d)]
    simp only [sum_first]
  have hX : ∀ e, k0_pay12 (k0_pay8 A (k0_pay7 x5 x6) x7 (View.ld x9 r0_2) x8 (View.ld x9 r0_4) x0) (k0_pay9 x10) (k0_pay10 x11)
        (k0_pay11 A (k0_pay7 x5 x6) x7 (View.ld x9 r0_2) x8 (View.ld x9 r0_4) x0) (ix2 j e)
      = firstRow (fun e => x0 (ix2 j e)) (fun d => x1 (ix2 j d) + x2 (ix2 j d)) (fun d => x4 (ix2 0 d)) (fun d => x3 (ix2 j d))
          (fun d => x5 (ix2 j d) + x6 (ix2 j d)) (fun d => x7 (ix2 j d)) (fun i => x8 (ix2 i j)) (fun k e => x9 (ix2 k e))
          (fun e => x10 (ix2 0 e)) (fun e => x11 (ix2 0 e)) e := fun e => by
    rw [layer_at _ _ _ _ _ (total_at _ _ _ _ _ _ _ _)]
    unfold firstRow
    simp only [same_gain, same_bias, stream_at _ _ _ _ _ _ _ (fun k e => x9 (ix2 k e)) low high, hA', sum_second]
  generalize k0_pay8 A (k0_pay7 x5 x6) x7 (View.ld x9 r0_2) x8 (View.ld x9 r0_4) x0 = S at hX ⊢
  generalize k0_pay11 A (k0_pay7 x5 x6) x7 (View.ld x9 r0_2) x8 (View.ld x9 r0_4) x0 = T at hX ⊢
  rw [store_at, norm_at, second_at S (k0_pay9 x10) (k0_pay10 x11) T x12 _ _ _ _ _ _ _ _ x15 (fun m f => x13 (ix2 m f)) (fun m f => x14 (ix2 m f))
    (q₀ x13) (q₁ x13) (q₂ x13) (q₃ x13) (q₀ x14) (q₁ x14) (q₂ x14) (q₃ x14) j
    (fun k => by rw [hX]; exact layer_real _ _ _ hg hb k) hQ hK]
  simp only [hX]
  rfl

end Cert.MixIdeal.Tile

end
-- ==== Proof.MixResult.lean ====
/-
  The result array of the output projection with cross attention: the host's operands and each point's blocks read at an
  entry, each point's entries, and the array that the points' blocks tile.
-/
module

public import proofs.«01_k».proof.Proof.MixTile
public import proofs.«01_k».proof.Proof.MixSpec
public import proofs.«01_k».proof.Proof.Gen.MixIdeal.Value
public import Idealize.ShloMosaic.Lib.Pipeline.ValueKit
public import Idealize.ShloMosaic.Lib.StableHlo.ReadAt

@[expose] public section

set_option maxRecDepth 16384

noncomputable section

namespace Cert.MixIdeal.Tile

open Idealize.ShloMosaic Idealize.ShloMosaic.TcCoe Idealize.SL.Sem
open Idealize.ShloMosaic.Pipeline (Dat Cfg Window)
open Cert.MixIdeal Cert.MixIdeal.Gen Cert.Ffn Cert.MixSpec

variable (m : (ℓ : Loc nD τ sig) → Buf (Elt Ideal) ℓ) (c : Dev nD)

/-! ## The arguments -/

abbrev xA : FVec Ideal S2x16384x1024 .f32 := m ((c : Thread nD τ).loc main_arg0)
abbrev fwdA : FVec Ideal S2x16384x256 .f32 := m ((c : Thread nD τ).loc main_arg1)
abbrev bwdA : FVec Ideal S2x16384x256 .f32 := m ((c : Thread nD τ).loc main_arg2)
abbrev zA : FVec Ideal S2x16384x1280 .f32 := m ((c : Thread nD τ).loc main_arg3)
abbrev wA : FVec Ideal S256 .f32 := m ((c : Thread nD τ).loc main_arg4)
abbrev rfA : FVec Ideal S2x16384x256 .f32 := m ((c : Thread nD τ).loc main_arg5)
abbrev rbA : FVec Ideal S2x16384x256 .f32 := m ((c : Thread nD τ).loc main_arg6)
abbrev yA : FVec Ideal S2x16384x512 .f32 := m ((c : Thread nD τ).loc main_arg7)
abbrev daA : FVec Ideal S2x16384x512 .f32 := m ((c : Thread nD τ).loc main_arg8)
abbrev outA : FVec Ideal S1024x1024 .f32 := m ((c : Thread nD τ).loc main_arg9)
abbrev gainA : FVec Ideal S1024 .f32 := m ((c : Thread nD τ).loc main_arg10)
abbrev shiftA : FVec Ideal S1024 .f32 := m ((c : Thread nD τ).loc main_arg11)
abbrev queryA : FVec Ideal S1024x1024 .f32 := m ((c : Thread nD τ).loc main_arg12)
abbrev keyA : FVec Ideal S2x256x1024 .f32 := m ((c : Thread nD τ).loc main_arg13)
abbrev valueA : FVec Ideal S2x256x1024 .f32 := m ((c : Thread nD τ).loc main_arg14)
abbrev projA : FVec Ideal S1024x1024 .f32 := m ((c : Thread nD τ).loc main_arg15)
abbrev gain2A : FVec Ideal S1024 .f32 := m ((c : Thread nD τ).loc main_arg16)
abbrev shift2A : FVec Ideal S1024 .f32 := m ((c : Thread nD τ).loc main_arg17)

/-! ## The operands -/

theorem x_at (p : Fin 32768) (e : Fin 1024) : (V m c main_v0 : FVec Ideal S32768x1024 .f32) (ix2 p e)
    = xA m c (ix3 (⟨p.val / 16384, by omega⟩ : Fin 2) (⟨p.val % 16384, by omega⟩ : Fin 16384) e) := by
  unfold V
  simp only [hostOps0, List.flatten_cons, List.flatten_nil, List.append_nil, List.cons_append, List.nil_append]
  after_reads_at

theorem fwd_at (p : Fin 32768) (d : Fin 256) : (V m c main_v1 : FVec Ideal S32768x256 .f32) (ix2 p d)
    = fwdA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem bwd_at (p : Fin 32768) (d : Fin 256) : (V m c main_v2 : FVec Ideal S32768x256 .f32) (ix2 p d)
    = bwdA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem z_at (p : Fin 32768) (d : Fin 1280) : (V m c main_v3 : FVec Ideal S32768x1280 .f32) (ix2 p d)
    = zA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem w_at (d : Fin 256) : (V m c main_v4 : FVec Ideal S1x256 .f32) (ix2 0 d)
    = wA m c (ix1 d) := by
  unfold V
  simp only [hostOps0, List.flatten_cons, List.flatten_nil, List.append_nil, List.cons_append, List.nil_append]
  after_reads_at

theorem rf_at (p : Fin 32768) (d : Fin 256) : (V m c main_v5 : FVec Ideal S32768x256 .f32) (ix2 p d)
    = rfA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem rb_at (p : Fin 32768) (d : Fin 256) : (V m c main_v6 : FVec Ideal S32768x256 .f32) (ix2 p d)
    = rbA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem y_at (p : Fin 32768) (d : Fin 512) : (V m c main_v7 : FVec Ideal S32768x512 .f32) (ix2 p d)
    = yA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem da_at (d : Fin 512) (p : Fin 32768) : (V m c main_v10 : FVec Ideal S512x32768 .bf16) (ix2 d p)
    = daA m c (ix3 (⟨p.val / 16384, by omega⟩ : Fin 2) (⟨p.val % 16384, by omega⟩ : Fin 16384) d) := by
  unfold V
  simp only [hostOps0, List.flatten_cons, List.flatten_nil, List.append_nil, List.cons_append, List.nil_append]
  after_reads_at

theorem outw_at (k e : Fin 1024) : (V m c main_v11 : FVec Ideal S1024x1024 .bf16) (ix2 k e)
    = outA m c (ix2 k e) := by
  unfold V
  simp only [hostOps0, List.flatten_cons, List.flatten_nil, List.append_nil, List.cons_append, List.nil_append]
  after_reads_at

theorem gain_at (e : Fin 1024) : (V m c main_v12 : FVec Ideal S1x1024 .f32) (ix2 0 e)
    = gainA m c (ix1 e) := by
  unfold V
  simp only [hostOps0, List.flatten_cons, List.flatten_nil, List.append_nil, List.cons_append, List.nil_append]
  after_reads_at

theorem shift_at (e : Fin 1024) : (V m c main_v13 : FVec Ideal S1x1024 .f32) (ix2 0 e)
    = shiftA m c (ix1 e) := by
  unfold V
  simp only [hostOps0, List.flatten_cons, List.flatten_nil, List.append_nil, List.cons_append, List.nil_append]
  after_reads_at

theorem queryw_at (k f : Fin 1024) : (V m c main_v14 : FVec Ideal S1024x1024 .bf16) (ix2 k f)
    = queryA m c (ix2 k f) := by
  unfold V
  simp only [hostOps0, List.flatten_cons, List.flatten_nil, List.append_nil, List.cons_append, List.nil_append]
  after_reads_at

theorem key_at (n : Fin 512) (f : Fin 1024) : (V m c main_v16 : FVec Ideal S512x1024 .bf16) (ix2 n f)
    = keyA m c (ix3 (⟨n.val / 256, by omega⟩ : Fin 2) (⟨n.val % 256, by omega⟩ : Fin 256) f) := by
  unfold V
  simp only [hostOps0, List.flatten_cons, List.flatten_nil, List.append_nil, List.cons_append, List.nil_append]
  after_reads_at

theorem value_at (n : Fin 512) (f : Fin 1024) : (V m c main_v18 : FVec Ideal S512x1024 .bf16) (ix2 n f)
    = valueA m c (ix3 (⟨n.val / 256, by omega⟩ : Fin 2) (⟨n.val % 256, by omega⟩ : Fin 256) f) := by
  unfold V
  simp only [hostOps0, List.flatten_cons, List.flatten_nil, List.append_nil, List.cons_append, List.nil_append]
  after_reads_at

theorem proj_at (f e : Fin 1024) : (V m c main_v19 : FVec Ideal S1024x1024 .bf16) (ix2 f e)
    = projA m c (ix2 f e) := by
  unfold V
  simp only [hostOps0, List.flatten_cons, List.flatten_nil, List.append_nil, List.cons_append, List.nil_append]
  after_reads_at

theorem gain2_at (e : Fin 1024) : (V m c main_v20 : FVec Ideal S1x1024 .f32) (ix2 0 e)
    = gain2A m c (ix1 e) := by
  unfold V
  simp only [hostOps0, List.flatten_cons, List.flatten_nil, List.append_nil, List.cons_append, List.nil_append]
  after_reads_at

theorem shift2_at (e : Fin 1024) : (V m c main_v21 : FVec Ideal S1x1024 .f32) (ix2 0 e)
    = shift2A m c (ix1 e) := by
  unfold V
  simp only [hostOps0, List.flatten_cons, List.flatten_nil, List.append_nil, List.cons_append, List.nil_append]
  after_reads_at

/-! ## The blocks -/

/-- Every window's block at a point. -/
theorem idx : ∀ t : Fin cfg0.N, t.val < 64 ∧ win0_0.index t = ![t.val, 0]
    ∧ win0_1.index t = ![t.val, 0]
    ∧ win0_2.index t = ![t.val, 0]
    ∧ win0_3.index t = ![t.val, 4]
    ∧ win0_4.index t = ![0, 0]
    ∧ win0_5.index t = ![t.val, 0]
    ∧ win0_6.index t = ![t.val, 0]
    ∧ win0_7.index t = ![t.val, 1]
    ∧ win0_8.index t = ![0, t.val]
    ∧ win0_9.index t = ![0, 0]
    ∧ win0_10.index t = ![0, 0]
    ∧ win0_11.index t = ![0, 0]
    ∧ win0_12.index t = ![0, 0]
    ∧ win0_13.index t = ![t.val / 32, 0]
    ∧ win0_14.index t = ![t.val / 32, 0]
    ∧ win0_15.index t = ![0, 0]
    ∧ win0_16.index t = ![0, 0]
    ∧ win0_17.index t = ![0, 0]
    ∧ win0_18.index t = ![t.val, 0] :=
  (by decide +kernel : ∀ t : Fin grid0.N, _)

abbrev xB (t : Fin cfg0.N) : FVec Ideal S512x1024 .f32 := iblk m c 0 t
abbrev fwdB (t : Fin cfg0.N) : FVec Ideal S512x256 .f32 := iblk m c 1 t
abbrev bwdB (t : Fin cfg0.N) : FVec Ideal S512x256 .f32 := iblk m c 2 t
abbrev zB (t : Fin cfg0.N) : FVec Ideal S512x256 .f32 := iblk m c 3 t
abbrev wB (t : Fin cfg0.N) : FVec Ideal S1x256 .f32 := iblk m c 4 t
abbrev rfB (t : Fin cfg0.N) : FVec Ideal S512x256 .f32 := iblk m c 5 t
abbrev rbB (t : Fin cfg0.N) : FVec Ideal S512x256 .f32 := iblk m c 6 t
abbrev yB (t : Fin cfg0.N) : FVec Ideal S512x256 .f32 := iblk m c 7 t
abbrev daB (t : Fin cfg0.N) : FVec Ideal S512x512 .bf16 := iblk m c 8 t
abbrev outB (t : Fin cfg0.N) : FVec Ideal S1024x1024 .bf16 := iblk m c 9 t
abbrev gainB (t : Fin cfg0.N) : FVec Ideal S1x1024 .f32 := iblk m c 10 t
abbrev shiftB (t : Fin cfg0.N) : FVec Ideal S1x1024 .f32 := iblk m c 11 t
abbrev queryB (t : Fin cfg0.N) : FVec Ideal S1024x1024 .bf16 := iblk m c 12 t
abbrev keyB (t : Fin cfg0.N) : FVec Ideal S256x1024 .bf16 := iblk m c 13 t
abbrev valueB (t : Fin cfg0.N) : FVec Ideal S256x1024 .bf16 := iblk m c 14 t
abbrev projB (t : Fin cfg0.N) : FVec Ideal S1024x1024 .bf16 := iblk m c 15 t
abbrev gain2B (t : Fin cfg0.N) : FVec Ideal S1x1024 .f32 := iblk m c 16 t
abbrev shift2B (t : Fin cfg0.N) : FVec Ideal S1x1024 .f32 := iblk m c 17 t

/-- The sequence of a point, and the position of its row `j`. -/
def seqOf (t : Fin cfg0.N) : Fin 2 := ⟨t.val / 32, by have := (idx t).1; omega⟩
def posOf (t : Fin cfg0.N) (j : Fin 512) : Fin 16384 := ⟨t.val % 32 * 512 + j.val, by omega⟩
/-- The row of the whole array that is row `j` of a point's block. -/
def rowOf (t : Fin cfg0.N) (j : Fin 512) : Fin 32768 := ⟨t.val * 512 + j.val, by have := (idx t).1; omega⟩

theorem row_seq (t : Fin cfg0.N) (j : Fin 512) : (⟨(rowOf t j).val / 16384, by omega⟩ : Fin 2) = seqOf t :=
  Fin.ext (by simp only [rowOf, seqOf]; omega)

theorem row_pos (t : Fin cfg0.N) (j : Fin 512) : (⟨(rowOf t j).val % 16384, by omega⟩ : Fin 16384) = posOf t j :=
  Fin.ext (by simp only [rowOf, posOf]; omega)

/-- The row of the memory's arrays that is row `n` of a point's block. -/
def memOf (t : Fin cfg0.N) (n : Fin 256) : Fin 512 := ⟨t.val / 32 * 256 + n.val, by have := (idx t).1; omega⟩

theorem mem_seq (t : Fin cfg0.N) (n : Fin 256) : (⟨(memOf t n).val / 256, by omega⟩ : Fin 2) = seqOf t :=
  Fin.ext (by simp only [memOf, seqOf]; omega)

theorem mem_pos (t : Fin cfg0.N) (n : Fin 256) : (⟨(memOf t n).val % 256, by omega⟩ : Fin 256) = n :=
  Fin.ext (by simp only [memOf]; omega)

theorem x_block (t : Fin cfg0.N) (j : Fin 512) (d : Fin 1024) : xB m c t (ix2 j d) = xA m c (ix3 (seqOf t) (posOf t j) d) := by
  have e : xB m c t (ix2 j d) = (V m c main_v0 : FVec Ideal S32768x1024 .f32) (ix2 (rowOf t j) d) := by
    blk_ext [xB, iblk, idx t, rowOf]
  rw [e, x_at, row_seq, row_pos]

theorem fwd_block (t : Fin cfg0.N) (j : Fin 512) (d : Fin 256) : fwdB m c t (ix2 j d) = fwdA m c (ix3 (seqOf t) (posOf t j) d) := by
  have e : fwdB m c t (ix2 j d) = (V m c main_v1 : FVec Ideal S32768x256 .f32) (ix2 (rowOf t j) d) := by
    blk_ext [fwdB, iblk, idx t, rowOf]
  rw [e, fwd_at, row_seq, row_pos]

theorem bwd_block (t : Fin cfg0.N) (j : Fin 512) (d : Fin 256) : bwdB m c t (ix2 j d) = bwdA m c (ix3 (seqOf t) (posOf t j) d) := by
  have e : bwdB m c t (ix2 j d) = (V m c main_v2 : FVec Ideal S32768x256 .f32) (ix2 (rowOf t j) d) := by
    blk_ext [bwdB, iblk, idx t, rowOf]
  rw [e, bwd_at, row_seq, row_pos]

theorem z_block (t : Fin cfg0.N) (j : Fin 512) (d : Fin 256) : zB m c t (ix2 j d) = zA m c (ix3 (seqOf t) (posOf t j) (⟨1024 + d.val, by omega⟩ : Fin 1280)) := by
  have e : zB m c t (ix2 j d) = (V m c main_v3 : FVec Ideal S32768x1280 .f32) (ix2 (rowOf t j) (⟨1024 + d.val, by omega⟩ : Fin 1280)) := by
    blk_ext [zB, iblk, idx t, rowOf]
  rw [e, z_at, row_seq, row_pos]

theorem rf_block (t : Fin cfg0.N) (j : Fin 512) (d : Fin 256) : rfB m c t (ix2 j d) = rfA m c (ix3 (seqOf t) (posOf t j) d) := by
  have e : rfB m c t (ix2 j d) = (V m c main_v5 : FVec Ideal S32768x256 .f32) (ix2 (rowOf t j) d) := by
    blk_ext [rfB, iblk, idx t, rowOf]
  rw [e, rf_at, row_seq, row_pos]

theorem rb_block (t : Fin cfg0.N) (j : Fin 512) (d : Fin 256) : rbB m c t (ix2 j d) = rbA m c (ix3 (seqOf t) (posOf t j) d) := by
  have e : rbB m c t (ix2 j d) = (V m c main_v6 : FVec Ideal S32768x256 .f32) (ix2 (rowOf t j) d) := by
    blk_ext [rbB, iblk, idx t, rowOf]
  rw [e, rb_at, row_seq, row_pos]

theorem y_block (t : Fin cfg0.N) (j : Fin 512) (d : Fin 256) : yB m c t (ix2 j d) = yA m c (ix3 (seqOf t) (posOf t j) (⟨256 + d.val, by omega⟩ : Fin 512)) := by
  have e : yB m c t (ix2 j d) = (V m c main_v7 : FVec Ideal S32768x512 .f32) (ix2 (rowOf t j) (⟨256 + d.val, by omega⟩ : Fin 512)) := by
    blk_ext [yB, iblk, idx t, rowOf]
  rw [e, y_at, row_seq, row_pos]

theorem da_block (t : Fin cfg0.N) (d j : Fin 512) : daB m c t (ix2 d j) = daA m c (ix3 (seqOf t) (posOf t j) d) := by
  have e : daB m c t (ix2 d j) = (V m c main_v10 : FVec Ideal S512x32768 .bf16) (ix2 d (rowOf t j)) := by
    blk_ext [daB, iblk, idx t, rowOf]
  rw [e, da_at, row_seq, row_pos]

theorem key_block (t : Fin cfg0.N) (n : Fin 256) (f : Fin 1024) : keyB m c t (ix2 n f) = keyA m c (ix3 (seqOf t) n f) := by
  have e : keyB m c t (ix2 n f) = (V m c main_v16 : FVec Ideal S512x1024 .bf16) (ix2 (memOf t n) f) := by
    blk_ext [keyB, iblk, idx t, memOf]
  rw [e, key_at, mem_seq, mem_pos]

theorem value_block (t : Fin cfg0.N) (n : Fin 256) (f : Fin 1024) : valueB m c t (ix2 n f) = valueA m c (ix3 (seqOf t) n f) := by
  have e : valueB m c t (ix2 n f) = (V m c main_v18 : FVec Ideal S512x1024 .bf16) (ix2 (memOf t n) f) := by
    blk_ext [valueB, iblk, idx t, memOf]
  rw [e, value_at, mem_seq, mem_pos]

theorem w_block (t : Fin cfg0.N) (e : Fin 256) : wB m c t (ix2 0 e) = wA m c (ix1 e) := by
  rw [← w_at]
  blk_ext [wB, iblk, idx t]

theorem gain_block (t : Fin cfg0.N) (e : Fin 1024) : gainB m c t (ix2 0 e) = gainA m c (ix1 e) := by
  rw [← gain_at]
  blk_ext [gainB, iblk, idx t]

theorem shift_block (t : Fin cfg0.N) (e : Fin 1024) : shiftB m c t (ix2 0 e) = shiftA m c (ix1 e) := by
  rw [← shift_at]
  blk_ext [shiftB, iblk, idx t]

theorem gain2_block (t : Fin cfg0.N) (e : Fin 1024) : gain2B m c t (ix2 0 e) = gain2A m c (ix1 e) := by
  rw [← gain2_at]
  blk_ext [gain2B, iblk, idx t]

theorem shift2_block (t : Fin cfg0.N) (e : Fin 1024) : shift2B m c t (ix2 0 e) = shift2A m c (ix1 e) := by
  rw [← shift2_at]
  blk_ext [shift2B, iblk, idx t]

theorem out_block (t : Fin cfg0.N) (k e : Fin 1024) : outB m c t (ix2 k e) = outA m c (ix2 k e) := by
  rw [← outw_at]
  blk_ext [outB, iblk, idx t]

theorem query_block (t : Fin cfg0.N) (k e : Fin 1024) : queryB m c t (ix2 k e) = queryA m c (ix2 k e) := by
  rw [← queryw_at]
  blk_ext [queryB, iblk, idx t]

theorem proj_block (t : Fin cfg0.N) (k e : Fin 1024) : projB m c t (ix2 k e) = projA m c (ix2 k e) := by
  rw [← proj_at]
  blk_ext [projB, iblk, idx t]

/-! ## A point's entries -/

/-- The result's row at a position of a sequence. -/
def rowOut (s : Fin 2) (t : Fin 16384) (e : Fin 1024) : EReal :=
  row (fun e => xA m c (ix3 s t e)) (fun d => fwdA m c (ix3 s t d) + bwdA m c (ix3 s t d)) (fun d => wA m c (ix1 d))
    (fun d => zA m c (ix3 s t (⟨1024 + d.val, by omega⟩ : Fin 1280))) (fun d => rfA m c (ix3 s t d) + rbA m c (ix3 s t d))
    (fun d => yA m c (ix3 s t (⟨256 + d.val, by omega⟩ : Fin 512))) (fun d => daA m c (ix3 s t d)) (fun j e => outA m c (ix2 j e))
    (fun e => gainA m c (ix1 e)) (fun e => shiftA m c (ix1 e)) (fun k f => queryA m c (ix2 k f)) (fun n f => keyA m c (ix3 s n f))
    (fun n f => valueA m c (ix3 s n f)) (fun f e => projA m c (ix2 f e)) (fun e => gain2A m c (ix1 e)) (fun e => shift2A m c (ix1 e)) e

/-- The result: at row `p` and column `e`. -/
def resultOf (p : Fin 32768) (e : Fin 1024) : EReal := rowOut m c (⟨p.val / 16384, by omega⟩ : Fin 2) (⟨p.val % 16384, by omega⟩ : Fin 16384) e

/-- What a point leaves in the result's buffer. -/
abbrev outAt (t : Fin cfg0.N) : FVec Ideal S512x1024 .f32 :=
  out0_18 (F := Ideal) (xB m c t) (fwdB m c t) (bwdB m c t) (zB m c t) (wB m c t) (rfB m c t) (rbB m c t) (yB m c t) (daB m c t) (outB m c t) (gainB m c t) (shiftB m c t) (queryB m c t) (keyB m c t) (valueB m c t) (projB m c t) (gain2B m c t) (shift2B m c t)

/-- The arguments that have to be real. -/
structure Real : Prop where
  fwd : ∀ i, ∃ r : ℝ, fwdA m c i = (r : EReal)
  bwd : ∀ i, ∃ r : ℝ, bwdA m c i = (r : EReal)
  gain : ∀ i, ∃ r : ℝ, gainA m c i = (r : EReal)
  shift : ∀ i, ∃ r : ℝ, shiftA m c i = (r : EReal)
  query : ∀ i, ∃ r : ℝ, queryA m c i = (r : EReal)
  key : ∀ i, ∃ r : ℝ, keyA m c i = (r : EReal)

variable (hr : Real m c)

include hr

/-- Its entries are the result's. -/
theorem point_at (t : Fin cfg0.N) (j : Fin 512) (e : Fin 1024) : outAt m c t (ix2 j e) = rowOut m c (seqOf t) (posOf t j) e := by
  rw [outAt, out_at _ _ _ _ _ _ _ _ _ _ _ _ _ _ _ _ _ _ _ ?_ ?_ ?_ ?_ ?_]
  · simp only [x_block, fwd_block, bwd_block, z_block, w_block, rf_block, rb_block, y_block, da_block, out_block, gain_block, shift_block,
      query_block, key_block, value_block, proj_block, gain2_block, shift2_block]
    rfl
  · intro d
    rw [fwd_block, bwd_block]
    obtain ⟨a, ha⟩ := hr.fwd (ix3 (seqOf t) (posOf t j) d)
    obtain ⟨b, hb⟩ := hr.bwd (ix3 (seqOf t) (posOf t j) d)
    exact ⟨a + b, by rw [ha, hb, EReal.coe_add]⟩
  · exact fun e => by rw [gain_block]; exact hr.gain _
  · exact fun e => by rw [shift_block]; exact hr.shift _
  · exact fun k f => by rw [query_block]; exact hr.query _
  · exact fun n f => by rw [key_block]; exact hr.key _

theorem point_place (t : Fin cfg0.N) (j : Fin 512) (e e' : Fin 1024) (p : Fin 32768) (hp : p.val = t.val * 512 + j.val) (he : e'.val = e.val) :
    outAt m c t (ix2 j e) = resultOf m c p e' := by
  have e₁ : p = rowOf t j := Fin.ext hp
  have e₃ : e' = e := Fin.ext he
  rw [point_at m c hr, resultOf, e₁, e₃, row_seq, row_pos]

/-- The result array after the run. -/
theorem final : (dats m 0 c).arrAt 18 cfg0.N = (fun y => resultOf m c (y 0) (y 1) : FVec Ideal S32768x1024 .f32) := by
  refine (dats m 0 c).arrAt_eq_of_covers 18 _ (by decide +kernel) fun t _ y => ?_
  blk_simp
  rw [after0_18]
  refine (congrArg (outAt m c t) (Idealize.ShloMosaic.ValueIdx.eq_ix2 y)).trans (point_place m c hr t (y 0) (y 1) _ _ ?_ ?_)
  · blk_simp [idx t]
  · blk_simp [idx t]

end Cert.MixIdeal.Tile

end
-- ==== Proof.MixReference.lean ====
/-
  The reference of the output projection with cross attention at an entry: its operations read one after another at an
  index, down to the sums of the specification.
-/
module

public import proofs.«01_k».proof.Proof.MixSpec
public import proofs.«01_k».proof.Proof.Gen.MixRefIdeal.Read
public import Idealize.ShloMosaic.Lib.Pipeline.ValueKit

@[expose] public section

set_option maxRecDepth 16384

noncomputable section

namespace Cert.MixRefIdeal.Entry

open Idealize.ShloMosaic Idealize.ShloMosaic.TcCoe Idealize.SL.Sem
open Cert.MixRefIdeal Cert.MixRefIdeal.Read Cert.Ffn Cert.MixSpec Cert.Softmax

variable (x0 : FVec Ideal S2x16384x1024 .f32) (x1 x2 : FVec Ideal S2x16384x256 .f32) (x3 : FVec Ideal S2x16384x1280 .f32) (x4 : FVec Ideal S256 .f32)
  (x5 x6 : FVec Ideal S2x16384x256 .f32) (x7 : FVec Ideal S2x16384x512 .f32) (x8 : FVec Ideal S2x16384x512 .f32) (x9 : FVec Ideal S1024x1024 .f32)
  (x10 x11 : FVec Ideal S1024 .f32) (x12 : FVec Ideal S1024x1024 .f32) (x13 x14 : FVec Ideal S2x256x1024 .f32) (x15 : FVec Ideal S1024x1024 .f32)
  (x16 x17 : FVec Ideal S1024 .f32)

theorem head_at (s : Fin 2) (t : Fin 16384) (d : Fin 256) : val_main_v19 (F := Ideal) x1 x2 x3 x4 (ix3 s t d)
    = gatedHead (fun d => x1 (ix3 s t d) + x2 (ix3 s t d)) (fun d => x4 (ix1 d)) (fun d => x3 (ix3 s t (⟨1024 + d.val, by omega⟩ : Fin 1280))) d := by
  unfold gatedHead headMean silu headCol
  pointwise [val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

theorem gelu_at (s : Fin 2) (t : Fin 16384) (d : Fin 256) : val_main_v35 (F := Ideal) x5 x6 x7 (ix3 s t d)
    = (x5 (ix3 s t d) + x6 (ix3 s t d)) * gelu (x7 (ix3 s t (⟨256 + d.val, by omega⟩ : Fin 512))) := by
  unfold gelu
  pointwise [val_main_v35, val_main_v34, val_main_v33, val_main_v32, val_main_cst_5, val_main_v31, val_main_v30, val_main_cst_4, val_main_v29, val_main_v28, val_main_v27, val_main_cst_3, val_main_v26, val_main_v25, val_main_v24, val_main_cst_2, val_main_v23, val_main_v22, val_main_v21, val_main_v20]

theorem stream_at (s : Fin 2) (t : Fin 16384) (e : Fin 1024) : val_main_v40 (F := Ideal) x0 x1 x2 x3 x4 x5 x6 x7 x8 x9 (ix3 s t e)
    = firstStream (fun e => x0 (ix3 s t e)) (fun d => val_main_v19 (F := Ideal) x1 x2 x3 x4 (ix3 s t d))
        (fun d => val_main_v35 (F := Ideal) x5 x6 x7 (ix3 s t d)) (fun d => x8 (ix3 s t d)) (fun j e => x9 (ix2 j e)) e := by
  unfold firstStream cat
  pointwise [val_main_v40, val_main_v39, val_main_v38, val_main_cst_6, val_main_v37, val_main_v36]

theorem first_at (s : Fin 2) (t : Fin 16384) (e : Fin 1024) : val_main_v64 (F := Ideal) x0 x1 x2 x3 x4 x5 x6 x7 x8 x9 x10 x11 (ix3 s t e)
    = layerNorm (fun e => val_main_v40 (F := Ideal) x0 x1 x2 x3 x4 x5 x6 x7 x8 x9 (ix3 s t e)) (fun e => x10 (ix1 e)) (fun e => x11 (ix1 e)) e := by
  unfold layerNorm centred mean
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_cst_7, val_main_cst_8, val_main_cst_9, val_main_cst_10, val_main_cst_11]

theorem score_at (s : Fin 2) (h : Fin 4) (t : Fin 16384) (m : Fin 256) : val_main_v71 (F := Ideal) x0 x1 x2 x3 x4 x5 x6 x7 x8 x9 x10 x11 x12 x13 (ix4 s h t m)
    = score (fun k => val_main_v64 (F := Ideal) x0 x1 x2 x3 x4 x5 x6 x7 x8 x9 x10 x11 (ix3 s t k)) (fun k f => x12 (ix2 k f)) (fun m f => x13 (ix3 s m f)) h m := by
  unfold score query quarter
  pointwise [val_main_v71, val_main_v70, val_main_cst_12, val_main_v69, val_main_v66, val_main_v67, val_main_v65]

theorem least : Ideal.ofBits .f32 0xFF800000#32 = ⊥ := by
  simp [Ideal.ofBits, Ideal.ieee]

theorem reduce_at (y : FVec Ideal S2x4x16384x256 .f32) (s : Fin 2) (h : Fin 4) (t : Fin 16384) :
    (Host.reduce FloatOps.maximumf y (constant (F := Ideal) S_ .f32 0xFF800000#32) Gen.reducesTo_S2x4x16384x256_S2x4x16384_d3 Gen.h_S_ : FVec Ideal S2x4x16384 .f32) (ix3 s h t)
      = (Finset.univ : Finset (Fin 256)).fold max (Ideal.ofBits .f32 0xFF800000#32) (fun m => y (ix4 s h t m)) := by
  pointwise

theorem max_at (s : Fin 2) (h : Fin 4) (t : Fin 16384) :
    val_main_v74 (F := Ideal) x0 x1 x2 x3 x4 x5 x6 x7 x8 x9 x10 x11 x12 x13 (ix3 s h t)
      = top (fun m => val_main_v71 (F := Ideal) x0 x1 x2 x3 x4 x5 x6 x7 x8 x9 x10 x11 x12 x13 (ix4 s h t m)) := by
  rw [val_main_v74_apply, val_main_v72, val_main_cst_13, val_main_v73_apply, val_main_cst_14_apply]
  generalize val_main_v71 (F := Ideal) x0 x1 x2 x3 x4 x5 x6 x7 x8 x9 x10 x11 x12 x13 = y
  rw [reduce_at]
  unfold top
  simp only [least]
  exact max_eq_right bot_le

theorem exp_at (s : Fin 2) (h : Fin 4) (t : Fin 16384) (m : Fin 256) :
    val_main_v78 (F := Ideal) x0 x1 x2 x3 x4 x5 x6 x7 x8 x9 x10 x11 x12 x13 (ix4 s h t m)
      = Ideal.exp (val_main_v71 (F := Ideal) x0 x1 x2 x3 x4 x5 x6 x7 x8 x9 x10 x11 x12 x13 (ix4 s h t m)
        - val_main_v74 (F := Ideal) x0 x1 x2 x3 x4 x5 x6 x7 x8 x9 x10 x11 x12 x13 (ix3 s h t)) := by
  pointwise [val_main_v78, val_main_v77, val_main_v76, val_main_v75]

theorem soft_at (s : Fin 2) (h : Fin 4) (t : Fin 16384) (m : Fin 256) :
    val_main_v82 (F := Ideal) x0 x1 x2 x3 x4 x5 x6 x7 x8 x9 x10 x11 x12 x13 (ix4 s h t m)
      = Ideal.div (val_main_v78 (F := Ideal) x0 x1 x2 x3 x4 x5 x6 x7 x8 x9 x10 x11 x12 x13 (ix4 s h t m))
          (∑ y : Fin 256, val_main_v78 (F := Ideal) x0 x1 x2 x3 x4 x5 x6 x7 x8 x9 x10 x11 x12 x13 (ix4 s h t y)) := by
  pointwise [val_main_v82, val_main_v81, val_main_v80, val_main_v79, val_main_cst_15]

theorem attended_at (s : Fin 2) (t : Fin 16384) (f : Fin 1024) :
    val_main_v85 (F := Ideal) x0 x1 x2 x3 x4 x5 x6 x7 x8 x9 x10 x11 x12 x13 x14 (ix3 s t f)
      = attended (fun k => val_main_v64 (F := Ideal) x0 x1 x2 x3 x4 x5 x6 x7 x8 x9 x10 x11 (ix3 s t k)) (fun k f => x12 (ix2 k f))
          (fun m f => x13 (ix3 s m f)) (fun m f => x14 (ix3 s m f)) (⟨f.val / 256, by omega⟩ : Fin 4) (⟨f.val % 256, by omega⟩ : Fin 256) := by
  have e : val_main_v85 (F := Ideal) x0 x1 x2 x3 x4 x5 x6 x7 x8 x9 x10 x11 x12 x13 x14 (ix3 s t f)
      = ∑ m : Fin 256, x14 (ix3 s m (quarter (⟨f.val / 256, by omega⟩ : Fin 4) (⟨f.val % 256, by omega⟩ : Fin 256)))
        * val_main_v82 (F := Ideal) x0 x1 x2 x3 x4 x5 x6 x7 x8 x9 x10 x11 x12 x13 (ix4 s (⟨f.val / 256, by omega⟩ : Fin 4) t m) := by
    have e₁ : quarter (⟨f.val / 256, by omega⟩ : Fin 4) (⟨f.val % 256, by omega⟩ : Fin 256) = f :=
      Fin.ext (by show f.val / 256 * 256 + f.val % 256 = f.val; omega)
    rw [e₁]
    pointwise [val_main_v85, val_main_v84, val_main_v83, val_main_v68]
  rw [e]
  unfold attended soft
  simp only [soft_at, exp_at, max_at, score_at]

theorem second_at (s : Fin 2) (t : Fin 16384) (e : Fin 1024) :
    val_main_v89 (F := Ideal) x0 x1 x2 x3 x4 x5 x6 x7 x8 x9 x10 x11 x12 x13 x14 x15 (ix3 s t e)
      = secondStream (fun k => val_main_v64 (F := Ideal) x0 x1 x2 x3 x4 x5 x6 x7 x8 x9 x10 x11 (ix3 s t k)) (fun k f => x12 (ix2 k f))
          (fun m f => x13 (ix3 s m f)) (fun m f => x14 (ix3 s m f)) (fun f e => x15 (ix2 f e)) e := by
  unfold secondStream
  simp only [← attended_at]
  pointwise [val_main_v89, val_main_v88, val_main_v87, val_main_v86, val_main_cst_16]

theorem norm_at (s : Fin 2) (t : Fin 16384) (e : Fin 1024) :
    val_main_v113 (F := Ideal) x0 x1 x2 x3 x4 x5 x6 x7 x8 x9 x10 x11 x12 x13 x14 x15 x16 x17 (ix3 s t e)
      = layerNorm (fun e => val_main_v89 (F := Ideal) x0 x1 x2 x3 x4 x5 x6 x7 x8 x9 x10 x11 x12 x13 x14 x15 (ix3 s t e)) (fun e => x16 (ix1 e)) (fun e => x17 (ix1 e)) e := by
  unfold layerNorm centred mean
  pointwise [val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_cst_17, val_main_cst_18, val_main_cst_19, val_main_cst_20, val_main_cst_21]

/-- The row at sequence `s` and position `t`, from the arguments. -/
def rowAt (s : Fin 2) (t : Fin 16384) (e : Fin 1024) : EReal :=
  row (fun e => x0 (ix3 s t e)) (fun d => x1 (ix3 s t d) + x2 (ix3 s t d)) (fun d => x4 (ix1 d)) (fun d => x3 (ix3 s t (⟨1024 + d.val, by omega⟩ : Fin 1280)))
    (fun d => x5 (ix3 s t d) + x6 (ix3 s t d)) (fun d => x7 (ix3 s t (⟨256 + d.val, by omega⟩ : Fin 512))) (fun d => x8 (ix3 s t d)) (fun j e => x9 (ix2 j e))
    (fun e => x10 (ix1 e)) (fun e => x11 (ix1 e)) (fun k f => x12 (ix2 k f)) (fun m f => x13 (ix3 s m f)) (fun m f => x14 (ix3 s m f)) (fun f e => x15 (ix2 f e))
    (fun e => x16 (ix1 e)) (fun e => x17 (ix1 e)) e

/-- The reference at row `p` and column `e`. -/
theorem reference_at (p : Fin 32768) (e : Fin 1024) :
    val_main_v114 (F := Ideal) x0 x1 x2 x3 x4 x5 x6 x7 x8 x9 x10 x11 x12 x13 x14 x15 x16 x17 (ix2 p e)
      = rowAt x0 x1 x2 x3 x4 x5 x6 x7 x8 x9 x10 x11 x12 x13 x14 x15 x16 x17 (⟨p.val / 16384, by omega⟩ : Fin 2) (⟨p.val % 16384, by omega⟩ : Fin 16384) e := by
  have : val_main_v114 (F := Ideal) x0 x1 x2 x3 x4 x5 x6 x7 x8 x9 x10 x11 x12 x13 x14 x15 x16 x17 (ix2 p e)
      = val_main_v113 (F := Ideal) x0 x1 x2 x3 x4 x5 x6 x7 x8 x9 x10 x11 x12 x13 x14 x15 x16 x17 (ix3 (⟨p.val / 16384, by omega⟩ : Fin 2) (⟨p.val % 16384, by omega⟩ : Fin 16384) e) := by
    pointwise [val_main_v114]
  rw [this, norm_at]
  simp only [second_at, first_at, stream_at, head_at, gelu_at]
  rfl

end Cert.MixRefIdeal.Entry

end
-- ==== Proof.MixFinite.lean ====
/-
  The precondition of the output projection with cross attention: its word says that six arguments are real throughout.
-/
module

public import proofs.«01_k».proof.Proof.Finite
public import proofs.«01_k».proof.Proof.Gen.Pre_finite_mix
public import Idealize.ShloMosaic.Lib.ReduceAll

@[expose] public section

set_option maxRecDepth 16384

noncomputable section

namespace Cert.Pre_finite_mix.Entry

open Idealize.ShloMosaic Idealize.SL.Sem
open Cert.Pre_finite_mix
open Cert.Pre_finite.Flash (real_of_word)

instance : Subsingleton S_.Idx := ⟨fun a b => funext fun x => x.elim0⟩

variable (x0 : FVec Ideal S2x16384x1024 .f32) (x1 x2 : FVec Ideal S2x16384x256 .f32) (x3 : FVec Ideal S2x16384x1280 .f32) (x4 : FVec Ideal S256 .f32)
  (x5 x6 : FVec Ideal S2x16384x256 .f32) (x7 : FVec Ideal S2x16384x512 .f32) (x8 : FVec Ideal S2x16384x512 .f32) (x9 : FVec Ideal S1024x1024 .f32)
  (x10 x11 : FVec Ideal S1024 .f32) (x12 : FVec Ideal S1024x1024 .f32) (x13 x14 : FVec Ideal S2x256x1024 .f32) (x15 : FVec Ideal S1024x1024 .f32)
  (x16 x17 : FVec Ideal S1024 .f32)
  (h : Cert.Pre_finite_mix.fn (F := Ideal) x0 x1 x2 x3 x4 x5 x6 x7 x8 x9 x10 x11 x12 x13 x14 x15 x16 x17 = fun _ => 1#1)

include h

/-- The six words of the conjunction. -/
theorem all_real : (∀ i, ∃ r : ℝ, x1 i = (r : EReal)) ∧ (∀ i, ∃ r : ℝ, x2 i = (r : EReal)) ∧ (∀ i, ∃ r : ℝ, x10 i = (r : EReal))
    ∧ (∀ i, ∃ r : ℝ, x11 i = (r : EReal)) ∧ (∀ i, ∃ r : ℝ, x12 i = (r : EReal)) ∧ (∀ i, ∃ r : ℝ, x13 i = (r : EReal)) := by
  have h₁ := IntOp.andi_eq_one.1 (congrFun h ix0)
  have h₂ := IntOp.andi_eq_one.1 h₁.1
  have h₃ := IntOp.andi_eq_one.1 h₂.1
  have h₄ := IntOp.andi_eq_one.1 h₃.1
  have h₅ := IntOp.andi_eq_one.1 h₄.1
  exact ⟨fun i => real_of_word (Host.reduce_andi_all _ _ _ _ _ h₅.1 i), fun i => real_of_word (Host.reduce_andi_all _ _ _ _ _ h₅.2 i),
    fun i => real_of_word (Host.reduce_andi_all _ _ _ _ _ h₄.2 i), fun i => real_of_word (Host.reduce_andi_all _ _ _ _ _ h₃.2 i),
    fun i => real_of_word (Host.reduce_andi_all _ _ _ _ _ h₂.2 i), fun i => real_of_word (Host.reduce_andi_all _ _ _ _ _ h₁.2 i)⟩

end Cert.Pre_finite_mix.Entry

end
-- ==== Proof.MixEquation.lean ====
/-
  The output projection with cross attention: its frames, and the equation. From any memories that agree on the arguments,
  where six of them are real, the call and its reference end with the same array, and leave their arguments.
-/
module

public import proofs.«01_k».proof.Proof.MixResult
public import proofs.«01_k».proof.Proof.MixReference
public import proofs.«01_k».proof.Proof.MixFinite
public import proofs.«01_k».proof.Proof.Gen.Mix.Frame
public import proofs.«01_k».proof.Proof.Gen.MixRefIdeal.Run
public import proofs.«01_k».proof.Defs
public import Idealize.ShloMosaic.Lib.Claim
public import Idealize.ShloMosaic.Lib.Quiescent

@[expose] public section

set_option maxRecDepth 16384

noncomputable section

namespace Cert.Proof

open Idealize.ShloMosaic Idealize.SL.Sem

theorem frame_mix : Cert.quiescent_Mix (hMix := Cert.Mix.Gen.facts) := fun m g _ => Cert.Mix.Gen.frame m g

theorem frame_mix_ideal : Cert.quiescent_MixIdeal (hMixIdeal := Cert.MixIdeal.Gen.facts) := fun m g _ => Cert.MixIdeal.Gen.frame m g

theorem frame_mix_ideal_pre : Cert.quiescent_MixIdeal_pre_finite_mix (hMixIdeal := Cert.MixIdeal.Gen.facts)
    (hPre_finite_mix := Cert.Pre_finite_mix.Gen.facts) :=
  fun m g _ => Cert.MixIdeal.Gen.frame m g

theorem frame_mix_ref : Cert.quiescent_MixRefIdeal (hMixRefIdeal := Cert.MixRefIdeal.Gen.facts) := by
  intro m g _
  refine θ_run_mono (Cert.MixRefIdeal.Value.run m g) fun r h => ⟨fun c => (h c).2, ?_⟩
  exact sem_eq_zero_of_no_sems rfl r.2

theorem frame_mix_ref_pre : Cert.quiescent_MixRefIdeal_pre_finite_mix (hMixRefIdeal := Cert.MixRefIdeal.Gen.facts)
    (hPre_finite_mix := Cert.Pre_finite_mix.Gen.facts) :=
  fun m g _ => frame_mix_ref m g trivial

/-- The array that both programs end with. -/
def mixAnswer (m : (ℓ : Loc Cert.MixIdeal.nD Cert.MixIdeal.τ Cert.MixIdeal.sig) → Buf (Elt Ideal) ℓ) (c : Dev Cert.MixIdeal.nD) :
    FVec Ideal Cert.MixIdeal.S32768x1024 .f32 := fun y => Cert.MixIdeal.Tile.resultOf m c (y 0) (y 1)

/-- The reference ends with the answer. -/
theorem mix_reference (m : (ℓ : Loc Cert.MixIdeal.nD Cert.MixIdeal.τ Cert.MixIdeal.sig) → Buf (Elt Ideal) ℓ) (c : Dev Cert.MixIdeal.nD) :
    Cert.MixRefIdeal.Read.val_main_v114 (F := Ideal)
      (m ((c.tc : Thread Cert.MixIdeal.nD Cert.MixIdeal.τ).loc Cert.MixIdeal.main_arg0))
      (m ((c.tc : Thread Cert.MixIdeal.nD Cert.MixIdeal.τ).loc Cert.MixIdeal.main_arg1))
      (m ((c.tc : Thread Cert.MixIdeal.nD Cert.MixIdeal.τ).loc Cert.MixIdeal.main_arg2))
      (m ((c.tc : Thread Cert.MixIdeal.nD Cert.MixIdeal.τ).loc Cert.MixIdeal.main_arg3))
      (m ((c.tc : Thread Cert.MixIdeal.nD Cert.MixIdeal.τ).loc Cert.MixIdeal.main_arg4))
      (m ((c.tc : Thread Cert.MixIdeal.nD Cert.MixIdeal.τ).loc Cert.MixIdeal.main_arg5))
      (m ((c.tc : Thread Cert.MixIdeal.nD Cert.MixIdeal.τ).loc Cert.MixIdeal.main_arg6))
      (m ((c.tc : Thread Cert.MixIdeal.nD Cert.MixIdeal.τ).loc Cert.MixIdeal.main_arg7))
      (m ((c.tc : Thread Cert.MixIdeal.nD Cert.MixIdeal.τ).loc Cert.MixIdeal.main_arg8))
      (m ((c.tc : Thread Cert.MixIdeal.nD Cert.MixIdeal.τ).loc Cert.MixIdeal.main_arg9))
      (m ((c.tc : Thread Cert.MixIdeal.nD Cert.MixIdeal.τ).loc Cert.MixIdeal.main_arg10))
      (m ((c.tc : Thread Cert.MixIdeal.nD Cert.MixIdeal.τ).loc Cert.MixIdeal.main_arg11))
      (m ((c.tc : Thread Cert.MixIdeal.nD Cert.MixIdeal.τ).loc Cert.MixIdeal.main_arg12))
      (m ((c.tc : Thread Cert.MixIdeal.nD Cert.MixIdeal.τ).loc Cert.MixIdeal.main_arg13))
      (m ((c.tc : Thread Cert.MixIdeal.nD Cert.MixIdeal.τ).loc Cert.MixIdeal.main_arg14))
      (m ((c.tc : Thread Cert.MixIdeal.nD Cert.MixIdeal.τ).loc Cert.MixIdeal.main_arg15))
      (m ((c.tc : Thread Cert.MixIdeal.nD Cert.MixIdeal.τ).loc Cert.MixIdeal.main_arg16))
      (m ((c.tc : Thread Cert.MixIdeal.nD Cert.MixIdeal.τ).loc Cert.MixIdeal.main_arg17)) = mixAnswer m c := by
  funext y
  obtain ⟨p, e, rfl⟩ : ∃ (p : Fin 32768) (e : Fin 1024), y = ix2 p e := ⟨_, _, Idealize.ShloMosaic.ValueIdx.eq_ix2 y⟩
  exact (Cert.MixRefIdeal.Entry.reference_at _ _ _ _ _ _ _ _ _ _ _ _ _ _ _ _ _ _ p e).trans rfl

/-- The two programs, from memories that agree on the arguments, end with one array. -/
theorem algebraic_mix : Cert.algebraic_MixIdeal_MixRefIdeal_pre_finite_mix (hMixIdeal := Cert.MixIdeal.Gen.facts)
    (hMixRefIdeal := Cert.MixRefIdeal.Gen.facts) (hPre_finite_mix := Cert.Pre_finite_mix.Gen.facts) := by
  intro m g m' g' hpre heq
  refine ⟨fun c => mixAnswer m c, ?_, ?_⟩
  · refine θ_run_mono (Cert.MixIdeal.Value.run_blocks m g) fun r h c => ⟨(h c).1.trans (Cert.MixIdeal.Tile.final m c ?_), (h c).2⟩
    obtain ⟨h₁, h₂, h₃, h₄, h₅, h₆⟩ := Cert.Pre_finite_mix.Entry.all_real _ _ _ _ _ _ _ _ _ _ _ _ _ _ _ _ _ _ (hpre c)
    exact ⟨h₁, h₂, h₃, h₄, h₅, h₆⟩
  · refine θ_run_mono (Cert.MixRefIdeal.Value.run m' g') fun r h c => ⟨?_, (h c).2⟩
    refine ((h c).1).trans ?_
    rw [Cert.MixRefIdeal.Read.val_main_v114_eq]
    show Cert.MixRefIdeal.Read.val_main_v114 (F := Ideal)
      (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6))
      (m' ((c.tc : Thread Cert.MixRefIdeal.nD Cert.MixRefIdeal.τ).loc Cert.MixRefIdeal.main_arg7))
      (m' ((c.tc : Thread Cert.MixRefIdeal.nD Cert.MixRefIdeal.τ).loc Cert.MixRefIdeal.main_arg8))
      (m' ((c.tc : Thread Cert.MixRefIdeal.nD Cert.MixRefIdeal.τ).loc Cert.MixRefIdeal.main_arg9))
      (m' ((c.tc : Thread Cert.MixRefIdeal.nD Cert.MixRefIdeal.τ).loc Cert.MixRefIdeal.main_arg10))
      (m' ((c.tc : Thread Cert.MixRefIdeal.nD Cert.MixRefIdeal.τ).loc Cert.MixRefIdeal.main_arg11))
      (m' ((c.tc : Thread Cert.MixRefIdeal.nD Cert.MixRefIdeal.τ).loc Cert.MixRefIdeal.main_arg12))
      (m' ((c.tc : Thread Cert.MixRefIdeal.nD Cert.MixRefIdeal.τ).loc Cert.MixRefIdeal.main_arg13))
      (m' ((c.tc : Thread Cert.MixRefIdeal.nD Cert.MixRefIdeal.τ).loc Cert.MixRefIdeal.main_arg14))
      (m' ((c.tc : Thread Cert.MixRefIdeal.nD Cert.MixRefIdeal.τ).loc Cert.MixRefIdeal.main_arg15))
      (m' ((c.tc : Thread Cert.MixRefIdeal.nD Cert.MixRefIdeal.τ).loc Cert.MixRefIdeal.main_arg16))
      (m' ((c.tc : Thread Cert.MixRefIdeal.nD Cert.MixRefIdeal.τ).loc Cert.MixRefIdeal.main_arg17)) = _
    rw [(heq c).1, (heq c).2.1, (heq c).2.2.1, (heq c).2.2.2.1, (heq c).2.2.2.2.1, (heq c).2.2.2.2.2.1, (heq c).2.2.2.2.2.2.1, (heq c).2.2.2.2.2.2.2.1, (heq c).2.2.2.2.2.2.2.2.1, (heq c).2.2.2.2.2.2.2.2.2.1, (heq c).2.2.2.2.2.2.2.2.2.2.1, (heq c).2.2.2.2.2.2.2.2.2.2.2.1, (heq c).2.2.2.2.2.2.2.2.2.2.2.2.1, (heq c).2.2.2.2.2.2.2.2.2.2.2.2.2.1, (heq c).2.2.2.2.2.2.2.2.2.2.2.2.2.2.1, (heq c).2.2.2.2.2.2.2.2.2.2.2.2.2.2.2.1, (heq c).2.2.2.2.2.2.2.2.2.2.2.2.2.2.2.2.1, (heq c).2.2.2.2.2.2.2.2.2.2.2.2.2.2.2.2.2]
    exact mix_reference m c

end Cert.Proof

end
-- ==== Proof.InprojSpec.lean ====
/-
  One row of the input projection by plain sums: the projection's columns, and the rotary positions of the 64 columns of
  each head's map, a column of the first half turned against the column 32 to its right and one of the second half against
  the column 32 to its left.
-/
module

public import Idealize.ShloMosaic.Lib.Pipeline.ValueKit

@[expose] public section

noncomputable section

namespace Cert.InprojSpec

open Idealize.ShloMosaic

/-- Column `o` of a row's projection. -/
def proj (x : Fin 1024 → EReal) (w : Fin 1024 → Fin 3328 → EReal) (o : Fin 3328) : EReal := ∑ k : Fin 1024, x k * w k o

/-- Columns `o` to `o + 511` of a row's projection. -/
def part (x : Fin 1024 → EReal) (w : Fin 1024 → Fin 3328 → EReal) (o : Nat) (ho : o + 512 ≤ 3328) (d : Fin 512) : EReal :=
  proj x w ⟨o + d.val, by omega⟩

/-- The rotary position of a row's columns, by the cosines and sines of its position. -/
def rotary (y : Fin 512 → EReal) (c s : Fin 32 → EReal) (d : Fin 512) : EReal :=
  if d.val % 64 < 32 then y d * c ⟨d.val % 32, by omega⟩ - y ⟨(d.val + 32) % 512, by omega⟩ * s ⟨d.val % 32, by omega⟩
  else y d * c ⟨d.val % 32, by omega⟩ + y ⟨(d.val + 480) % 512, by omega⟩ * s ⟨d.val % 32, by omega⟩

/-- A query's column: turned, and scaled. -/
def query (x : Fin 1024 → EReal) (w : Fin 1024 → Fin 3328 → EReal) (c s : Fin 32 → EReal) (d : Fin 512) : EReal :=
  rotary (part x w 1792 (by omega)) c s d * Ideal.ofBits .f32 0x3E38AA3B#32

/-- The queries of one map: the other map's columns are zero. -/
def mapQuery (x : Fin 1024 → EReal) (w : Fin 1024 → Fin 3328 → EReal) (c s : Fin 32 → EReal) (a : Fin 2) (d : Fin 512) : EReal :=
  if d.val / 64 % 2 = a.val then query x w c s d else 0

/-- A key's column, turned. -/
def key (x : Fin 1024 → EReal) (w : Fin 1024 → Fin 3328 → EReal) (c s : Fin 32 → EReal) (d : Fin 512) : EReal :=
  rotary (part x w 2304 (by omega)) c s d

/-- A row of the values: a head's 128 columns, then sixteen ones. -/
def value (x : Fin 1024 → EReal) (w : Fin 1024 → Fin 3328 → EReal) (r : Fin 576) : EReal :=
  if h : r.val % 144 < 128 then part x w 2816 (by omega) ⟨r.val / 144 * 128 + r.val % 144, by omega⟩ else 1

end Cert.InprojSpec

end
-- ==== Proof.InprojBlocks.lean ====
/-
  The input projection's operands and each point's blocks read at an entry: the rows, the weights, and the tables of
  cosines and signed sines, repeated along the columns.
-/
module

public import proofs.«01_k».proof.Proof.Gen.InprojIdeal.Value
public import proofs.«01_k».proof.Proof.InprojSpec
public import Idealize.ShloMosaic.Lib.Pipeline.ValueKit
public import Idealize.ShloMosaic.Lib.StableHlo.ReadAt

@[expose] public section

set_option maxRecDepth 16384

noncomputable section

namespace Cert.InprojIdeal.Tile

open Idealize.ShloMosaic Idealize.ShloMosaic.TcCoe Idealize.SL.Sem
open Cert.InprojIdeal Cert.InprojIdeal.Gen

variable (m : (ℓ : Loc nD τ sig) → Buf (Elt Ideal) ℓ) (c : Dev nD)

/-! ## The arguments by their coordinates -/

abbrev xA (p : Fin 32768) (k : Fin 1024) : EReal :=
  (m ((c : Thread nD τ).loc main_arg0) : FVec Ideal S2x16384x1024 .f32) (ix3 (⟨p.val / 16384, by omega⟩ : Fin 2) (⟨p.val % 16384, by omega⟩ : Fin 16384) k)
abbrev wA (k : Fin 1024) (o : Fin 3328) : EReal := (m ((c : Thread nD τ).loc main_arg1) : FVec Ideal S1024x3328 .f32) (ix2 k o)
abbrev cosA (p : Fin 32768) (k : Fin 32) : EReal :=
  (m ((c : Thread nD τ).loc main_arg2) : FVec Ideal S2x16384x32 .f32) (ix3 (⟨p.val / 16384, by omega⟩ : Fin 2) (⟨p.val % 16384, by omega⟩ : Fin 16384) k)
abbrev sinA (p : Fin 32768) (k : Fin 32) : EReal :=
  (m ((c : Thread nD τ).loc main_arg3) : FVec Ideal S2x16384x32 .f32) (ix3 (⟨p.val / 16384, by omega⟩ : Fin 2) (⟨p.val % 16384, by omega⟩ : Fin 16384) k)

/-! ## The operands -/

theorem rows_at (p : Fin 32768) (k : Fin 1024) : (V m c main_v10 : FVec Ideal S32768x1024 .f32) (ix2 p k) = xA m c p k := by
  unfold V
  simp only [hostOps0, List.flatten_cons, List.flatten_nil, List.append_nil, List.cons_append, List.nil_append]
  after_reads_at

theorem weights_at (k : Fin 1024) (o : Fin 3328) : (V m c main_v11 : FVec Ideal S1024x3328 .bf16) (ix2 k o) = wA m c k o := by
  unfold V
  simp only [hostOps0, List.flatten_cons, List.flatten_nil, List.append_nil, List.cons_append, List.nil_append]
  after_reads_at

theorem cos_at (p : Fin 32768) (e : Fin 128) : (V m c main_v4 : FVec Ideal S32768x128 .f32) (ix2 p e) = cosA m c p (⟨e.val % 32, by omega⟩ : Fin 32) := by
  unfold V
  simp only [hostOps0, List.flatten_cons, List.flatten_nil, List.append_nil, List.cons_append, List.nil_append]
  after_reads_at

theorem sin_at (p : Fin 32768) (e : Fin 128) : (V m c main_v9 : FVec Ideal S32768x128 .f32) (ix2 p e)
    = if e.val % 64 < 32 then -sinA m c p (⟨e.val % 32, by omega⟩ : Fin 32) else sinA m c p (⟨e.val % 32, by omega⟩ : Fin 32) := by
  unfold V
  simp only [hostOps0, List.flatten_cons, List.flatten_nil, List.append_nil, List.cons_append, List.nil_append]
  after_reads_at
  by_cases h : e.val % 64 < 32
  · rw [dif_pos h, if_pos h]
    have e₁ : e.val % 64 = e.val % 32 := by omega
    simp only [e₁]
    after_reads_at
  · rw [dif_neg h, if_neg h]
    have e₁ : e.val % 64 - 32 = e.val % 32 := by omega
    simp only [e₁]
    after_reads_at

/-! ## The blocks -/

theorem idx : ∀ t : Fin cfg0.N, t.val < 64 ∧ win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0, t.val]
    ∧ win0_7.index t = ![t.val, 0] ∧ win0_8.index t = ![t.val, 0, 0] :=
  (by decide +kernel : ∀ t : Fin grid0.N, _)

abbrev xB (t : Fin cfg0.N) : FVec Ideal S512x1024 .f32 := iblk m c 0 t
abbrev wB (t : Fin cfg0.N) : FVec Ideal S1024x3328 .bf16 := iblk m c 1 t
abbrev cosB (t : Fin cfg0.N) : FVec Ideal S512x128 .f32 := iblk m c 2 t
abbrev sinB (t : Fin cfg0.N) : FVec Ideal S512x128 .f32 := iblk m c 3 t

/-- The array's row that a point's row `j` is. -/
abbrev rowOf (t : Fin cfg0.N) (j : Fin 512) : Fin 32768 := ⟨t.val * 512 + j.val, by have := (idx t).1; omega⟩

theorem x_block (t : Fin cfg0.N) (j : Fin 512) (k : Fin 1024) : xB m c t (ix2 j k) = xA m c (rowOf t j) k := by
  rw [← rows_at]
  blk_ext [xB, iblk, idx t]

theorem w_block (t : Fin cfg0.N) (k : Fin 1024) (o : Fin 3328) : wB m c t (ix2 k o) = wA m c k o := by
  rw [← weights_at]
  blk_ext [wB, iblk, idx t]

theorem cos_block (t : Fin cfg0.N) (j : Fin 512) (e : Fin 128) : cosB m c t (ix2 j e) = cosA m c (rowOf t j) (⟨e.val % 32, by omega⟩ : Fin 32) := by
  rw [← cos_at]
  blk_ext [cosB, iblk, idx t]

theorem sin_block (t : Fin cfg0.N) (j : Fin 512) (e : Fin 128) : sinB m c t (ix2 j e)
    = if e.val % 64 < 32 then -sinA m c (rowOf t j) (⟨e.val % 32, by omega⟩ : Fin 32) else sinA m c (rowOf t j) (⟨e.val % 32, by omega⟩ : Fin 32) := by
  rw [← sin_at]
  blk_ext [sinB, iblk, idx t]

end Cert.InprojIdeal.Tile

end
-- ==== Proof.InprojOut.lean ====
/-
  What one grid point of the input projection leaves in each of its five buffers, as its stores' values.
-/
module

public import proofs.«01_k».proof.Proof.Gen.InprojIdeal.Frame
public import proofs.«01_k».proof.Proof.InprojSpec
public import Idealize.ShloMosaic.Lib.Pipeline.ValueKit
public import Idealize.ShloMosaic.Lib.Pipeline.Value

@[expose] public section

set_option maxRecDepth 16384

noncomputable section

namespace Cert.InprojIdeal.Tile

open Cert.InprojSpec

open Idealize.ShloMosaic Idealize.ShloMosaic.TcCoe Idealize.ShloMosaic.Tactic Idealize.SL.Sem
open Cert.InprojIdeal Cert.InprojIdeal.Gen

variable (c : Dev nD) (i : grid0.Coords) (arg1 : Memref sig .tc .vmem S512x1024 .f32) (h1 : arg1.IsWhole)
  (arg2 : Memref sig .tc .vmem S1024x3328 .bf16) (h2 : arg2.IsWhole) (arg3 : Memref sig .tc .vmem S512x128 .f32) (h3 : arg3.IsWhole)
  (arg4 : Memref sig .tc .vmem S512x128 .f32) (h4 : arg4.IsWhole) (arg5 : Memref sig .tc .vmem S512x1280 .f32) (h5 : arg5.IsWhole)
  (arg6 : Memref sig .tc .vmem S512x512 .f32) (h6 : arg6.IsWhole) (arg7 : Memref sig .tc .vmem S2x512x512 .bf16) (h7 : arg7.IsWhole)
  (arg8 : Memref sig .tc .vmem S512x512 .bf16) (h8 : arg8.IsWhole) (arg9 : Memref sig .tc .vmem S1x576x512 .bf16) (h9 : arg9.IsWhole)
  (x0 : FVec Ideal S512x1024 .f32) (x1 : FVec Ideal S1024x3328 .bf16) (x2 x3 : FVec Ideal S512x128 .f32)

theorem hz : (![0, 0] : Fin 2 → Nat) = fun _ => 0 := funext fun a => by fin_cases a <;> rfl

/-- The columns of the weights that a product takes. -/
theorem cols_at (x1 : Vec Ideal S1024x3328 .bf16) (o : Nat) (ho : o + 512 ≤ 3328) (inb) (k : Fin 1024) (d : Fin 512) :
    View.ld (Val := Elt Ideal) x1 (Rect.unit (s := S1024x3328) ![0, o] ![1024, 512] inb) (ix2 k d) = x1 (ix2 k (⟨o + d.val, by omega⟩ : Fin 3328)) :=
  View.ld_unit_apply_of _ _ _ _ _ _ fun a => match a with | ⟨0, _⟩ => by simp | ⟨1, _⟩ => by simp

/-- Whether a column lies in the first half of its map. -/
theorem half_at (j d : Fin 512) : k0_pay12 k0_pay11 32#32 (ix2 j d) = if d.val % 64 < 32 then 1#1 else 0#1 := by
  pointwise [k0_pay12, k0_pay11]
  clear j
  revert d
  decide +kernel

theorem map_at (d j : Fin 512) : k0_pay14 (ix2 d j) = if d.val % 128 < 64 then 1#1 else 0#1 := by
  pointwise [k0_pay14]
  clear j
  revert d
  decide +kernel

/-- A table of 128 columns, four times side by side. -/
theorem four_at (f : Fin 128 → EReal) (d : Fin 512) :
    (if h : d.val < 128 then f ⟨d.val, h⟩ else if h' : d.val - 128 < 128 then f ⟨d.val - 128, h'⟩
      else if h'' : d.val - 128 - 128 < 128 then f ⟨d.val - 128 - 128, h''⟩ else f ⟨d.val - 128 - 128 - 128, by omega⟩)
      = f ⟨d.val % 128, by omega⟩ := by
  split_ifs <;> exact congrArg f (Fin.ext (by simp only; omega))

/-- The turned columns: each against its partner, by the tables of cosines and signed sines. -/
theorem turned (y : Fin 512 → EReal) (f g : Fin 128 → EReal) (C S : Fin 32 → EReal) (hf : ∀ e, f e = C ⟨e.val % 32, by omega⟩)
    (hg : ∀ e, g e = if e.val % 64 < 32 then -S ⟨e.val % 32, by omega⟩ else S ⟨e.val % 32, by omega⟩) (j d : Fin 512) :
    y d * (if h : d.val < 128 then f ⟨d.val, h⟩ else if h' : d.val - 128 < 128 then f ⟨d.val - 128, h'⟩
      else if h'' : d.val - 128 - 128 < 128 then f ⟨d.val - 128 - 128, h''⟩ else f ⟨d.val - 128 - 128 - 128, by omega⟩)
    + Scalar.select (k0_pay12 k0_pay11 32#32 (ix2 j d)) (y ⟨(d.val + 512 - 480) % 512, by omega⟩) (y ⟨(d.val + 512 - 32) % 512, by omega⟩)
      * (if h : d.val < 128 then g ⟨d.val, h⟩ else if h' : d.val - 128 < 128 then g ⟨d.val - 128, h'⟩
      else if h'' : d.val - 128 - 128 < 128 then g ⟨d.val - 128 - 128, h''⟩ else g ⟨d.val - 128 - 128 - 128, by omega⟩)
      = rotary y C S d := by
  rw [four_at, four_at, half_at, hf, hg]
  unfold rotary
  have e₁ : d.val % 128 % 32 = d.val % 32 := by omega
  have e₂ : d.val % 128 % 64 = d.val % 64 := by omega
  have e₃ : (d.val + 512 - 480) % 512 = (d.val + 32) % 512 := by omega
  have e₄ : (d.val + 512 - 32) % 512 = (d.val + 480) % 512 := by omega
  simp only [e₁, e₂, e₃, e₄]
  by_cases h : d.val % 64 < 32
  · rw [if_pos h, if_pos h, if_pos h]
    show y d * _ + y _ * -S _ = _
    rw [mul_neg, sub_eq_add_neg]
  · rw [if_neg h, if_neg h, if_neg h]
    rfl

section Payloads

variable (x : Fin 1024 → EReal) (w : Fin 1024 → Fin 3328 → EReal) (C S : Fin 32 → EReal) (v : Vec Ideal S1024x512 .bf16)

theorem key_pay (j d : Fin 512) (hx : ∀ k, x0 (ix2 j k) = x k) (hv : ∀ k (o : Fin 512), v (ix2 k o) = w k (⟨2304 + o.val, by omega⟩ : Fin 3328))
    (hf : ∀ e : Fin 128, x2 (ix2 j e) = C ⟨e.val % 32, by omega⟩)
    (hg : ∀ e : Fin 128, x3 (ix2 j e) = if e.val % 64 < 32 then -S ⟨e.val % 32, by omega⟩ else S ⟨e.val % 32, by omega⟩) :
    k0_pay18 (F := Ideal) (k0_pay6 x0) (k0_pay9 x2) (k0_pay10 x3) (k0_pay12 k0_pay11 32#32) v (ix2 j d) = key x w C S d := by
  pointwise [k0_pay18, k0_pay6, k0_pay9, k0_pay10]
  simp only [hx, hv]
  exact turned (part x w 2304 (by omega)) (fun e => x2 (ix2 j e)) (fun e => x3 (ix2 j e)) C S hf hg j d

theorem query_pay (j d : Fin 512) (hx : ∀ k, x0 (ix2 j k) = x k) (hv : ∀ k (o : Fin 512), v (ix2 k o) = w k (⟨1792 + o.val, by omega⟩ : Fin 3328))
    (hf : ∀ e : Fin 128, x2 (ix2 j e) = C ⟨e.val % 32, by omega⟩)
    (hg : ∀ e : Fin 128, x3 (ix2 j e) = if e.val % 64 < 32 then -S ⟨e.val % 32, by omega⟩ else S ⟨e.val % 32, by omega⟩) :
    k0_pay13 (F := Ideal) (k0_pay6 x0) (k0_pay9 x2) (k0_pay10 x3) k0_pay11 32#32 v (ix2 d j) = query x w C S d := by
  pointwise [k0_pay13, k0_pay6, k0_pay9, k0_pay10]
  simp only [hx, hv]
  exact congrArg (· * Ideal.ofBits .f32 0x3E38AA3B#32)
    (turned (part x w 1792 (by omega)) (fun e => x2 (ix2 j e)) (fun e => x3 (ix2 j e)) C S hf hg j d)

theorem first_pay (j d : Fin 512) (hx : ∀ k, x0 (ix2 j k) = x k) (hv : ∀ k (o : Fin 512), v (ix2 k o) = w k (⟨1792 + o.val, by omega⟩ : Fin 3328))
    (hf : ∀ e : Fin 128, x2 (ix2 j e) = C ⟨e.val % 32, by omega⟩)
    (hg : ∀ e : Fin 128, x3 (ix2 j e) = if e.val % 64 < 32 then -S ⟨e.val % 32, by omega⟩ else S ⟨e.val % 32, by omega⟩) :
    k0_pay15 (F := Ideal) (k0_pay6 x0) (k0_pay9 x2) (k0_pay10 x3) k0_pay11 32#32 v (ix3 0 d j) = mapQuery x w C S 0 d := by
  pointwise [k0_pay15]
  rw [query_pay x0 x2 x3 x w C S v j d hx hv hf hg, map_at]
  unfold mapQuery
  by_cases h : d.val % 128 < 64
  · rw [if_pos h, if_pos (by show d.val / 64 % 2 = 0; omega)]
    rfl
  · rw [if_neg h, if_neg (by show ¬d.val / 64 % 2 = 0; omega)]
    rfl

theorem second_pay (j d : Fin 512) (hx : ∀ k, x0 (ix2 j k) = x k) (hv : ∀ k (o : Fin 512), v (ix2 k o) = w k (⟨1792 + o.val, by omega⟩ : Fin 3328))
    (hf : ∀ e : Fin 128, x2 (ix2 j e) = C ⟨e.val % 32, by omega⟩)
    (hg : ∀ e : Fin 128, x3 (ix2 j e) = if e.val % 64 < 32 then -S ⟨e.val % 32, by omega⟩ else S ⟨e.val % 32, by omega⟩) :
    k0_pay17 (F := Ideal) (k0_pay16 (k0_pay6 x0) (k0_pay9 x2) (k0_pay10 x3) k0_pay11 32#32 v) (ix3 0 d j) = mapQuery x w C S 1 d := by
  pointwise [k0_pay17, k0_pay16]
  rw [query_pay x0 x2 x3 x w C S v j d hx hv hf hg, map_at]
  unfold mapQuery
  by_cases h : d.val % 128 < 64
  · rw [if_pos h, if_neg (by show ¬d.val / 64 % 2 = 1; omega)]
    rfl
  · rw [if_neg h, if_pos (by show d.val / 64 % 2 = 1; omega)]
    rfl

theorem value_zero (j : Fin 512) (d : Fin 128) (r : Fin 576) (hr : r.val = 0 + d.val) (hx : ∀ k, x0 (ix2 j k) = x k)
    (hv : ∀ k (o : Fin 512), v (ix2 k o) = w k (⟨2816 + o.val, by omega⟩ : Fin 3328)) :
    k0_pay21 (F := Ideal) (k0_pay6 x0) v (ix3 0 d j) = value x w r := by
  pointwise [k0_pay21, k0_pay19, k0_pay6]
  simp only [hx, hv]
  unfold value part proj
  rw [dif_pos (by omega)]
  have e : 2816 + (r.val / 144 * 128 + r.val % 144) = 2816 + (0 + d.val) := by omega
  simp only [e, Nat.zero_add]

theorem value_one (j : Fin 512) (d : Fin 128) (r : Fin 576) (hr : r.val = 144 + d.val) (hx : ∀ k, x0 (ix2 j k) = x k)
    (hv : ∀ k (o : Fin 512), v (ix2 k o) = w k (⟨2816 + o.val, by omega⟩ : Fin 3328)) :
    k0_pay23 (F := Ideal) (k0_pay6 x0) v (ix3 0 d j) = value x w r := by
  pointwise [k0_pay23, k0_pay19, k0_pay6]
  simp only [hx, hv]
  unfold value part proj
  rw [dif_pos (by omega)]
  have e : 2816 + (r.val / 144 * 128 + r.val % 144) = 2816 + (128 + d.val) := by omega
  simp only [e]

theorem value_two (j : Fin 512) (d : Fin 128) (r : Fin 576) (hr : r.val = 288 + d.val) (hx : ∀ k, x0 (ix2 j k) = x k)
    (hv : ∀ k (o : Fin 512), v (ix2 k o) = w k (⟨2816 + o.val, by omega⟩ : Fin 3328)) :
    k0_pay2 (F := Ideal) (k0_pay19 (k0_pay6 x0) v) (ix3 0 d j) = value x w r := by
  pointwise [k0_pay2, k0_pay19, k0_pay6]
  simp only [hx, hv]
  unfold value part proj
  rw [dif_pos (by omega)]
  have e : 2816 + (r.val / 144 * 128 + r.val % 144) = 2816 + (256 + d.val) := by omega
  simp only [e]

theorem value_three (j : Fin 512) (d : Fin 128) (r : Fin 576) (hr : r.val = 432 + d.val) (hx : ∀ k, x0 (ix2 j k) = x k)
    (hv : ∀ k (o : Fin 512), v (ix2 k o) = w k (⟨2816 + o.val, by omega⟩ : Fin 3328)) :
    k0_pay4 (F := Ideal) (k0_pay19 (k0_pay6 x0) v) (ix3 0 d j) = value x w r := by
  pointwise [k0_pay4, k0_pay19, k0_pay6]
  simp only [hx, hv]
  unfold value part proj
  rw [dif_pos (by omega)]
  have e : 2816 + (r.val / 144 * 128 + r.val % 144) = 2816 + (384 + d.val) := by omega
  simp only [e]

/-- The rows of ones. -/
theorem ones_value (r : Fin 576) (h : ¬r.val % 144 < 128) : value x w r = 1 := by
  unfold value
  rw [dif_neg h]

end Payloads

/-! ## The buffers -/

section Buffers

variable (x : Fin 1024 → EReal) (w : Fin 1024 → Fin 3328 → EReal) (C S : Fin 32 → EReal)

theorem out4_at (j : Fin 512) (e : Fin 1280) (hx : ∀ k, x0 (ix2 j k) = x k) (hw : ∀ k o, x1 (ix2 k o) = w k o) :
    out0_A_4 (F := Ideal) c i arg1 h1 arg2 h2 arg3 h3 arg4 h4 arg5 h5 arg6 h6 arg7 h7 arg8 h8 arg9 h9 x0 x1 x2 x3 (ix2 j e)
      = proj x w (⟨e.val, by omega⟩ : Fin 3328) := by
  unfold out0_A_4
  rw [View.read_writes_eq_canon _ _ _ (cover0_A_4 (F := Ideal) c i arg1 h1 arg2 h2 arg3 h3 arg4 h4 arg5 h5 arg6 h6 arg7 h7 arg8 h8 arg9 h9 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S512x128) hz]
  unfold proj
  pointwise [k0_pay7, k0_pay6]
  simp only [hx, hw]

theorem out5_at (j d : Fin 512) (hx : ∀ k, x0 (ix2 j k) = x k) (hw : ∀ k o, x1 (ix2 k o) = w k o) :
    out0_A_5 (F := Ideal) c i arg1 h1 arg2 h2 arg3 h3 arg4 h4 arg5 h5 arg6 h6 arg7 h7 arg8 h8 arg9 h9 x0 x1 x2 x3 (ix2 j d)
      = part x w 1280 (by omega) d := by
  unfold out0_A_5
  rw [View.read_writes_eq_canon _ _ _ (cover0_A_5 (F := Ideal) c i arg1 h1 arg2 h2 arg3 h3 arg4 h4 arg5 h5 arg6 h6 arg7 h7 arg8 h8 arg9 h9 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S512x128) hz]
  unfold part proj
  pointwise [k0_pay8, k0_pay6]
  simp only [hx, hw]

theorem out7_at (j d : Fin 512) (hx : ∀ k, x0 (ix2 j k) = x k) (hw : ∀ k o, x1 (ix2 k o) = w k o)
    (hf : ∀ e : Fin 128, x2 (ix2 j e) = C ⟨e.val % 32, by omega⟩)
    (hg : ∀ e : Fin 128, x3 (ix2 j e) = if e.val % 64 < 32 then -S ⟨e.val % 32, by omega⟩ else S ⟨e.val % 32, by omega⟩) :
    out0_A_7 (F := Ideal) c i arg1 h1 arg2 h2 arg3 h3 arg4 h4 arg5 h5 arg6 h6 arg7 h7 arg8 h8 arg9 h9 x0 x1 x2 x3 (ix2 j d)
      = key x w C S d := by
  unfold out0_A_7
  rw [View.read_writes_eq_canon _ _ _ (cover0_A_7 (F := Ideal) c i arg1 h1 arg2 h2 arg3 h3 arg4 h4 arg5 h5 arg6 h6 arg7 h7 arg8 h8 arg9 h9 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S512x128) hz]
  exact key_pay x0 x2 x3 x w C S _ j d hx (fun k o => (cols_at x1 2304 (by omega) _ k o).trans (hw _ _)) hf hg

theorem out6_at (a : Fin 2) (d j : Fin 512) (hx : ∀ k, x0 (ix2 j k) = x k) (hw : ∀ k o, x1 (ix2 k o) = w k o)
    (hf : ∀ e : Fin 128, x2 (ix2 j e) = C ⟨e.val % 32, by omega⟩)
    (hg : ∀ e : Fin 128, x3 (ix2 j e) = if e.val % 64 < 32 then -S ⟨e.val % 32, by omega⟩ else S ⟨e.val % 32, by omega⟩) :
    out0_A_6 (F := Ideal) c i arg1 h1 arg2 h2 arg3 h3 arg4 h4 arg5 h5 arg6 h6 arg7 h7 arg8 h8 arg9 h9 x0 x1 x2 x3 (ix3 a d j)
      = mapQuery x w C S a d := by
  unfold out0_A_6
  rw [View.read_writes_eq_canon _ _ _ (cover0_A_6 (F := Ideal) c i arg1 h1 arg2 h2 arg3 h3 arg4 h4 arg5 h5 arg6 h6 arg7 h7 arg8 h8 arg9 h9 x0 x1 x2 x3)]
  refine View.canon_eq_of_allAt _ _ _ (cover0_A_6 (F := Ideal) c i arg1 h1 arg2 h2 arg3 h3 arg4 h4 arg5 h5 arg6 h6 arg7 h7 arg8 h8 arg9 h9 x0 x1 x2 x3 _) ?_
  unfold kernelRun0_A
  dsimp only
  sl_unfold_words
  simp only [View.readAt_eq_ld, h1.read_unread, h2.read_unread, h3.read_unread, h4.read_unread, View.ld_unit_zero (S := S512x1024) hz, View.ld_unit_zero (S := S512x128) hz]
  refine View.allAt_cons_unit _ _ _ _ _ ?_ (View.allAt_cons_unit _ _ _ _ _ ?_ (View.allAt_nil _ _)) <;> intro y hy
  · have e₀ : a.val = 1 + (y 0).val := hy 0
    have e₁ : d.val = 0 + (y 1).val := hy 1
    have e₂ : j.val = 0 + (y 2).val := hy 2
    obtain rfl : y = ix3 0 d j := funext fun b => match b with
      | ⟨0, _⟩ => Fin.ext (by show (y 0).val = 0; omega)
      | ⟨1, _⟩ => Fin.ext (by show (y 1).val = d.val; omega)
      | ⟨2, _⟩ => Fin.ext (by show (y 2).val = j.val; omega)
    obtain rfl : a = 1 := Fin.ext (by show a.val = 1; omega)
    exact second_pay x0 x2 x3 x w C S _ j d hx (fun k o => (cols_at x1 1792 (by omega) _ k o).trans (hw _ _)) hf hg
  · have e₀ : a.val = 0 + (y 0).val := hy 0
    have e₁ : d.val = 0 + (y 1).val := hy 1
    have e₂ : j.val = 0 + (y 2).val := hy 2
    have e₃ : (y 0).val < 1 := (y 0).isLt
    obtain rfl : y = ix3 0 d j := funext fun b => match b with
      | ⟨0, _⟩ => Fin.ext (by show (y 0).val = 0; omega)
      | ⟨1, _⟩ => Fin.ext (by show (y 1).val = d.val; omega)
      | ⟨2, _⟩ => Fin.ext (by show (y 2).val = j.val; omega)
    obtain rfl : a = 0 := Fin.ext (by show a.val = 0; omega)
    exact first_pay x0 x2 x3 x w C S _ j d hx (fun k o => (cols_at x1 1792 (by omega) _ k o).trans (hw _ _)) hf hg

theorem out8_at (r : Fin 576) (j : Fin 512) (hx : ∀ k, x0 (ix2 j k) = x k) (hw : ∀ k o, x1 (ix2 k o) = w k o) :
    out0_A_8 (F := Ideal) c i arg1 h1 arg2 h2 arg3 h3 arg4 h4 arg5 h5 arg6 h6 arg7 h7 arg8 h8 arg9 h9 x0 x1 x2 x3 (ix3 0 r j)
      = value x w r := by
  unfold out0_A_8
  rw [View.read_writes_eq_canon _ _ _ (cover0_A_8 (F := Ideal) c i arg1 h1 arg2 h2 arg3 h3 arg4 h4 arg5 h5 arg6 h6 arg7 h7 arg8 h8 arg9 h9 x0 x1 x2 x3)]
  refine View.canon_eq_of_allAt _ _ _ (cover0_A_8 (F := Ideal) c i arg1 h1 arg2 h2 arg3 h3 arg4 h4 arg5 h5 arg6 h6 arg7 h7 arg8 h8 arg9 h9 x0 x1 x2 x3 _) ?_
  unfold kernelRun0_A
  dsimp only
  sl_unfold_words
  simp only [View.readAt_eq_ld, h1.read_unread, h2.read_unread, h3.read_unread, h4.read_unread, View.ld_unit_zero (S := S512x1024) hz, View.ld_unit_zero (S := S512x128) hz]
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))) <;> intro y hy
  · have e₁ : r.val = 560 + (y 1).val := hy 1
    have e₂ : j.val = 0 + (y 2).val := hy 2
    have e₃ : (y 0).val < 1 := (y 0).isLt
    have e₄ : (y 1).val < 16 := (y 1).isLt
    obtain ⟨d, hd, rfl⟩ : ∃ d : Fin 16, r.val = 560 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    rw [ones_value x w r (by omega)]
    pointwise [k0_pay5, k0_pay20]
  · have e₁ : r.val = 432 + (y 1).val := hy 1
    have e₂ : j.val = 0 + (y 2).val := hy 2
    have e₃ : (y 0).val < 1 := (y 0).isLt
    have e₄ : (y 1).val < 128 := (y 1).isLt
    obtain ⟨d, hd, rfl⟩ : ∃ d : Fin 128, r.val = 432 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    exact value_three x0 x w _ j d r hd hx (fun k o => (cols_at x1 2816 (by omega) _ k o).trans (hw _ _))
  · have e₁ : r.val = 416 + (y 1).val := hy 1
    have e₂ : j.val = 0 + (y 2).val := hy 2
    have e₃ : (y 0).val < 1 := (y 0).isLt
    have e₄ : (y 1).val < 16 := (y 1).isLt
    obtain ⟨d, hd, rfl⟩ : ∃ d : Fin 16, r.val = 416 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    rw [ones_value x w r (by omega)]
    pointwise [k0_pay3, k0_pay20]
  · have e₁ : r.val = 288 + (y 1).val := hy 1
    have e₂ : j.val = 0 + (y 2).val := hy 2
    have e₃ : (y 0).val < 1 := (y 0).isLt
    have e₄ : (y 1).val < 128 := (y 1).isLt
    obtain ⟨d, hd, rfl⟩ : ∃ d : Fin 128, r.val = 288 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    exact value_two x0 x w _ j d r hd hx (fun k o => (cols_at x1 2816 (by omega) _ k o).trans (hw _ _))
  · have e₁ : r.val = 272 + (y 1).val := hy 1
    have e₂ : j.val = 0 + (y 2).val := hy 2
    have e₃ : (y 0).val < 1 := (y 0).isLt
    have e₄ : (y 1).val < 16 := (y 1).isLt
    obtain ⟨d, hd, rfl⟩ : ∃ d : Fin 16, r.val = 272 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    rw [ones_value x w r (by omega)]
    pointwise [k0_pay1, k0_pay20]
  · have e₁ : r.val = 144 + (y 1).val := hy 1
    have e₂ : j.val = 0 + (y 2).val := hy 2
    have e₃ : (y 0).val < 1 := (y 0).isLt
    have e₄ : (y 1).val < 128 := (y 1).isLt
    obtain ⟨d, hd, rfl⟩ : ∃ d : Fin 128, r.val = 144 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    exact value_one x0 x w _ j d r hd hx (fun k o => (cols_at x1 2816 (by omega) _ k o).trans (hw _ _))
  · have e₁ : r.val = 128 + (y 1).val := hy 1
    have e₂ : j.val = 0 + (y 2).val := hy 2
    have e₃ : (y 0).val < 1 := (y 0).isLt
    have e₄ : (y 1).val < 16 := (y 1).isLt
    obtain ⟨d, hd, rfl⟩ : ∃ d : Fin 16, r.val = 128 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    rw [ones_value x w r (by omega)]
    pointwise [k0_pay22, k0_pay20]
  · have e₁ : r.val = 0 + (y 1).val := hy 1
    have e₂ : j.val = 0 + (y 2).val := hy 2
    have e₃ : (y 0).val < 1 := (y 0).isLt
    have e₄ : (y 1).val < 128 := (y 1).isLt
    obtain ⟨d, hd, rfl⟩ : ∃ d : Fin 128, r.val = 0 + d.val ∧ y = ix3 0 d j := ⟨⟨(y 1).val, e₄⟩, e₁, funext fun b => match b with
      | ⟨0, _⟩ => Fin.ext (by show (y 0).val = 0; omega)
      | ⟨1, _⟩ => rfl
      | ⟨2, _⟩ => Fin.ext (by show (y 2).val = j.val; omega)⟩
    exact value_zero x0 x w _ j d r hd hx (fun k o => (cols_at x1 2816 (by omega) _ k o).trans (hw _ _))

end Buffers

end Cert.InprojIdeal.Tile

end
-- ==== Proof.InprojResult.lean ====
/-
  The five result arrays of the input projection: each point's entries, and the arrays that the points' blocks tile.
-/
module

public import proofs.«01_k».proof.Proof.InprojBlocks
public import proofs.«01_k».proof.Proof.InprojOut
public import proofs.«01_k».proof.Proof.Gen.InprojIdeal.Value
public import Idealize.ShloMosaic.Lib.Pipeline.ValueKit

@[expose] public section

set_option maxRecDepth 16384

noncomputable section

namespace Cert.InprojIdeal.Tile

open Idealize.ShloMosaic Idealize.ShloMosaic.TcCoe Idealize.SL.Sem
open Idealize.ShloMosaic.Pipeline (Dat Cfg Window)
open Cert.InprojIdeal Cert.InprojIdeal.Gen Cert.InprojSpec

variable (m : (ℓ : Loc nD τ sig) → Buf (Elt Ideal) ℓ) (c : Dev nD)

/-! ## The answers -/

def hgOf (p : Fin 32768) (e : Fin 1280) : EReal := proj (xA m c p) (wA m c) (⟨e.val, by omega⟩ : Fin 3328)
def rgOf (p : Fin 32768) (d : Fin 512) : EReal := part (xA m c p) (wA m c) 1280 (by omega) d
def queryOf (a : Fin 2) (d : Fin 512) (p : Fin 32768) : EReal := mapQuery (xA m c p) (wA m c) (cosA m c p) (sinA m c p) a d
def keyOf (p : Fin 32768) (d : Fin 512) : EReal := key (xA m c p) (wA m c) (cosA m c p) (sinA m c p) d
def valueOf (a : Fin 64) (r : Fin 576) (j : Fin 512) : EReal := value (xA m c (⟨a.val * 512 + j.val, by omega⟩ : Fin 32768)) (wA m c) r

/-! ## What a point leaves -/

theorem hg_point (t : Fin cfg0.N) (j : Fin 512) (e e' : Fin 1280) (p : Fin 32768) (hp : p.val = t.val * 512 + j.val) (he : e'.val = e.val) :
    (outsAt0 m c t).1 (ix2 j e) = hgOf m c p e' := by
  obtain rfl : p = rowOf t j := Fin.ext hp
  obtain rfl : e' = e := Fin.ext he
  unfold hgOf
  simp only [outsAt0]
  exact out4_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (xB m c t) (wB m c t) (cosB m c t) (sinB m c t)
    (xA m c (rowOf t j)) (wA m c) j e' (fun k => x_block m c t j k) (fun k o => w_block m c t k o)

theorem rg_point (t : Fin cfg0.N) (j d d' : Fin 512) (p : Fin 32768) (hp : p.val = t.val * 512 + j.val) (he : d'.val = d.val) :
    (outsAt0 m c t).2.1 (ix2 j d) = rgOf m c p d' := by
  obtain rfl : p = rowOf t j := Fin.ext hp
  obtain rfl : d' = d := Fin.ext he
  unfold rgOf
  simp only [outsAt0]
  exact out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (xB m c t) (wB m c t) (cosB m c t) (sinB m c t)
    (xA m c (rowOf t j)) (wA m c) j d' (fun k => x_block m c t j k) (fun k o => w_block m c t k o)

theorem query_point (t : Fin cfg0.N) (a a' : Fin 2) (d d' j : Fin 512) (p : Fin 32768) (ha : a'.val = a.val) (hd : d'.val = d.val)
    (hp : p.val = t.val * 512 + j.val) : (outsAt0 m c t).2.2.1 (ix3 a d j) = queryOf m c a' d' p := by
  obtain rfl : p = rowOf t j := Fin.ext hp
  obtain rfl : d' = d := Fin.ext hd
  obtain rfl : a' = a := Fin.ext ha
  unfold queryOf
  simp only [outsAt0]
  exact out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (xB m c t) (wB m c t) (cosB m c t) (sinB m c t)
    (xA m c (rowOf t j)) (wA m c) (cosA m c (rowOf t j)) (sinA m c (rowOf t j)) a' d' j (fun k => x_block m c t j k)
    (fun k o => w_block m c t k o) (fun e => cos_block m c t j e) (fun e => sin_block m c t j e)

theorem key_point (t : Fin cfg0.N) (j d d' : Fin 512) (p : Fin 32768) (hp : p.val = t.val * 512 + j.val) (hd : d'.val = d.val) :
    (outsAt0 m c t).2.2.2.1 (ix2 j d) = keyOf m c p d' := by
  obtain rfl : p = rowOf t j := Fin.ext hp
  obtain rfl : d' = d := Fin.ext hd
  unfold keyOf
  simp only [outsAt0]
  exact out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (xB m c t) (wB m c t) (cosB m c t) (sinB m c t)
    (xA m c (rowOf t j)) (wA m c) (cosA m c (rowOf t j)) (sinA m c (rowOf t j)) j d' (fun k => x_block m c t j k)
    (fun k o => w_block m c t k o) (fun e => cos_block m c t j e) (fun e => sin_block m c t j e)

theorem value_point (t : Fin cfg0.N) (a : Fin 64) (z : Fin 1) (r r' : Fin 576) (j j' : Fin 512) (ha : a.val = t.val * 1 + z.val) (hr : r'.val = r.val)
    (hj : j'.val = j.val) : (outsAt0 m c t).2.2.2.2 (ix3 z r j) = valueOf m c a r' j' := by
  obtain rfl : z = 0 := Fin.ext (by show z.val = 0; omega)
  obtain rfl : r' = r := Fin.ext hr
  obtain rfl : j' = j := Fin.ext hj
  have e : (⟨a.val * 512 + j'.val, by omega⟩ : Fin 32768) = rowOf t j' := Fin.ext (by show a.val * 512 + j'.val = t.val * 512 + j'.val; omega)
  unfold valueOf
  rw [e]
  simp only [outsAt0]
  exact out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (xB m c t) (wB m c t) (cosB m c t) (sinB m c t)
    (xA m c (rowOf t j')) (wA m c) r' j' (fun k => x_block m c t j' k) (fun k o => w_block m c t k o)

/-! ## The result arrays after the run -/

theorem hg_final : (dats m 0 c).arrAt 4 cfg0.N = (fun y => hgOf m c (y 0) (y 1) : FVec Ideal S32768x1280 .f32) := by
  refine (dats m 0 c).arrAt_eq_of_covers 4 _ (by decide +kernel) fun t _ y => ?_
  blk_simp
  rw [after0_4]
  refine (congrArg (outsAt0 m c t).1 (Idealize.ShloMosaic.ValueIdx.eq_ix2 y)).trans (hg_point m c t (y 0) (y 1) _ _ ?_ ?_)
  · blk_simp [idx t]
  · blk_simp [idx t]

theorem rg_final : (dats m 0 c).arrAt 5 cfg0.N = (fun y => rgOf m c (y 0) (y 1) : FVec Ideal S32768x512 .f32) := by
  refine (dats m 0 c).arrAt_eq_of_covers 5 _ (by decide +kernel) fun t _ y => ?_
  blk_simp
  rw [after0_5]
  refine (congrArg (outsAt0 m c t).2.1 (Idealize.ShloMosaic.ValueIdx.eq_ix2 y)).trans (rg_point m c t (y 0) (y 1) _ _ ?_ ?_)
  · blk_simp [idx t]
  · blk_simp [idx t]

theorem query_final : (dats m 0 c).arrAt 6 cfg0.N = (fun y => queryOf m c (y 0) (y 1) (y 2) : FVec Ideal S2x512x32768 .bf16) := by
  refine (dats m 0 c).arrAt_eq_of_covers 6 _ (by decide +kernel) fun t _ y => ?_
  blk_simp
  rw [after0_6]
  refine (congrArg (outsAt0 m c t).2.2.1 (Idealize.ShloMosaic.ValueIdx.eq_ix3 y)).trans (query_point m c t (y 0) _ (y 1) _ (y 2) _ ?_ ?_ ?_)
  · blk_simp [idx t]
  · blk_simp [idx t]
  · blk_simp [idx t]

theorem key_final : (dats m 0 c).arrAt 7 cfg0.N = (fun y => keyOf m c (y 0) (y 1) : FVec Ideal S32768x512 .bf16) := by
  refine (dats m 0 c).arrAt_eq_of_covers 7 _ (by decide +kernel) fun t _ y => ?_
  blk_simp
  rw [after0_7]
  refine (congrArg (outsAt0 m c t).2.2.2.1 (Idealize.ShloMosaic.ValueIdx.eq_ix2 y)).trans (key_point m c t (y 0) (y 1) _ _ ?_ ?_)
  · blk_simp [idx t]
  · blk_simp [idx t]

theorem value_final : (dats m 0 c).arrAt 8 cfg0.N = (fun y => valueOf m c (y 0) (y 1) (y 2) : FVec Ideal S64x576x512 .bf16) := by
  refine (dats m 0 c).arrAt_eq_of_covers 8 _ (by decide +kernel) fun t _ y => ?_
  blk_simp
  rw [after0_8]
  refine (congrArg (outsAt0 m c t).2.2.2.2 (Idealize.ShloMosaic.ValueIdx.eq_ix3 y)).trans (value_point m c t _ (y 0) (y 1) _ (y 2) _ ?_ ?_ ?_)
  · blk_simp [idx t]
  · blk_simp [idx t]
  · blk_simp [idx t]

end Cert.InprojIdeal.Tile

end
-- ==== Proof.InprojReference.lean ====
/-
  The reference of the input projection at an entry of each of its five arrays: its operations read one after another at an
  index, down to the sums of the specification.
-/
module

public import proofs.«01_k».proof.Proof.InprojSpec
public import proofs.«01_k».proof.Proof.Gen.InprojRefIdeal.Read
public import Idealize.ShloMosaic.Lib.Pipeline.ValueKit

@[expose] public section

set_option maxRecDepth 16384

noncomputable section

namespace Cert.InprojRefIdeal.Entry

open Idealize.ShloMosaic Idealize.ShloMosaic.TcCoe Idealize.SL.Sem
open Cert.InprojRefIdeal Cert.InprojRefIdeal.Read Cert.InprojSpec

variable (x0 : FVec Ideal S2x16384x1024 .f32) (x1 : FVec Ideal S1024x3328 .f32) (x2 x3 : FVec Ideal S2x16384x32 .f32)

abbrev seqOf (p : Fin 32768) : Fin 2 := ⟨p.val / 16384, by omega⟩
abbrev posOf (p : Fin 32768) : Fin 16384 := ⟨p.val % 16384, by omega⟩
abbrev row (p : Fin 32768) (k : Fin 1024) : EReal := x0 (ix3 (seqOf p) (posOf p) k)
abbrev wgt (k : Fin 1024) (o : Fin 3328) : EReal := x1 (ix2 k o)
abbrev cosOf (p : Fin 32768) (k : Fin 32) : EReal := x2 (ix3 (seqOf p) (posOf p) k)

theorem hg_at (p : Fin 32768) (e : Fin 1280) : val_main_v54 (F := Ideal) x0 x1 (ix2 p e)
    = proj (row x0 p) (wgt x1) (⟨e.val, by omega⟩ : Fin 3328) := by
  unfold proj
  pointwise [val_main_v54, val_main_v1, val_main_v0]

theorem rg_at (p : Fin 32768) (d : Fin 512) : val_main_v55 (F := Ideal) x0 x1 (ix2 p d)
    = part (row x0 p) (wgt x1) 1280 (by omega) d := by
  unfold part proj
  pointwise [val_main_v55, val_main_v2, val_main_v0]

theorem key_at (p : Fin 32768) (d : Fin 512) : val_main_v61 (F := Ideal) x0 x1 x2 x3 (ix2 p d)
    = key (row x0 p) (wgt x1) (cosOf x2 p) (cosOf x3 p) d := by
  unfold key rotary part proj
  pointwise [val_main_v61, val_main_v60, val_main_v39, val_main_v38, val_main_v37, val_main_v36, val_main_v35, val_main_v34, val_main_v33, val_main_v32, val_main_v31, val_main_v30, val_main_v29, val_main_v28, val_main_v27, val_main_v26, val_main_v25, val_main_v24, val_main_v4, val_main_v0]
  by_cases h : d.val % 64 < 32
  · refine (dif_pos h).trans (Eq.trans ?_ (if_pos h).symm)
    have e₁ : 2304 + (d.val / 128 * 128 + d.val / 64 % 2 * 64 + (32 + d.val % 64)) = 2304 + (d.val + 32) % 512 := by omega
    have e₂ : d.val % 64 = d.val % 32 := by omega
    simp only [e₁]
    simp only [e₂]
  · refine (dif_neg h).trans (Eq.trans ?_ (if_neg h).symm)
    have e₁ : 2304 + (d.val / 128 * 128 + d.val / 64 % 2 * 64 + (32 + (d.val % 64 - 32))) = 2304 + d.val := by omega
    have e₂ : 2304 + (d.val / 128 * 128 + d.val / 64 % 2 * 64 + (d.val % 64 - 32)) = 2304 + (d.val + 480) % 512 := by omega
    have e₃ : d.val % 64 - 32 = d.val % 32 := by omega
    simp only [e₁, e₂]
    simp only [e₃]

theorem value_at (a : Fin 64) (r : Fin 576) (j : Fin 512) : val_main_v63 (F := Ideal) x0 x1 (ix3 a r j)
    = value (row x0 (⟨a.val * 512 + j.val, by omega⟩ : Fin 32768)) (wgt x1) r := by
  unfold value part proj
  pointwise [val_main_v63, val_main_v62, val_main_v53, val_main_v52, val_main_cst_1, val_main_v51, val_main_v50, val_main_v5, val_main_v0]
  have e₁ : (a.val * 512 + j.val) / 16384 = a.val / 32 := by omega
  have e₂ : (a.val * 512 + j.val) % 16384 = a.val % 32 * 512 + j.val := by omega
  simp only [row, seqOf, posOf, wgt, e₁, e₂]

theorem turned_at (p : Fin 32768) (d : Fin 512) (a : Fin 2) (ha : d.val / 64 % 2 = a.val) :
    val_main_v23 (F := Ideal) x0 x1 x2 x3 (ix5 (seqOf p) (posOf p) (⟨d.val / 128, by omega⟩ : Fin 4) a (⟨d.val % 64, by omega⟩ : Fin 64))
      = query (row x0 p) (wgt x1) (cosOf x2 p) (cosOf x3 p) d := by
  unfold query rotary part proj
  pointwise [val_main_v23, val_main_v22, val_main_cst, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v0]
  by_cases h : d.val % 64 < 32
  · rw [dif_pos h, if_pos h]
    have e₁ : 1792 + (d.val / 128 * 128 + a.val * 64 + d.val % 64) = 1792 + d.val := by omega
    have e₂ : 1792 + (d.val / 128 * 128 + a.val * 64 + (32 + d.val % 64)) = 1792 + (d.val + 32) % 512 := by omega
    have e₃ : d.val % 64 = d.val % 32 := by omega
    simp only [e₁, e₂]
    simp only [e₃]
  · rw [dif_neg h, if_neg h]
    have e₁ : 1792 + (d.val / 128 * 128 + a.val * 64 + (32 + (d.val % 64 - 32))) = 1792 + d.val := by omega
    have e₂ : 1792 + (d.val / 128 * 128 + a.val * 64 + (d.val % 64 - 32)) = 1792 + (d.val + 480) % 512 := by omega
    have e₃ : d.val % 64 - 32 = d.val % 32 := by omega
    simp only [e₁, e₂]
    simp only [e₃]

theorem query_at (a : Fin 2) (d : Fin 512) (p : Fin 32768) : val_main_v59 (F := Ideal) x0 x1 x2 x3 (ix3 a d p)
    = mapQuery (row x0 p) (wgt x1) (cosOf x2 p) (cosOf x3 p) a d := by
  unfold mapQuery
  pointwise [val_main_v59, val_main_v58, val_main_v57, val_main_v56, val_main_v49, val_main_v48, val_main_v47, val_main_v46, val_main_v45, val_main_v44, val_main_v43, val_main_v42, val_main_v41, val_main_cst_0, val_main_v40]
  by_cases h : a.val < 1
  · rw [dif_pos h]
    by_cases h' : d.val / 64 % 2 < 1
    · have e : d.val / 64 % 2 = a.val := by omega
      rw [dif_pos h']
      exact (turned_at x0 x1 x2 x3 p d _ rfl).trans (if_pos e).symm
    · have e : ¬d.val / 64 % 2 = a.val := by omega
      rw [dif_neg h']
      exact (if_neg e).symm
  · rw [dif_neg h]
    by_cases h' : d.val / 64 % 2 < 1
    · have e : ¬d.val / 64 % 2 = a.val := by omega
      rw [dif_pos h']
      exact (if_neg e).symm
    · have e : d.val / 64 % 2 = a.val := by omega
      have e' : d.val / 64 % 2 = 1 + (d.val / 64 % 2 - 1) := by omega
      rw [dif_neg h']
      exact (turned_at x0 x1 x2 x3 p d _ e').trans (if_pos e).symm

end Cert.InprojRefIdeal.Entry

end
-- ==== Proof.InprojEquation.lean ====
/-
  The input projection: its frames, and the equation. From any memories that agree on the arguments, the call and its
  reference end with the same five arrays, entry by entry, and leave their arguments.
-/
module

public import proofs.«01_k».proof.Proof.InprojResult
public import proofs.«01_k».proof.Proof.InprojReference
public import proofs.«01_k».proof.Proof.Gen.Inproj.Frame
public import proofs.«01_k».proof.Proof.Gen.InprojRefIdeal.Run
public import proofs.«01_k».proof.Defs
public import Idealize.ShloMosaic.Lib.Claim
public import Idealize.ShloMosaic.Lib.Quiescent

@[expose] public section

set_option maxRecDepth 16384

noncomputable section

namespace Cert.Proof

open Idealize.ShloMosaic Idealize.SL.Sem

theorem frame_inproj : Cert.quiescent_Inproj (hInproj := Cert.Inproj.Gen.facts) := fun m g _ => Cert.Inproj.Gen.frame m g

theorem frame_inproj_ideal : Cert.quiescent_InprojIdeal (hInprojIdeal := Cert.InprojIdeal.Gen.facts) :=
  fun m g _ => Cert.InprojIdeal.Gen.frame m g

theorem frame_inproj_ref : Cert.quiescent_InprojRefIdeal (hInprojRefIdeal := Cert.InprojRefIdeal.Gen.facts) := by
  intro m g _
  refine θ_run_mono (Cert.InprojRefIdeal.Value.run m g) fun r h => ⟨fun c => (h c).2.2.2.2.2, ?_⟩
  exact sem_eq_zero_of_no_sems rfl r.2

/-! The arrays that both programs end with, and that the reference ends with them. -/

def hgAnswer (m : (ℓ : Loc Cert.InprojIdeal.nD Cert.InprojIdeal.τ Cert.InprojIdeal.sig) → Buf (Elt Ideal) ℓ) (c : Dev Cert.InprojIdeal.nD) :
    FVec Ideal Cert.InprojIdeal.S32768x1280 .f32 := fun y => Cert.InprojIdeal.Tile.hgOf m c (y 0) (y 1)

theorem hg_reference (m : (ℓ : Loc Cert.InprojIdeal.nD Cert.InprojIdeal.τ Cert.InprojIdeal.sig) → Buf (Elt Ideal) ℓ) (c : Dev Cert.InprojIdeal.nD) :
    Cert.InprojRefIdeal.Read.val_main_v54 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) = hgAnswer m c := by
  funext y
  obtain ⟨p, e, rfl⟩ : ∃ (p : Fin 32768) (e : Fin 1280), y = ix2 p e := ⟨_, _, Idealize.ShloMosaic.ValueIdx.eq_ix2 y⟩
  exact (Cert.InprojRefIdeal.Entry.hg_at _ _ p e).trans rfl

def rgAnswer (m : (ℓ : Loc Cert.InprojIdeal.nD Cert.InprojIdeal.τ Cert.InprojIdeal.sig) → Buf (Elt Ideal) ℓ) (c : Dev Cert.InprojIdeal.nD) :
    FVec Ideal Cert.InprojIdeal.S32768x512 .f32 := fun y => Cert.InprojIdeal.Tile.rgOf m c (y 0) (y 1)

theorem rg_reference (m : (ℓ : Loc Cert.InprojIdeal.nD Cert.InprojIdeal.τ Cert.InprojIdeal.sig) → Buf (Elt Ideal) ℓ) (c : Dev Cert.InprojIdeal.nD) :
    Cert.InprojRefIdeal.Read.val_main_v55 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) = rgAnswer m c := by
  funext y
  obtain ⟨p, d, rfl⟩ : ∃ (p : Fin 32768) (d : Fin 512), y = ix2 p d := ⟨_, _, Idealize.ShloMosaic.ValueIdx.eq_ix2 y⟩
  exact (Cert.InprojRefIdeal.Entry.rg_at _ _ p d).trans rfl

def queryAnswer (m : (ℓ : Loc Cert.InprojIdeal.nD Cert.InprojIdeal.τ Cert.InprojIdeal.sig) → Buf (Elt Ideal) ℓ) (c : Dev Cert.InprojIdeal.nD) :
    FVec Ideal Cert.InprojIdeal.S2x512x32768 .bf16 := fun y => Cert.InprojIdeal.Tile.queryOf m c (y 0) (y 1) (y 2)

theorem query_reference (m : (ℓ : Loc Cert.InprojIdeal.nD Cert.InprojIdeal.τ Cert.InprojIdeal.sig) → Buf (Elt Ideal) ℓ) (c : Dev Cert.InprojIdeal.nD) :
    Cert.InprojRefIdeal.Read.val_main_v59 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) = queryAnswer m c := by
  funext y
  obtain ⟨a, d, p, rfl⟩ : ∃ (a : Fin 2) (d : Fin 512) (p : Fin 32768), y = ix3 a d p := ⟨_, _, _, Idealize.ShloMosaic.ValueIdx.eq_ix3 y⟩
  exact (Cert.InprojRefIdeal.Entry.query_at _ _ _ _ a d p).trans rfl

def keyAnswer (m : (ℓ : Loc Cert.InprojIdeal.nD Cert.InprojIdeal.τ Cert.InprojIdeal.sig) → Buf (Elt Ideal) ℓ) (c : Dev Cert.InprojIdeal.nD) :
    FVec Ideal Cert.InprojIdeal.S32768x512 .bf16 := fun y => Cert.InprojIdeal.Tile.keyOf m c (y 0) (y 1)

theorem key_reference (m : (ℓ : Loc Cert.InprojIdeal.nD Cert.InprojIdeal.τ Cert.InprojIdeal.sig) → Buf (Elt Ideal) ℓ) (c : Dev Cert.InprojIdeal.nD) :
    Cert.InprojRefIdeal.Read.val_main_v61 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) = keyAnswer m c := by
  funext y
  obtain ⟨p, d, rfl⟩ : ∃ (p : Fin 32768) (d : Fin 512), y = ix2 p d := ⟨_, _, Idealize.ShloMosaic.ValueIdx.eq_ix2 y⟩
  exact (Cert.InprojRefIdeal.Entry.key_at _ _ _ _ p d).trans rfl

def valueAnswer (m : (ℓ : Loc Cert.InprojIdeal.nD Cert.InprojIdeal.τ Cert.InprojIdeal.sig) → Buf (Elt Ideal) ℓ) (c : Dev Cert.InprojIdeal.nD) :
    FVec Ideal Cert.InprojIdeal.S64x576x512 .bf16 := fun y => Cert.InprojIdeal.Tile.valueOf m c (y 0) (y 1) (y 2)

theorem value_reference (m : (ℓ : Loc Cert.InprojIdeal.nD Cert.InprojIdeal.τ Cert.InprojIdeal.sig) → Buf (Elt Ideal) ℓ) (c : Dev Cert.InprojIdeal.nD) :
    Cert.InprojRefIdeal.Read.val_main_v63 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) = valueAnswer m c := by
  funext y
  obtain ⟨a, r, j, rfl⟩ : ∃ (a : Fin 64) (r : Fin 576) (j : Fin 512), y = ix3 a r j := ⟨_, _, _, Idealize.ShloMosaic.ValueIdx.eq_ix3 y⟩
  exact (Cert.InprojRefIdeal.Entry.value_at _ _ a r j).trans rfl

/-- The two programs, from memories that agree on the arguments, end with the same five arrays. -/
theorem algebraic_inproj : Cert.algebraic_InprojIdeal_InprojRefIdeal (hInprojIdeal := Cert.InprojIdeal.Gen.facts)
    (hInprojRefIdeal := Cert.InprojRefIdeal.Gen.facts) := by
  intro m g m' g' _ heq
  refine ⟨fun c => hgAnswer m c, fun c => rgAnswer m c, fun c => queryAnswer m c, fun c => keyAnswer m c, fun c => valueAnswer m c, ?_, ?_⟩
  · exact θ_run_mono (Cert.InprojIdeal.Value.run_blocks m g) fun r h c => ⟨(h c).1.trans (Cert.InprojIdeal.Tile.hg_final m c),
      (h c).2.1.trans (Cert.InprojIdeal.Tile.rg_final m c), (h c).2.2.1.trans (Cert.InprojIdeal.Tile.query_final m c),
      (h c).2.2.2.1.trans (Cert.InprojIdeal.Tile.key_final m c), (h c).2.2.2.2.1.trans (Cert.InprojIdeal.Tile.value_final m c), (h c).2.2.2.2.2⟩
  · refine θ_run_mono (Cert.InprojRefIdeal.Value.run m' g') fun r h c => ⟨(h c).1.trans ?_, (h c).2.1.trans ?_, (h c).2.2.1.trans ?_,
      (h c).2.2.2.1.trans ?_, (h c).2.2.2.2.1.trans ?_, (h c).2.2.2.2.2⟩
    · rw [Cert.InprojRefIdeal.Read.val_main_v54_eq]
      show Cert.InprojRefIdeal.Read.val_main_v54 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) = _
      rw [(heq c).1, (heq c).2.1]
      exact hg_reference m c
    · rw [Cert.InprojRefIdeal.Read.val_main_v55_eq]
      show Cert.InprojRefIdeal.Read.val_main_v55 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) = _
      rw [(heq c).1, (heq c).2.1]
      exact rg_reference m c
    · rw [Cert.InprojRefIdeal.Read.val_main_v59_eq]
      show Cert.InprojRefIdeal.Read.val_main_v59 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
      rw [(heq c).1, (heq c).2.1, (heq c).2.2.1, (heq c).2.2.2]
      exact query_reference m c
    · rw [Cert.InprojRefIdeal.Read.val_main_v61_eq]
      show Cert.InprojRefIdeal.Read.val_main_v61 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) = _
      rw [(heq c).1, (heq c).2.1, (heq c).2.2.1, (heq c).2.2.2]
      exact key_reference m c
    · rw [Cert.InprojRefIdeal.Read.val_main_v63_eq]
      show Cert.InprojRefIdeal.Read.val_main_v63 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) = _
      rw [(heq c).1, (heq c).2.1]
      exact value_reference m c

end Cert.Proof

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Pre_finite_mix
public import proofs.«01_k».proof.Proof.Printed
public import proofs.«01_k».proof.Proof.Frames
public import proofs.«01_k».proof.Proof.Equation
public import proofs.«01_k».proof.Proof.FfnEquation
public import proofs.«01_k».proof.Proof.MixEquation
public import proofs.«01_k».proof.Proof.InprojEquation
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Ffn.Gen.facts,
  Cert.FfnIdeal.Gen.facts, Cert.FfnRefIdeal.Gen.facts, Cert.Mix.Gen.facts, Cert.MixIdeal.Gen.facts, Cert.MixRefIdeal.Gen.facts,
  Cert.Inproj.Gen.facts, Cert.InprojIdeal.Gen.facts, Cert.InprojRefIdeal.Gen.facts,
  Cert.Pre_finite.Gen.facts, Cert.Pre_finite_mix.Gen.facts,
  frame_attn, frame_ideal, frame_ideal_pre, frame_ref, frame_ref_pre, frame_ffn, frame_ffn_ideal, frame_ffn_ref,
  frame_mix, frame_mix_ideal, frame_mix_ideal_pre, frame_mix_ref, frame_mix_ref_pre, frame_inproj, frame_inproj_ideal, frame_inproj_ref,
  trivial, algebraic, trivial, algebraic_ffn, trivial, algebraic_mix, trivial, algebraic_inproj⟩

end Cert.Proof

end
